-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_v36) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v35) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v35_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v116) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x2048x1024 : Shape := ⟨3, ![4, 2048, 1024]⟩
abbrev S32x8 : Shape := ⟨2, ![32, 8]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S4x2048x1024 .f32) (main_arg1 : FVec F S4x2048x1024 .f32) (main_arg2 : FVec F S4x2048x1024 .f32) (main_arg3 : FVec F S32x8 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  main_v13
-- ==== Kernel.lean ====
abbrev S4x2048x1024 : Shape := ⟨3, ![4, 2048, 1024]⟩
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x256x1 : Shape := ⟨3, ![256, 256, 1]⟩
abbrev S32 : Shape := ⟨1, ![32]⟩
abbrev S1x1x32 : Shape := ⟨3, ![1, 1, 32]⟩
abbrev S256x256x32 : Shape := ⟨3, ![256, 256, 32]⟩
abbrev S8x256x256 : Shape := ⟨3, ![8, 256, 256]⟩
abbrev S8x1x256x256 : Shape := ⟨4, ![8, 1, 256, 256]⟩
abbrev S8x2x256x256 : Shape := ⟨4, ![8, 2, 256, 256]⟩
abbrev S1x8 : Shape := ⟨2, ![1, 8]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S1x2048x128 : Shape := ⟨3, ![1, 2048, 128]⟩
abbrev S1x2x256x256 : Shape := ⟨4, ![1, 2, 256, 256]⟩
abbrev S2048x128 : Shape := ⟨2, ![2048, 128]⟩
abbrev S2048x256 : Shape := ⟨2, ![2048, 256]⟩
abbrev S128x128 : Shape := ⟨2, ![128, 128]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S1 : Shape := ⟨1, ![1]⟩
abbrev S1x1x256x256 : Shape := ⟨4, ![1, 1, 256, 256]⟩
abbrev S512x128 : Shape := ⟨2, ![512, 128]⟩
abbrev S256x512 : Shape := ⟨2, ![256, 512]⟩
abbrev S512x256 : Shape := ⟨2, ![512, 256]⟩
abbrev S768x128 : Shape := ⟨2, ![768, 128]⟩
abbrev S256x768 : Shape := ⟨2, ![256, 768]⟩
abbrev S768x256 : Shape := ⟨2, ![768, 256]⟩
abbrev S1024x128 : Shape := ⟨2, ![1024, 128]⟩
abbrev S256x1024 : Shape := ⟨2, ![256, 1024]⟩
abbrev S1024x256 : Shape := ⟨2, ![1024, 256]⟩
abbrev S1280x128 : Shape := ⟨2, ![1280, 128]⟩
abbrev S256x1280 : Shape := ⟨2, ![256, 1280]⟩
abbrev S8x128 : Shape := ⟨2, ![8, 128]⟩
abbrev S8x256 : Shape := ⟨2, ![8, 256]⟩
abbrev S8x1280 : Shape := ⟨2, ![8, 1280]⟩
abbrev S1280x256 : Shape := ⟨2, ![1280, 256]⟩
abbrev S1536x128 : Shape := ⟨2, ![1536, 128]⟩
abbrev S256x1536 : Shape := ⟨2, ![256, 1536]⟩
abbrev S8x1536 : Shape := ⟨2, ![8, 1536]⟩
abbrev S1536x256 : Shape := ⟨2, ![1536, 256]⟩
abbrev S1792x128 : Shape := ⟨2, ![1792, 128]⟩
abbrev S256x1792 : Shape := ⟨2, ![256, 1792]⟩
abbrev S8x1792 : Shape := ⟨2, ![8, 1792]⟩
abbrev S1792x256 : Shape := ⟨2, ![1792, 256]⟩
abbrev S256x2048 : Shape := ⟨2, ![256, 2048]⟩

abbrev nBuf : Space → Nat
  | .hbm => 131
  | .vmem => 14
  | .smem => 1
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S32x8, .f32⟩
  | 4 => ⟨S256, .i32⟩
  | 5 => ⟨S256x1, .i32⟩
  | 6 => ⟨S256, .i32⟩
  | 7 => ⟨S1x256, .i32⟩
  | 8 => ⟨S256x256, .i32⟩
  | 9 => ⟨S256x256, .i32⟩
  | 10 => ⟨S256x256, .i1⟩
  | 11 => ⟨S256x256, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i32⟩
  | 20 => ⟨S256x256, .f32⟩
  | 21 => ⟨S_, .f32⟩
  | 22 => ⟨S256x256, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S_, .f32⟩
  | 29 => ⟨S256x256, .f32⟩
  | 30 => ⟨S256x256, .f32⟩
  | 31 => ⟨S256x256, .f32⟩
  | 32 => ⟨S256x256, .i32⟩
  | 33 => ⟨S_, .i32⟩
  | 34 => ⟨S256x256, .i32⟩
  | 35 => ⟨S256x256, .i32⟩
  | 36 => ⟨S_, .i32⟩
  | 37 => ⟨S256x256, .i32⟩
  | 38 => ⟨S256x256, .i32⟩
  | 39 => ⟨S_, .i32⟩
  | 40 => ⟨S256x256, .i32⟩
  | 41 => ⟨S256x256, .i1⟩
  | 42 => ⟨S256x256, .i32⟩
  | 43 => ⟨S256x256x1, .i32⟩
  | 44 => ⟨S32, .i32⟩
  | 45 => ⟨S1x1x32, .i32⟩
  | 46 => ⟨S256x256x32, .i32⟩
  | 47 => ⟨S256x256x32, .i32⟩
  | 48 => ⟨S256x256x32, .i1⟩
  | 49 => ⟨S256x256x32, .f32⟩
  | 50 => ⟨S8x256x256, .f32⟩
  | 51 => ⟨S_, .f32⟩
  | 52 => ⟨S_, .f32⟩
  | 53 => ⟨S8x256x256, .i1⟩
  | 54 => ⟨S8x256x256, .f32⟩
  | 55 => ⟨S8x256x256, .f32⟩
  | 56 => ⟨S_, .i32⟩
  | 57 => ⟨S256x1, .i32⟩
  | 58 => ⟨S256x1, .i32⟩
  | 59 => ⟨S256x256, .i32⟩
  | 60 => ⟨S256x256, .i32⟩
  | 61 => ⟨S256x256, .i32⟩
  | 62 => ⟨S_, .i32⟩
  | 63 => ⟨S256x256, .i32⟩
  | 64 => ⟨S256x256, .i32⟩
  | 65 => ⟨S_, .i32⟩
  | 66 => ⟨S256x256, .i32⟩
  | 67 => ⟨S256x256, .i32⟩
  | 68 => ⟨S256x256, .f32⟩
  | 69 => ⟨S_, .f32⟩
  | 70 => ⟨S256x256, .f32⟩
  | 71 => ⟨S256x256, .f32⟩
  | 72 => ⟨S256x256, .f32⟩
  | 73 => ⟨S_, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S256x256, .f32⟩
  | 80 => ⟨S256x256, .i32⟩
  | 81 => ⟨S_, .i32⟩
  | 82 => ⟨S256x256, .i32⟩
  | 83 => ⟨S256x256, .i32⟩
  | 84 => ⟨S_, .i32⟩
  | 85 => ⟨S256x256, .i32⟩
  | 86 => ⟨S256x256, .i32⟩
  | 87 => ⟨S_, .i32⟩
  | 88 => ⟨S256x256, .i32⟩
  | 89 => ⟨S256x256, .i1⟩
  | 90 => ⟨S256x256, .i32⟩
  | 91 => ⟨S256x256x1, .i32⟩
  | 92 => ⟨S32, .i32⟩
  | 93 => ⟨S1x1x32, .i32⟩
  | 94 => ⟨S256x256x32, .i32⟩
  | 95 => ⟨S256x256x32, .i32⟩
  | 96 => ⟨S256x256x32, .i1⟩
  | 97 => ⟨S256x256x32, .f32⟩
  | 98 => ⟨S8x256x256, .f32⟩
  | 99 => ⟨S8x1x256x256, .f32⟩
  | 100 => ⟨S8x1x256x256, .f32⟩
  | 101 => ⟨S8x2x256x256, .f32⟩
  | 102 => ⟨S1x8, .f32⟩
  | 103 => ⟨S8, .f32⟩
  | 104 => ⟨S2048, .i32⟩
  | 105 => ⟨S1x2048, .i32⟩
  | 106 => ⟨S_, .i32⟩
  | 107 => ⟨S_, .i32⟩
  | 108 => ⟨S1x2048, .i32⟩
  | 109 => ⟨S1x2048, .i32⟩
  | 110 => ⟨S1x2048, .i32⟩
  | 111 => ⟨S_, .i32⟩
  | 112 => ⟨S1x2048, .i32⟩
  | 113 => ⟨S1x2048, .i1⟩
  | 114 => ⟨S1x2048, .i32⟩
  | 115 => ⟨S1x2048, .i32⟩
  | 116 => ⟨S_, .i32⟩
  | 117 => ⟨S1x2048, .i32⟩
  | 118 => ⟨S1x2048, .i1⟩
  | 119 => ⟨S1x2048, .i1⟩
  | 120 => ⟨S_, .i32⟩
  | 121 => ⟨S1x2048, .i32⟩
  | 122 => ⟨S1x2048, .i32⟩
  | 123 => ⟨S1x2048, .i32⟩
  | 124 => ⟨S8, .i32⟩
  | 125 => ⟨S8x1, .i32⟩
  | 126 => ⟨S8x2048, .i32⟩
  | 127 => ⟨S8x2048, .i32⟩
  | _ => ⟨S4x2048x1024, .f32⟩

abbrev hbmTy0_1 (i : Nat) : BufTy := match i % 128 with
  | 0 => ⟨S8x2048, .i1⟩
  | 1 => ⟨S8x2048, .f32⟩
  | 2 => ⟨S4x2048x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2x256x256, .f32⟩
  | .local _ .vmem, ⟨7, _⟩ => ⟨S1x2x256x256, .f32⟩
  | .local _ .vmem, ⟨8, _⟩ => ⟨S8x2048, .f32⟩
  | .local _ .vmem, ⟨9, _⟩ => ⟨S1x2048x128, .bf16⟩
  | .local _ .vmem, ⟨10, _⟩ => ⟨S1x2048x128, .bf16⟩
  | .local _ .vmem, ⟨11, _⟩ => ⟨S2048x128, .bf16⟩
  | .local _ .vmem, ⟨12, _⟩ => ⟨S2048x256, .bf16⟩
  | .local _ .vmem, ⟨13, _⟩ => ⟨S128x128, .f32⟩
  | .local _ .smem, ⟨0, _⟩ => ⟨S8, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_16 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let arg1 : BitVec 32 := BitVec.ofNat 32 (i 1).val
  let v123 : Index := Scalar.indexCast arg1
  ![v123.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x2048x1024 : Shape := ⟨3, ![4, 2048, 1024]⟩
abbrev S32x8 : Shape := ⟨2, ![32, 8]⟩
abbrev S4x2048x8x128 : Shape := ⟨4, ![4, 2048, 8, 128]⟩
abbrev S4x8x256x8x128 : Shape := ⟨5, ![4, 8, 256, 8, 128]⟩
abbrev S_ : Shape := ⟨0, ![]⟩
abbrev S4x8x8x128 : Shape := ⟨4, ![4, 8, 8, 128]⟩
abbrev S8x32 : Shape := ⟨2, ![8, 32]⟩
abbrev S4 : Shape := ⟨1, ![4]⟩
abbrev S4x1x1x1 : Shape := ⟨4, ![4, 1, 1, 1]⟩
abbrev S8 : Shape := ⟨1, ![8]⟩
abbrev S1x8x1x1 : Shape := ⟨4, ![1, 8, 1, 1]⟩
abbrev S256 : Shape := ⟨1, ![256]⟩
abbrev S2048 : Shape := ⟨1, ![2048]⟩
abbrev S4x8x2048x8 : Shape := ⟨4, ![4, 8, 2048, 8]⟩
abbrev S1x8 : Shape := ⟨2, ![1, 8]⟩
abbrev S2048x1 : Shape := ⟨2, ![2048, 1]⟩
abbrev S2048x8 : Shape := ⟨2, ![2048, 8]⟩
abbrev S4x8x2048x3 : Shape := ⟨4, ![4, 8, 2048, 3]⟩
abbrev S1x1x2048x1 : Shape := ⟨4, ![1, 1, 2048, 1]⟩
abbrev S4x8x2048x1 : Shape := ⟨4, ![4, 8, 2048, 1]⟩
abbrev S4x8x2048x4 : Shape := ⟨4, ![4, 8, 2048, 4]⟩
abbrev S4x8x2048x4x1 : Shape := ⟨5, ![4, 8, 2048, 4, 1]⟩
abbrev S4x8x2048x4x3 : Shape := ⟨5, ![4, 8, 2048, 4, 3]⟩
abbrev S4x8x2048x4x256x128 : Shape := ⟨6, ![4, 8, 2048, 4, 256, 128]⟩
abbrev S1x1x1x1x256 : Shape := ⟨5, ![1, 1, 1, 1, 256]⟩
abbrev S4x8x2048x4x256 : Shape := ⟨5, ![4, 8, 2048, 4, 256]⟩
abbrev S1x1x2048x1x1 : Shape := ⟨5, ![1, 1, 2048, 1, 1]⟩
abbrev S1x8x1x1x1 : Shape := ⟨5, ![1, 8, 1, 1, 1]⟩
abbrev S4x8x2048x4x256x1 : Shape := ⟨6, ![4, 8, 2048, 4, 256, 1]⟩
abbrev S4x8x2048x4x256x2 : Shape := ⟨6, ![4, 8, 2048, 4, 256, 2]⟩
abbrev S4x8x2048x1024 : Shape := ⟨4, ![4, 8, 2048, 1024]⟩
abbrev S4x8x2048 : Shape := ⟨3, ![4, 8, 2048]⟩

abbrev nBuf : Space → Nat
  | .hbm => 210
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S32x8, .f32⟩
  | 4 => ⟨S4x2048x8x128, .f32⟩
  | 5 => ⟨S4x8x256x8x128, .f32⟩
  | 6 => ⟨S4x8x256x8x128, .f32⟩
  | 7 => ⟨S_, .f32⟩
  | 8 => ⟨S4x8x8x128, .f32⟩
  | 9 => ⟨S_, .f32⟩
  | 10 => ⟨S4x8x8x128, .f32⟩
  | 11 => ⟨S4x8x8x128, .f32⟩
  | 12 => ⟨S8x32, .f32⟩
  | 13 => ⟨S4, .i32⟩
  | 14 => ⟨S4x1x1x1, .i32⟩
  | 15 => ⟨S8, .i32⟩
  | 16 => ⟨S1x8x1x1, .i32⟩
  | 17 => ⟨S256, .i32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S4x8x2048x8, .f32⟩
  | 38 => ⟨S8, .i32⟩
  | 39 => ⟨S1x8, .i32⟩
  | 40 => ⟨S2048x1, .i32⟩
  | 41 => ⟨S2048x8, .i32⟩
  | 42 => ⟨S2048x8, .i32⟩
  | 43 => ⟨S2048x8, .i1⟩
  | 44 => ⟨S_, .f32⟩
  | 45 => ⟨S_, .f32⟩
  | 46 => ⟨S4x8x2048x8, .i1⟩
  | 47 => ⟨S4x8x2048x8, .f32⟩
  | 48 => ⟨S4x8x2048x8, .f32⟩
  | 49 => ⟨S4x8x2048x3, .f32⟩
  | 50 => ⟨S4x8x2048x3, .i32⟩
  | 51 => ⟨S1x1x2048x1, .i32⟩
  | 52 => ⟨S4x8x2048x1, .i32⟩
  | 53 => ⟨S4x8x2048x4, .i32⟩
  | 54 => ⟨S4x8x2048x3, .f32⟩
  | 55 => ⟨S_, .f32⟩
  | 56 => ⟨S4x8x2048x3, .f32⟩
  | 57 => ⟨S4x8x2048x3, .i1⟩
  | 58 => ⟨S_, .i1⟩
  | 59 => ⟨S4x8x2048x1, .i1⟩
  | 60 => ⟨S4x8x2048x4, .i1⟩
  | 61 => ⟨S_, .i32⟩
  | 62 => ⟨S4x1x1x1, .i32⟩
  | 63 => ⟨S4x1x1x1, .i1⟩
  | 64 => ⟨S_, .i32⟩
  | 65 => ⟨S4x1x1x1, .i32⟩
  | 66 => ⟨S4x1x1x1, .i32⟩
  | 67 => ⟨S4x1x1x1, .i32⟩
  | 68 => ⟨S_, .i32⟩
  | 69 => ⟨S4x8x2048x4, .i32⟩
  | 70 => ⟨S4x8x2048x4, .i1⟩
  | 71 => ⟨S_, .i32⟩
  | 72 => ⟨S4x8x2048x4, .i32⟩
  | 73 => ⟨S4x8x2048x4, .i32⟩
  | 74 => ⟨S4x8x2048x4, .i32⟩
  | 75 => ⟨S_, .i32⟩
  | 76 => ⟨S1x8x1x1, .i32⟩
  | 77 => ⟨S1x8x1x1, .i1⟩
  | 78 => ⟨S_, .i32⟩
  | 79 => ⟨S1x8x1x1, .i32⟩
  | 80 => ⟨S1x8x1x1, .i32⟩
  | 81 => ⟨S1x8x1x1, .i32⟩
  | 82 => ⟨S4x8x2048x4, .i32⟩
  | 83 => ⟨S4x8x2048x4, .i32⟩
  | 84 => ⟨S4x8x2048x4x1, .i32⟩
  | 85 => ⟨S4x8x2048x4x1, .i32⟩
  | 86 => ⟨S4x8x2048x4x1, .i32⟩
  | 87 => ⟨S4x8x2048x4x3, .i32⟩
  | 88 => ⟨S4x8x2048x4x256x128, .f32⟩
  | 89 => ⟨S_, .i32⟩
  | 90 => ⟨S4x1x1x1, .i32⟩
  | 91 => ⟨S4x1x1x1, .i1⟩
  | 92 => ⟨S_, .i32⟩
  | 93 => ⟨S4x1x1x1, .i32⟩
  | 94 => ⟨S4x1x1x1, .i32⟩
  | 95 => ⟨S4x1x1x1, .i32⟩
  | 96 => ⟨S_, .i32⟩
  | 97 => ⟨S4x8x2048x4, .i32⟩
  | 98 => ⟨S4x8x2048x4, .i1⟩
  | 99 => ⟨S_, .i32⟩
  | 100 => ⟨S4x8x2048x4, .i32⟩
  | 101 => ⟨S4x8x2048x4, .i32⟩
  | 102 => ⟨S4x8x2048x4, .i32⟩
  | 103 => ⟨S_, .i32⟩
  | 104 => ⟨S1x8x1x1, .i32⟩
  | 105 => ⟨S1x8x1x1, .i1⟩
  | 106 => ⟨S_, .i32⟩
  | 107 => ⟨S1x8x1x1, .i32⟩
  | 108 => ⟨S1x8x1x1, .i32⟩
  | 109 => ⟨S1x8x1x1, .i32⟩
  | 110 => ⟨S4x8x2048x4, .i32⟩
  | 111 => ⟨S4x8x2048x4, .i32⟩
  | 112 => ⟨S4x8x2048x4x1, .i32⟩
  | 113 => ⟨S4x8x2048x4x1, .i32⟩
  | 114 => ⟨S4x8x2048x4x1, .i32⟩
  | 115 => ⟨S4x8x2048x4x3, .i32⟩
  | 116 => ⟨S4x8x2048x4x256x128, .f32⟩
  | 117 => ⟨S4x8x2048x4x1, .i32⟩
  | 118 => ⟨S_, .i32⟩
  | 119 => ⟨S4x8x2048x4x1, .i32⟩
  | 120 => ⟨S4x8x2048x4x1, .i32⟩
  | 121 => ⟨S1x1x1x1x256, .i32⟩
  | 122 => ⟨S4x8x2048x4x256, .i32⟩
  | 123 => ⟨S4x8x2048x4x256, .i32⟩
  | 124 => ⟨S4x8x2048x4x256, .i32⟩
  | 125 => ⟨S1x1x2048x1x1, .i32⟩
  | 126 => ⟨S4x8x2048x4x256, .i32⟩
  | 127 => ⟨S4x8x2048x4x256, .i32⟩
  | _ => ⟨S4x2048x1024, .f32⟩

abbrev hbmTy0_1 (i : Nat) : BufTy := match i % 128 with
  | 0 => ⟨S4x8x2048x4x1, .i1⟩
  | 1 => ⟨S_, .i32⟩
  | 2 => ⟨S4x8x2048x4x256, .i32⟩
  | 3 => ⟨S4x8x2048x4x256, .i1⟩
  | 4 => ⟨S4x8x2048x4x256, .i1⟩
  | 5 => ⟨S4x8x2048x4x256, .i1⟩
  | 6 => ⟨S1x8x1x1x1, .i32⟩
  | 7 => ⟨S_, .i32⟩
  | 8 => ⟨S4x8x2048x4x256, .i32⟩
  | 9 => ⟨S4x8x2048x4x256, .i32⟩
  | 10 => ⟨S_, .i32⟩
  | 11 => ⟨S4x8x2048x4x256, .i32⟩
  | 12 => ⟨S4x8x2048x4x256, .i32⟩
  | 13 => ⟨S4x8x2048x4x256, .f32⟩
  | 14 => ⟨S_, .f32⟩
  | 15 => ⟨S4x8x2048x4x256, .f32⟩
  | 16 => ⟨S4x8x2048x4x256, .f32⟩
  | 17 => ⟨S4x8x2048x4x256, .f32⟩
  | 18 => ⟨S_, .f32⟩
  | 19 => ⟨S4x8x2048x4x256, .f32⟩
  | 20 => ⟨S4x8x2048x4x256, .f32⟩
  | 21 => ⟨S_, .f32⟩
  | 22 => ⟨S4x8x2048x4x256, .f32⟩
  | 23 => ⟨S4x8x2048x4x256, .f32⟩
  | 24 => ⟨S4x8x2048x4x256, .i32⟩
  | 25 => ⟨S_, .i32⟩
  | 26 => ⟨S4x8x2048x4x256, .i32⟩
  | 27 => ⟨S4x8x2048x4x256, .i32⟩
  | 28 => ⟨S_, .i32⟩
  | 29 => ⟨S4x8x2048x4x256, .i32⟩
  | 30 => ⟨S4x8x2048x4x256, .i32⟩
  | 31 => ⟨S_, .i32⟩
  | 32 => ⟨S4x8x2048x4x256, .i32⟩
  | 33 => ⟨S4x8x2048x4x256, .i1⟩
  | 34 => ⟨S4x8x2048x4x256, .i32⟩
  | 35 => ⟨S_, .i32⟩
  | 36 => ⟨S1x8x1x1x1, .i32⟩
  | 37 => ⟨S1x8x1x1x1, .i1⟩
  | 38 => ⟨S_, .i32⟩
  | 39 => ⟨S1x8x1x1x1, .i32⟩
  | 40 => ⟨S1x8x1x1x1, .i32⟩
  | 41 => ⟨S1x8x1x1x1, .i32⟩
  | 42 => ⟨S_, .i32⟩
  | 43 => ⟨S4x8x2048x4x256, .i32⟩
  | 44 => ⟨S4x8x2048x4x256, .i1⟩
  | 45 => ⟨S_, .i32⟩
  | 46 => ⟨S4x8x2048x4x256, .i32⟩
  | 47 => ⟨S4x8x2048x4x256, .i32⟩
  | 48 => ⟨S4x8x2048x4x256, .i32⟩
  | 49 => ⟨S4x8x2048x4x256, .i32⟩
  | 50 => ⟨S4x8x2048x4x256x1, .i32⟩
  | 51 => ⟨S4x8x2048x4x256x1, .i32⟩
  | 52 => ⟨S4x8x2048x4x256x2, .i32⟩
  | 53 => ⟨S4x8x2048x4x256, .f32⟩
  | 54 => ⟨S4x8x2048x4x256, .f32⟩
  | 55 => ⟨S_, .f32⟩
  | 56 => ⟨S4x8x2048x4x256, .f32⟩
  | 57 => ⟨S4x8x2048x4x256, .f32⟩
  | 58 => ⟨S4x8x2048x4x256, .f32⟩
  | 59 => ⟨S_, .f32⟩
  | 60 => ⟨S_, .f32⟩
  | 61 => ⟨S4x8x2048x4x256, .f32⟩
  | 62 => ⟨S4x8x2048x4x256, .f32⟩
  | 63 => ⟨S4x8x2048x1024, .f32⟩
  | 64 => ⟨S_, .f32⟩
  | 65 => ⟨S4x8x2048, .f32⟩
  | 66 => ⟨S_, .f32⟩
  | 67 => ⟨S4x8x2048, .f32⟩
  | 68 => ⟨S4x8x2048, .f32⟩
  | 69 => ⟨S4x8x2048x1, .f32⟩
  | 70 => ⟨S4x8x2048x1024, .f32⟩
  | 71 => ⟨S4x8x2048x1024, .f32⟩
  | 72 => ⟨S4x8x2048x1024, .f32⟩
  | 73 => ⟨S_, .f32⟩
  | 74 => ⟨S4x8x2048, .f32⟩
  | 75 => ⟨S4x8x2048x1, .f32⟩
  | 76 => ⟨S4x8x2048x1024, .f32⟩
  | 77 => ⟨S4x8x2048x1024, .f32⟩
  | 78 => ⟨S4x8x2048x4x256, .f32⟩
  | 79 => ⟨S4x2048x8x128, .f32⟩
  | 80 => ⟨S4x2048x1024, .f32⟩
  | 81 => ⟨S4x2048x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v21 : Ref sig .tc := ⟨.hbm, 48, rfl⟩
abbrev main_values : Ref sig .tc := ⟨.hbm, 49, rfl⟩
abbrev main_indices : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_6 : Ref sig .tc := ⟨.hbm, 68, rfl⟩
abbrev main_v35 : Ref sig .tc := ⟨.hbm, 69, rfl⟩
abbrev main_v36 : Ref sig .tc := ⟨.hbm, 70, rfl⟩
abbrev main_c_7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_8 : Ref sig .tc := ⟨.hbm, 75, rfl⟩
abbrev main_v40 : Ref sig .tc := ⟨.hbm, 76, rfl⟩
abbrev main_v41 : Ref sig .tc := ⟨.hbm, 77, rfl⟩
abbrev main_c_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_10 : Ref sig .tc := ⟨.hbm, 89, rfl⟩
abbrev main_v52 : Ref sig .tc := ⟨.hbm, 90, rfl⟩
abbrev main_v53 : Ref sig .tc := ⟨.hbm, 91, rfl⟩
abbrev main_c_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_12 : Ref sig .tc := ⟨.hbm, 96, rfl⟩
abbrev main_v57 : Ref sig .tc := ⟨.hbm, 97, rfl⟩
abbrev main_v58 : Ref sig .tc := ⟨.hbm, 98, rfl⟩
abbrev main_c_13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_14 : Ref sig .tc := ⟨.hbm, 103, rfl⟩
abbrev main_v62 : Ref sig .tc := ⟨.hbm, 104, rfl⟩
abbrev main_v63 : Ref sig .tc := ⟨.hbm, 105, rfl⟩
abbrev main_c_15 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_16 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_18 : Ref sig .tc := ⟨.hbm, 135, rfl⟩
abbrev main_v90 : Ref sig .tc := ⟨.hbm, 136, rfl⟩
abbrev main_v91 : Ref sig .tc := ⟨.hbm, 137, rfl⟩
abbrev main_c_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_cst_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_23 : Ref sig .tc := ⟨.hbm, 153, rfl⟩
abbrev main_v103 : Ref sig .tc := ⟨.hbm, 154, rfl⟩
abbrev main_v104 : Ref sig .tc := ⟨.hbm, 155, rfl⟩
abbrev main_c_24 : Ref sig .tc := ⟨.hbm, 156, rfl⟩
abbrev main_v105 : Ref sig .tc := ⟨.hbm, 157, rfl⟩
abbrev main_v106 : Ref sig .tc := ⟨.hbm, 158, rfl⟩
abbrev main_c_25 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_26 : Ref sig .tc := ⟨.hbm, 163, rfl⟩
abbrev main_v110 : Ref sig .tc := ⟨.hbm, 164, rfl⟩
abbrev main_v111 : Ref sig .tc := ⟨.hbm, 165, rfl⟩
abbrev main_c_27 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_28 : Ref sig .tc := ⟨.hbm, 170, rfl⟩
abbrev main_v115 : Ref sig .tc := ⟨.hbm, 171, rfl⟩
abbrev main_v116 : Ref sig .tc := ⟨.hbm, 172, rfl⟩
abbrev main_c_29 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_30 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_31 : Ref sig .tc := ⟨.hbm, 187, rfl⟩
abbrev main_call3_v0 : Ref sig .tc := ⟨.hbm, 188, rfl⟩
abbrev main_call3_v1 : Ref sig .tc := ⟨.hbm, 189, rfl⟩
abbrev main_v129 : Ref sig .tc := ⟨.hbm, 190, rfl⟩
abbrev main_v130 : Ref sig .tc := ⟨.hbm, 191, rfl⟩
abbrev main_cst_32 : Ref sig .tc := ⟨.hbm, 192, rfl⟩
abbrev main_v131 : Ref sig .tc := ⟨.hbm, 193, rfl⟩
abbrev main_cst_33 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_34 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048 : Shape := ⟨1, ![2048]⟩
abbrev S1x2048x4096 : Shape := ⟨3, ![1, 2048, 4096]⟩
abbrev S8192x2048 : Shape := ⟨2, ![8192, 2048]⟩
abbrev S1x2048 : Shape := ⟨2, ![1, 2048]⟩
abbrev S8192x1024 : Shape := ⟨2, ![8192, 1024]⟩
abbrev S8192x512 : Shape := ⟨2, ![8192, 512]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x512, .f32⟩
  | .hbm, ⟨11, _⟩ => ⟨S8192x512, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_5 : BitVec 32 := 0#32
  let v8 : BitVec 1 := Scalar.cmpi .sge arg1 c0_i32_5
  let c2_i32 : BitVec 32 := 2#32
  let v9 : BitVec 1 := Scalar.cmpi .slt arg1 c2_i32
  let v10 : BitVec 1 := Scalar.andi v8 v9
  let v11 : BitVec 32 := Scalar.extui v10
  let c0_i32_6 : BitVec 32 := 0#32
  let v12 : BitVec 1 := Scalar.cmpi .ne v11 c0_i32_6
  v12

def k0_cond3 (i : grid0.Coords) : BitVec 1 :=
  let arg1 : BitVec 32 := BitVec.ofNat 32 (i 1).val
  let c2_i32_7 : BitVec 32 := 2#32
  let v13 : BitVec 1 := Scalar.cmpi .sge arg1 c2_i32_7
  let c4_i32 : BitVec 32 := 4#32
  let v14 : BitVec 1 := Scalar.cmpi .slt arg1 c4_i32
  let v15 : BitVec 1 := Scalar.andi v13 v14
  let v16 : BitVec 32 := Scalar.extui v15
  let c0_i32_8 : BitVec 32 := 0#32
  let v17 : BitVec 1 := Scalar.cmpi .ne v16 c0_i32_8
  v17

def k0_cond4 (i : grid0.Coords) : BitVec 1 :=
  let arg1 : BitVec 32 := BitVec.ofNat 32 (i 1).val
  let c4_i32_9 : BitVec 32 := 4#32
  let v18 : BitVec 1 := Scalar.cmpi .sge arg1 c4_i32_9
  let c6_i32 : BitVec 32 := 6#32
  let v19 : BitVec 1 := Scalar.cmpi .slt arg1 c6_i32
  let v20 : BitVec 1 := Scalar.andi v18 v19
  let v21 : BitVec 32 := Scalar.extui v20
  let c0_i32_10 : BitVec 32 := 0#32
  let v22 : BitVec 1 := Scalar.cmpi .ne v21 c0_i32_10
  v22

def k0_cond5 (i : grid0.Coords) : BitVec 1 :=
  let arg1 : BitVec 32 := BitVec.ofNat 32 (i 1).val
  let c6_i32_11 : BitVec 32 := 6#32
  let v23 : BitVec 1 := Scalar.cmpi .sge arg1 c6_i32_11
  let c7_i32 : BitVec 32 := 7#32
  let v24 : BitVec 1 := Scalar.cmpi .slt arg1 c7_i32
  let v25 : BitVec 1 := Scalar.andi v23 v24
  let v26 : BitVec 32 := Scalar.extui v25
  let c0_i32_12 : BitVec 32 := 0#32
  let v27 : BitVec 1 := Scalar.cmpi .ne v26 c0_i32_12
  v27

def k0_cond6 (i : grid0.Coords) : BitVec 1 :=
  let arg1 : BitVec 32 := BitVec.ofNat 32 (i 1).val
  let c7_i32_13 : BitVec 32 := 7#32
  let v28 : BitVec 1 := Scalar.cmpi .sge arg1 c7_i32_13
  let c8_i32 : BitVec 32 := 8#32
  let v29 : BitVec 1 := Scalar.cmpi .slt arg1 c8_i32
  let v30 : BitVec 1 := Scalar.andi v28 v29
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x2048x2048 : Shape := ⟨3, ![4, 2048, 2048]⟩
abbrev S2048 : Shape := ⟨1, ![2048]⟩
abbrev S1x2048x4096 : Shape := ⟨3, ![1, 2048, 4096]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x4096 : Shape := ⟨2, ![2048, 4096]⟩
abbrev S4x2048x4096 : Shape := ⟨3, ![4, 2048, 4096]⟩
abbrev S4x2048x1024 : Shape := ⟨3, ![4, 2048, 1024]⟩
abbrev S4x2048x512 : Shape := ⟨3, ![4, 2048, 512]⟩
abbrev S8192x1024 : Shape := ⟨2, ![8192, 1024]⟩
abbrev S8192x512 : Shape := ⟨2, ![8192, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S2048x4096, .f32⟩
  | .hbm, ⟨34, _⟩ => ⟨S4x2048x4096, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x512, .f32⟩
  | .hbm, ⟨39, _⟩ => ⟨S4x2048x512, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x512, .f32⟩
  | .hbm, ⟨44, _⟩ => ⟨S8192x512, .f32⟩
  | .hbm, ⟨45, _⟩ => ⟨S8192x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel3.lean ====
abbrev S4x256x2048 : Shape := ⟨3, ![4, 256, 2048]⟩
abbrev S1x2048x1024 : Shape := ⟨3, ![1, 2048, 1024]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S1x2048x1024, .f32⟩
  | .hbm, ⟨2, _⟩ => ⟨S1024x2048, .f32⟩
  | .hbm, ⟨3, _⟩ => ⟨S1024x512, .f32⟩
  | .hbm, ⟨4, _⟩ => ⟨S1024x512, .f32⟩
  | .local _ .vmem, ⟨0, _⟩ => ⟨S1024x2048, .f32⟩
  | .local _ .vmem, ⟨1, _⟩ => ⟨S1x2048x512, .f32⟩
  | .local _ .vmem, ⟨2, _⟩ => ⟨S1x2048x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c0_i32_5 : BitVec 32 := 0#32
  let v8 : BitVec 1 := Scalar.cmpi .sge arg1 c0_i32_5
  let c1_i32 : BitVec 32 := 1#32
  let v9 : BitVec 1 := Scalar.cmpi .slt arg1 c1_i32
  let v10 : BitVec 1 := Scalar.andi v8 v9
  let v11 : BitVec 32 := Scalar.extui v10
  let c0_i32_6 : BitVec 32 := 0#32
  let v12 : BitVec 1 := Scalar.cmpi .ne v11 c0_i32_6
  v12

def k0_cond3 (i : grid0.Coords) : BitVec 1 :=
  let arg1 : BitVec 32 := BitVec.ofNat 32 (i 1).val
  let c1_i32_7 : BitVec 32 := 1#32
  let v13 : BitVec 1 := Scalar.cmpi .sge arg1 c1_i32_7
  let c2_i32 : BitVec 32 := 2#32
  let v14 : BitVec 1 := Scalar.cmpi .slt arg1 c2_i32
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x256x2048 : Shape := ⟨3, ![4, 256, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048x1024, .f32⟩
  | .hbm, ⟨2, _⟩ => ⟨S2048x1024, .f32⟩
  | .hbm, ⟨3, _⟩ => ⟨S4x256x1024, .f32⟩
  | .hbm, ⟨4, _⟩ => ⟨S4x256x512, .f32⟩
  | .hbm, ⟨5, _⟩ => ⟨S1024x512, .f32⟩
  | .hbm, ⟨6, _⟩ => ⟨S4x256x512, .f32⟩
  | .hbm, ⟨7, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S128x1x2048 : Shape := ⟨3, ![128, 1, 2048]⟩
abbrev S2048 : Shape := ⟨1, ![2048]⟩
abbrev S1x2048x4096 : Shape := ⟨3, ![1, 2048, 4096]⟩
abbrev S128x2048 : Shape := ⟨2, ![128, 2048]⟩
abbrev S1x2048 : Shape := ⟨2, ![1, 2048]⟩
abbrev S128x1024 : Shape := ⟨2, ![128, 1024]⟩
abbrev S128x512 : Shape := ⟨2, ![128, 512]⟩
abbrev S1x2048x512 : Shape := ⟨3, ![1, 2048, 512]⟩
abbrev S128 : Shape := ⟨1, ![128]⟩
abbrev S128x1 : Shape := ⟨2, ![128, 1]⟩
abbrev S2048x512 : Shape := ⟨2, ![2048, 512]⟩

abbrev nBuf : Space → Nat
  | .hbm => 12
  | .vmem => 16
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S128x2048, .f32⟩
  | .hbm, ⟨5, _⟩ => ⟨S1x2048, .f32⟩
  | .hbm, ⟨6, _⟩ => ⟨S1x2048, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x512, .f32⟩
  | .hbm, ⟨11, _⟩ => ⟨S128x512, .f32⟩
  | .local _ .vmem, ⟨0, _⟩ => ⟨S128x2048, .f32⟩
  | .local _ .vmem, ⟨1, _⟩ => ⟨S1x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c0_i32_5 : BitVec 32 := 0#32
  let v8 : BitVec 1 := Scalar.cmpi .sge arg1 c0_i32_5
  let c2_i32 : BitVec 32 := 2#32
  let v9 : BitVec 1 := Scalar.cmpi .slt arg1 c2_i32
  let v10 : BitVec 1 := Scalar.andi v8 v9
  let v11 : BitVec 32 := Scalar.extui v10
  let c0_i32_6 : BitVec 32 := 0#32
  let v12 : BitVec 1 := Scalar.cmpi .ne v11 c0_i32_6
  v12

def k0_cond3 (i : grid0.Coords) : BitVec 1 :=
  let arg1 : BitVec 32 := BitVec.ofNat 32 (i 1).val
  let c2_i32_7 : BitVec 32 := 2#32
  let v13 : BitVec 1 := Scalar.cmpi .sge arg1 c2_i32_7
  let c4_i32 : BitVec 32 := 4#32
  let v14 : BitVec 1 := Scalar.cmpi .slt arg1 c4_i32
  let v15 : BitVec 1 := Scalar.andi v13 v14
  let v16 : BitVec 32 := Scalar.extui v15
  let c0_i32_8 : BitVec 32 := 0#32
  let v17 : BitVec 1 := Scalar.cmpi .ne v16 c0_i32_8
  v17

def k0_cond4 (i : grid0.Coords) : BitVec 1 :=
  let arg1 : BitVec 32 := BitVec.ofNat 32 (i 1).val
  let c4_i32_9 : BitVec 32 := 4#32
  let v18 : BitVec 1 := Scalar.cmpi .sge arg1 c4_i32_9
  let c6_i32 : BitVec 32 := 6#32
  let v19 : BitVec 1 := Scalar.cmpi .slt arg1 c6_i32
  let v20 : BitVec 1 := Scalar.andi v18 v19
  let v21 : BitVec 32 := Scalar.extui v20
  let c0_i32_10 : BitVec 32 := 0#32
  let v22 : BitVec 1 := Scalar.cmpi .ne v21 c0_i32_10
  v22

def k0_cond5 (i : grid0.Coords) : BitVec 1 :=
  let arg1 : BitVec 32 := BitVec.ofNat 32 (i 1).val
  let c6_i32_11 : BitVec 32 := 6#32
  let v23 : BitVec 1 := Scalar.cmpi .sge arg1 c6_i32_11
  let c7_i32 : BitVec 32 := 7#32
  let v24 : BitVec 1 := Scalar.cmpi .slt arg1 c7_i32
  let v25 : BitVec 1 := Scalar.andi v23 v24
  let v26 : BitVec 32 := Scalar.extui v25
  let c0_i32_12 : BitVec 32 := 0#32
  let v27 : BitVec 1 := Scalar.cmpi .ne v26 c0_i32_12
  v27

def k0_cond6 (i : grid0.Coords) : BitVec 1 :=
  let arg1 : BitVec 32 := BitVec.ofNat 32 (i 1).val
  let c7_i32_13 : BitVec 32 := 7#32
  let v28 : BitVec 1 := Scalar.cmpi .sge arg1 c7_i32_13
  let c8_i32 : BitVec 32 := 8#32
  let v29 : BitVec 1 := Scalar.cmpi .slt arg1 c8_i32
  let v30 : BitVec 1 := Scalar.andi v28 v29
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S128x1x2048 : Shape := ⟨3, ![128, 1, 2048]⟩
abbrev S2048 : Shape := ⟨1, ![2048]⟩
abbrev S1x2048x4096 : Shape := ⟨3, ![1, 2048, 4096]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S2048x4096 : Shape := ⟨2, ![2048, 4096]⟩
abbrev S128x1x4096 : Shape := ⟨3, ![128, 1, 4096]⟩
abbrev S128x1x1024 : Shape := ⟨3, ![128, 1, 1024]⟩
abbrev S128x1x512 : Shape := ⟨3, ![128, 1, 512]⟩
abbrev S128x1024 : Shape := ⟨2, ![128, 1024]⟩
abbrev S128x512 : Shape := ⟨2, ![128, 512]⟩

abbrev nBuf : Space → Nat
  | .hbm => 45
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S_, .f32⟩
  | .hbm, ⟨14, _⟩ => ⟨S128x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x2048, .f32⟩
  | .hbm, ⟨20, _⟩ => ⟨S128x1x2048, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S128x1x1, .f32⟩
  | .hbm, ⟨25, _⟩ => ⟨S128x1x2048, .f32⟩
  | .hbm, ⟨26, _⟩ => ⟨S128x1x2048, .f32⟩
  | .hbm, ⟨27, _⟩ => ⟨S1x1x2048, .f32⟩
  | .hbm, ⟨28, _⟩ => ⟨S128x1x2048, .f32⟩
  | .hbm, ⟨29, _⟩ => ⟨S128x1x2048, .f32⟩
  | .hbm, ⟨30, _⟩ => ⟨S1x1x2048, .f32⟩
  | .hbm, ⟨31, _⟩ => ⟨S128x1x2048, .f32⟩
  | .hbm, ⟨32, _⟩ => ⟨S128x1x2048, .f32⟩
  | .hbm, ⟨33, _⟩ => ⟨S2048x4096, .f32⟩
  | .hbm, ⟨34, _⟩ => ⟨S128x1x4096, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S128x1x512, .f32⟩
  | .hbm, ⟨39, _⟩ => ⟨S128x1x512, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x512, .f32⟩
  | .hbm, ⟨44, _⟩ => ⟨S128x512, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x512 : Shape := ⟨3, ![4, 2048, 512]⟩
abbrev S4x2048x2048 : Shape := ⟨3, ![4, 2048, 2048]⟩
abbrev S128x1x1024 : Shape := ⟨3, ![128, 1, 1024]⟩
abbrev S128x512 : Shape := ⟨2, ![128, 512]⟩
abbrev S128x1x512 : Shape := ⟨3, ![128, 1, 512]⟩
abbrev S128x1x2048 : Shape := ⟨3, ![128, 1, 2048]⟩
abbrev S2048 : Shape := ⟨1, ![2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S2048x4 : Shape := ⟨2, ![2048, 4]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S8192x1024 : Shape := ⟨2, ![8192, 1024]⟩
abbrev S8192x512 : Shape := ⟨2, ![8192, 512]⟩
abbrev S8192x2048 : Shape := ⟨2, ![8192, 2048]⟩
abbrev S128x1024 : Shape := ⟨2, ![128, 1024]⟩
abbrev S128x2048 : Shape := ⟨2, ![128, 2048]⟩
abbrev S8320x2048 : Shape := ⟨2, ![8320, 2048]⟩
abbrev S8320x128 : Shape := ⟨2, ![8320, 128]⟩
abbrev S128x128 : Shape := ⟨2, ![128, 128]⟩
abbrev S1024x2048 : Shape := ⟨2, ![1024, 2048]⟩
abbrev S512x2048 : Shape := ⟨2, ![512, 2048]⟩
abbrev S128x1 : Shape := ⟨2, ![128, 1]⟩
abbrev S128x256 : Shape := ⟨2, ![128, 256]⟩

abbrev nBuf : Space → Nat
  | .hbm => 66
  | .vmem => 23
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x512, .bf16⟩
  | .hbm, ⟨2, _⟩ => ⟨S4x2048x512, .bf16⟩
  | .hbm, ⟨3, _⟩ => ⟨S4x2048x2048, .f32⟩
  | .hbm, ⟨4, _⟩ => ⟨S128x1x1024, .f32⟩
  | .hbm, ⟨5, _⟩ => ⟨S128x512, .bf16⟩
  | .hbm, ⟨6, _⟩ => ⟨S128x1x512, .f32⟩
  | .hbm, ⟨7, _⟩ => ⟨S128x1x2048, .f32⟩
  | .hbm, ⟨8, _⟩ => ⟨S2048, .f32⟩
  | .hbm, ⟨9, _⟩ => ⟨S2048, .f32⟩
  | .hbm, ⟨10, _⟩ => ⟨S1x2048x2048, .f32⟩
  | .hbm, ⟨11, _⟩ => ⟨S1x2048, .f32⟩
  | .hbm, ⟨12, _⟩ => ⟨S1x2048, .f32⟩
  | .hbm, ⟨13, _⟩ => ⟨S1x2048x4, .f32⟩
  | .hbm, ⟨14, _⟩ => ⟨S1x4, .f32⟩
  | .hbm, ⟨15, _⟩ => ⟨S1x2048x32, .f32⟩
  | .hbm, ⟨16, _⟩ => ⟨S1x32, .f32⟩
  | .hbm, ⟨17, _⟩ => ⟨S2048x2048, .f32⟩
  | .hbm, ⟨18, _⟩ => ⟨S2048x2048, .bf16⟩
  | .hbm, ⟨19, _⟩ => ⟨S2048x4, .f32⟩
  | .hbm, ⟨20, _⟩ => ⟨S2048x32, .f32⟩
  | .hbm, ⟨21, _⟩ => ⟨S2048x36, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x128, .bf16⟩
  | .hbm, ⟨26, _⟩ => ⟨S2048x128, .f32⟩
  | .hbm, ⟨27, _⟩ => ⟨S2048x128, .f32⟩
  | .hbm, ⟨28, _⟩ => ⟨S2048x128, .bf16⟩
  | .hbm, ⟨29, _⟩ => ⟨S2048x256, .bf16⟩
  | .hbm, ⟨30, _⟩ => ⟨S4, .f32⟩
  | .hbm, ⟨31, _⟩ => ⟨S32, .f32⟩
  | .hbm, ⟨32, _⟩ => ⟨S36, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S8192x1024, .bf16⟩
  | .hbm, ⟨38, _⟩ => ⟨S8192x512, .bf16⟩
  | .hbm, ⟨39, _⟩ => ⟨S8192x512, .bf16⟩
  | .hbm, ⟨40, _⟩ => ⟨S8192x2048, .f32⟩
  | .hbm, ⟨41, _⟩ => ⟨S128x1024, .f32⟩
  | .hbm, ⟨42, _⟩ => ⟨S128x1024, .bf16⟩
  | .hbm, ⟨43, _⟩ => ⟨S128x512, .f32⟩
  | .hbm, ⟨44, _⟩ => ⟨S128x512, .bf16⟩
  | .hbm, ⟨45, _⟩ => ⟨S128x2048, .f32⟩
  | .hbm, ⟨46, _⟩ => ⟨S2048, .f32⟩
  | .hbm, ⟨47, _⟩ => ⟨S2048, .f32⟩
  | .hbm, ⟨48, _⟩ => ⟨S_, .i32⟩
  | .hbm, ⟨49, _⟩ => ⟨S_, .bf16⟩
  | .hbm, ⟨50, _⟩ => ⟨S128x1024, .bf16⟩
  | .hbm, ⟨51, _⟩ => ⟨S_, .i32⟩
  | .hbm, ⟨52, _⟩ => ⟨S_, .bf16⟩
  | .hbm, ⟨53, _⟩ => ⟨S128x512, .bf16⟩
  | .hbm, ⟨54, _⟩ => ⟨S_, .i32⟩
  | .hbm, ⟨55, _⟩ => ⟨S_, .bf16⟩
  | .hbm, ⟨56, _⟩ => ⟨S128x512, .bf16⟩
  | .hbm, ⟨57, _⟩ => ⟨S_, .i32⟩
  | .hbm, ⟨58, _⟩ => ⟨S_, .f32⟩
  | .hbm, ⟨59, _⟩ => ⟨S128x2048, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S8320x2048, .f32⟩
  | .hbm, ⟨65, _⟩ => ⟨S8320x128, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x2048, .f32⟩
  | .local _ .vmem, ⟨7, _⟩ => ⟨S128x2048, .f32⟩
  | .local _ .vmem, ⟨8, _⟩ => ⟨S128x1024, .bf16⟩
  | .local _ .vmem, ⟨9, _⟩ => ⟨S128x512, .bf16⟩
  | .local _ .vmem, ⟨10, _⟩ => ⟨S128x512, .bf16⟩
  | .local _ .vmem, ⟨11, _⟩ => ⟨S128x2048, .f32⟩
  | .local _ .vmem, ⟨12, _⟩ => ⟨S1x2048, .f32⟩
  | .local _ .vmem, ⟨13, _⟩ => ⟨S1x2048, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S2048x256, .bf16⟩
  | .local _ .vmem, ⟨18, _⟩ => ⟨S1x128, .f32⟩
  | .local _ .vmem, ⟨19, _⟩ => ⟨S128x2048, .f32⟩
  | .local _ .vmem, ⟨20, _⟩ => ⟨S128x2048, .f32⟩
  | .local _ .vmem, ⟨21, _⟩ => ⟨S128x128, .f32⟩
  | .local _ .vmem, ⟨22, _⟩ => ⟨S128x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_1 : Ref sig .tc := ⟨.hbm, 48, rfl⟩
abbrev main_call2_v0 : Ref sig .tc := ⟨.hbm, 49, rfl⟩
abbrev main_v27 : Ref sig .tc := ⟨.hbm, 50, rfl⟩
abbrev main_c_2 : Ref sig .tc := ⟨.hbm, 51, rfl⟩
abbrev main_call3_v0 : Ref sig .tc := ⟨.hbm, 52, rfl⟩
abbrev main_v28 : Ref sig .tc := ⟨.hbm, 53, rfl⟩
abbrev main_c_3 : Ref sig .tc := ⟨.hbm, 54, rfl⟩
abbrev main_call4_v0 : Ref sig .tc := ⟨.hbm, 55, rfl⟩
abbrev main_v29 : Ref sig .tc := ⟨.hbm, 56, rfl⟩
abbrev main_c_4 : Ref sig .tc := ⟨.hbm, 57, rfl⟩
abbrev main_call5_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35_0 : Ref sig .tc := ⟨.hbm, 64, rfl⟩
abbrev main_v35_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S4x2048x1024 : Shape := ⟨3, ![4, 2048, 1024]⟩
abbrev S4x2048x512 : Shape := ⟨3, ![4, 2048, 512]⟩
abbrev S4x2048x2048 : Shape := ⟨3, ![4, 2048, 2048]⟩
abbrev S128x1x1024 : Shape := ⟨3, ![128, 1, 1024]⟩
abbrev S128x512 : Shape := ⟨2, ![128, 512]⟩
abbrev S128x1x512 : Shape := ⟨3, ![128, 1, 512]⟩
abbrev S128x1x2048 : Shape := ⟨3, ![128, 1, 2048]⟩
abbrev S2048 : Shape := ⟨1, ![2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x2048 : Shape := ⟨2, ![2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S128x1 : Shape := ⟨2, ![128, 1]⟩
abbrev S128x1x1 : Shape := ⟨3, ![128, 1, 1]⟩
abbrev S128x2048 : Shape := ⟨2, ![128, 2048]⟩
abbrev S8320x2048 : Shape := ⟨2, ![8320, 2048]⟩

abbrev nBuf : Space → Nat
  | .hbm => 156
  | .vmem => 0
  | .smem => 0
  | _ => 0

abbrev hbmTy0_0 (i : Nat) : BufTy := match i % 128 with
  | 0 => ⟨S4x2048x1024, .bf16⟩
  | 1 => ⟨S4x2048x512, .bf16⟩
  | 2 => ⟨S4x2048x512, .bf16⟩
  | 3 => ⟨S4x2048x2048, .f32⟩
  | 4 => ⟨S128x1x1024, .f32⟩
  | 5 => ⟨S128x512, .bf16⟩
  | 6 => ⟨S128x1x512, .f32⟩
  | 7 => ⟨S128x1x2048, .f32⟩
  | 8 => ⟨S2048, .f32⟩
  | 9 => ⟨S2048, .f32⟩
  | 10 => ⟨S1x2048x2048, .f32⟩
  | 11 => ⟨S1x2048, .f32⟩
  | 12 => ⟨S1x2048, .f32⟩
  | 13 => ⟨S1x2048x4, .f32⟩
  | 14 => ⟨S1x4, .f32⟩
  | 15 => ⟨S1x2048x32, .f32⟩
  | 16 => ⟨S1x32, .f32⟩
  | 17 => ⟨S2048x2048, .f32⟩
  | 18 => ⟨S2048, .f32⟩
  | 19 => ⟨S2048, .f32⟩
  | 20 => ⟨S4x2048x1024, .f32⟩
  | 21 => ⟨S4x2048x512, .f32⟩
  | 22 => ⟨S4x2048x512, .f32⟩
  | 23 => ⟨S4x2048x2048, .f32⟩
  | 24 => ⟨S4x2048x2048, .f32⟩
  | 25 => ⟨S_, .f32⟩
  | 26 => ⟨S4x2048, .f32⟩
  | 27 => ⟨S4x2048x1, .f32⟩
  | 28 => ⟨S_, .f32⟩
  | 29 => ⟨S4x2048x1, .f32⟩
  | 30 => ⟨S4x2048x1, .f32⟩
  | 31 => ⟨S4x2048x2048, .f32⟩
  | 32 => ⟨S4x2048x2048, .f32⟩
  | 33 => ⟨S4x2048x2048, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S4x2048x2048, .f32⟩
  | 41 => ⟨S4x2048x2048, .f32⟩
  | 42 => ⟨S_, .f32⟩
  | 43 => ⟨S4x2048x1, .f32⟩
  | 44 => ⟨S4x2048x1, .f32⟩
  | 45 => ⟨S4x2048x1, .f32⟩
  | 46 => ⟨S4x2048x2048, .f32⟩
  | 47 => ⟨S4x2048x2048, .f32⟩
  | 48 => ⟨S1x1x2048, .f32⟩
  | 49 => ⟨S4x2048x2048, .f32⟩
  | 50 => ⟨S4x2048x2048, .f32⟩
  | 51 => ⟨S1x1x2048, .f32⟩
  | 52 => ⟨S4x2048x2048, .f32⟩
  | 53 => ⟨S4x2048x2048, .f32⟩
  | 54 => ⟨S_, .f32⟩
  | 55 => ⟨S4x2048x2048, .f32⟩
  | 56 => ⟨S4x2048x2048, .f32⟩
  | 57 => ⟨S4x2048x2048, .f32⟩
  | 58 => ⟨S_, .f32⟩
  | 59 => ⟨S4x2048, .f32⟩
  | 60 => ⟨S4x2048x1, .f32⟩
  | 61 => ⟨S_, .f32⟩
  | 62 => ⟨S4x2048x1, .f32⟩
  | 63 => ⟨S4x2048x1, .f32⟩
  | 64 => ⟨S4x2048x2048, .f32⟩
  | 65 => ⟨S4x2048x2048, .f32⟩
  | 66 => ⟨S4x2048x2048, .f32⟩
  | 67 => ⟨S_, .f32⟩
  | 68 => ⟨S4x2048, .f32⟩
  | 69 => ⟨S4x2048x1, .f32⟩
  | 70 => ⟨S_, .f32⟩
  | 71 => ⟨S4x2048x1, .f32⟩
  | 72 => ⟨S4x2048x1, .f32⟩
  | 73 => ⟨S4x2048x2048, .f32⟩
  | 74 => ⟨S4x2048x2048, .f32⟩
  | 75 => ⟨S_, .f32⟩
  | 76 => ⟨S4x2048x1, .f32⟩
  | 77 => ⟨S4x2048x1, .f32⟩
  | 78 => ⟨S4x2048x1, .f32⟩
  | 79 => ⟨S4x2048x2048, .f32⟩
  | 80 => ⟨S4x2048x2048, .f32⟩
  | 81 => ⟨S1x1x2048, .f32⟩
  | 82 => ⟨S4x2048x2048, .f32⟩
  | 83 => ⟨S4x2048x2048, .f32⟩
  | 84 => ⟨S1x1x2048, .f32⟩
  | 85 => ⟨S4x2048x2048, .f32⟩
  | 86 => ⟨S4x2048x2048, .f32⟩
  | 87 => ⟨S8192x2048, .f32⟩
  | 88 => ⟨S128x512, .f32⟩
  | 89 => ⟨S128x1x512, .f32⟩
  | 90 => ⟨S128x1x2048, .f32⟩
  | 91 => ⟨S128x1x2048, .f32⟩
  | 92 => ⟨S_, .f32⟩
  | 93 => ⟨S128x1, .f32⟩
  | 94 => ⟨S128x1x1, .f32⟩
  | 95 => ⟨S_, .f32⟩
  | 96 => ⟨S128x1x1, .f32⟩
  | 97 => ⟨S128x1x1, .f32⟩
  | 98 => ⟨S128x1x2048, .f32⟩
  | 99 => ⟨S128x1x2048, .f32⟩
  | 100 => ⟨S128x1x2048, .f32⟩
  | 101 => ⟨S_, .f32⟩
  | 102 => ⟨S128x1, .f32⟩
  | 103 => ⟨S128x1x1, .f32⟩
  | 104 => ⟨S_, .f32⟩
  | 105 => ⟨S128x1x1, .f32⟩
  | 106 => ⟨S128x1x1, .f32⟩
  | 107 => ⟨S128x1x2048, .f32⟩
  | 108 => ⟨S128x1x2048, .f32⟩
  | 109 => ⟨S_, .f32⟩
  | 110 => ⟨S128x1x1, .f32⟩
  | 111 => ⟨S128x1x1, .f32⟩
  | 112 => ⟨S128x1x1, .f32⟩
  | 113 => ⟨S128x1x2048, .f32⟩
  | 114 => ⟨S128x1x2048, .f32⟩
  | 115 => ⟨S1x1x2048, .f32⟩
  | 116 => ⟨S128x1x2048, .f32⟩
  | 117 => ⟨S128x1x2048, .f32⟩
  | 118 => ⟨S1x1x2048, .f32⟩
  | 119 => ⟨S128x1x2048, .f32⟩
  | 120 => ⟨S128x1x2048, .f32⟩
  | 121 => ⟨S_, .f32⟩
  | 122 => ⟨S128x1x2048, .f32⟩
  | 123 => ⟨S128x1x2048, .f32⟩
  | 124 => ⟨S128x1x2048, .f32⟩
  | 125 => ⟨S_, .f32⟩
  | 126 => ⟨S128x1, .f32⟩
  | 127 => ⟨S128x1x1, .f32⟩
  | _ => ⟨S4x2048x1024, .bf16⟩

abbrev hbmTy0_1 (i : Nat) : BufTy := match i % 128 with
  | 0 => ⟨S_, .f32⟩
  | 1 => ⟨S128x1x1, .f32⟩
  | 2 => ⟨S128x1x1, .f32⟩
  | 3 => ⟨S128x1x2048, .f32⟩
  | 4 => ⟨S128x1x2048, .f32⟩
  | 5 => ⟨S128x1x2048, .f32⟩
  | 6 => ⟨S_, .f32⟩
  | 7 => ⟨S128x1, .f32⟩
  | 8 => ⟨S128x1x1, .f32⟩
  | 9 => ⟨S_, .f32⟩
  | 10 => ⟨S128x1x1, .f32⟩
  | 11 => ⟨S128x1x1, .f32⟩
  | 12 => ⟨S128x1x2048, .f32⟩
  | 13 => ⟨S128x1x2048, .f32⟩
  | 14 => ⟨S_, .f32⟩
  | 15 => ⟨S128x1x1, .f32⟩
  | 16 => ⟨S128x1x1, .f32⟩
  | 17 => ⟨S128x1x1, .f32⟩
  | 18 => ⟨S128x1x2048, .f32⟩
  | 19 => ⟨S128x1x2048, .f32⟩
  | 20 => ⟨S1x1x2048, .f32⟩
  | 21 => ⟨S128x1x2048, .f32⟩
  | 22 => ⟨S128x1x2048, .f32⟩
  | 23 => ⟨S1x1x2048, .f32⟩
  | 24 => ⟨S128x1x2048, .f32⟩
  | 25 => ⟨S128x1x2048, .f32⟩
  | 26 => ⟨S128x2048, .f32⟩
  | 27 => ⟨S8320x2048, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩

abbrev nD : Nat := 1
abbrev τ : Topo := Topo.v7x

variable {F : FTy → Type} [FloatOps F]
-- ==== Kernel6.lean ====
abbrev S4x2048x512 : Shape := ⟨3, ![4, 2048, 512]⟩
abbrev S4x256x512 : Shape := ⟨3, ![4, 256, 512]⟩
abbrev S1x2048x128 : Shape := ⟨3, ![1, 2048, 128]⟩
abbrev S1x256x128 : Shape := ⟨3, ![1, 256, 128]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x512, .bf16⟩
  | .hbm, ⟨1, _⟩ => ⟨S4x256x512, .f32⟩
  | .hbm, ⟨2, _⟩ => ⟨S4x256x512, .f32⟩
  | .hbm, ⟨3, _⟩ => ⟨S4x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x2048x128, .bf16⟩
  | .local _ .vmem, ⟨7, _⟩ => ⟨S1x2048x128, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference6Ideal.lean ====
abbrev S4x2048x512 : Shape := ⟨3, ![4, 2048, 512]⟩
abbrev S4x256x512 : Shape := ⟨3, ![4, 256, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x256x512, .f32⟩
  | .hbm, ⟨2, _⟩ => ⟨S4x256x512, .f32⟩
  | .hbm, ⟨3, _⟩ => ⟨S4x2048x512, .f32⟩
  | .hbm, ⟨4, _⟩ => ⟨S4x2048x4x128, .f32⟩
  | .hbm, ⟨5, _⟩ => ⟨S4x256x4x128, .f32⟩
  | .hbm, ⟨6, _⟩ => ⟨S4x4x2048x256, .f32⟩
  | .hbm, ⟨7, _⟩ => ⟨S_, .f32⟩
  | .hbm, ⟨8, _⟩ => ⟨S4x4x2048x256, .f32⟩
  | .hbm, ⟨9, _⟩ => ⟨S4x4x2048x256, .f32⟩
  | .hbm, ⟨10, _⟩ => ⟨S_, .f32⟩
  | .hbm, ⟨11, _⟩ => ⟨S4x4x2048, .f32⟩
  | .hbm, ⟨12, _⟩ => ⟨S_, .f32⟩
  | .hbm, ⟨13, _⟩ => ⟨S4x4x2048, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x256x4x128, .f32⟩
  | .hbm, ⟨25, _⟩ => ⟨S4x4x128x2048, .f32⟩
  | .hbm, ⟨26, _⟩ => ⟨S4x2048x4x128, .f32⟩
  | .hbm, ⟨27, _⟩ => ⟨S4x2048x512, .f32⟩
  | .hbm, ⟨28, _⟩ => ⟨S4x2048x512, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Scratch.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack
public import Idealize.ShloMosaic.Lib.Tactic.WordOmega

/-! What the body's loads of its three scratch buffers read: the keys, the values beside a column of ones, and the
block means of the keys. -/

@[expose] public section
set_option maxRecDepth 16384
noncomputable section
namespace Moba
open Cert.KernelIdeal Cert.KernelIdeal.Gen Idealize.ShloMosaic

local notation "E" => Elt Idealize.ShloMosaic.Ideal

/-- An array cut at a rectangle's places is its load there. -/
theorem ld_emb {S : Shape} {e : EltTy} (X : Vec Ideal S e) (r : Rect S) (x : r.shape.Idx) : X (r.emb x) = View.ld X r x := rfl

/-- The key scratch: the key block's rows. -/
def keys (x2 : Vec Ideal S1x2048x128 .f32) : Vec Ideal S2048x128 .bf16 := fun i => x2 (ix3 0 (i 0) (i 1))

/-- The value scratch: the value block's rows, then a column of ones, then zeros. -/
def vals (x3 : Vec Ideal S1x2048x128 .f32) : Vec Ideal S2048x256 .bf16 := fun i =>
  if h : (i 1).val < 128 then x3 (ix3 0 (i 0) ⟨(i 1).val, h⟩) else if (i 1).val = 128 then 1 else 0

/-- The mean of key block `n`. -/
def kmean (x2 : Vec Ideal S1x2048x128 .f32) (n : Fin 8) (d : Fin 128) : EReal :=
  Ideal.div (∑ c : Fin 256, x2 (ix3 0 ⟨n.val * 256 + c.val, by omega⟩ d)) (Ideal.ofBits .f32 0x43800000#32)

/-- The pieces stored in the key scratch. -/
abbrev keyPieces (x2 : Vec Ideal S1x2048x128 .f32) : List (View.Piece E S2048x128 .bf16) :=
  [⟨Rect.unit ![1792, 0] ![256, 128] inb_S2048x128_S256x128_1792_0, k0_pay26 (View.ld x2 (Rect.unit ![0, 1792, 0] ![1, 256, 128] inb_S1x2048x128_S1x256x128_0_1792_0))⟩,
   ⟨Rect.unit ![1536, 0] ![256, 128] inb_S2048x128_S256x128_1536_0, k0_pay23 (View.ld x2 (Rect.unit ![0, 1536, 0] ![1, 256, 128] inb_S1x2048x128_S1x256x128_0_1536_0))⟩,
   ⟨Rect.unit ![1280, 0] ![256, 128] inb_S2048x128_S256x128_1280_0, k0_pay20 (View.ld x2 (Rect.unit ![0, 1280, 0] ![1, 256, 128] inb_S1x2048x128_S1x256x128_0_1280_0))⟩,
   ⟨Rect.unit ![1024, 0] ![256, 128] inb_S2048x128_S256x128_1024_0, k0_pay16 (View.ld x2 (Rect.unit ![0, 1024, 0] ![1, 256, 128] inb_S1x2048x128_S1x256x128_0_1024_0))⟩,
   ⟨Rect.unit ![768, 0] ![256, 128] inb_S2048x128_S256x128_768_0, k0_pay13 (View.ld x2 (Rect.unit ![0, 768, 0] ![1, 256, 128] inb_S1x2048x128_S1x256x128_0_768_0))⟩,
   ⟨Rect.unit ![512, 0] ![256, 128] inb_S2048x128_S256x128_512_0, k0_pay10 (View.ld x2 (Rect.unit ![0, 512, 0] ![1, 256, 128] inb_S1x2048x128_S1x256x128_0_512_0))⟩,
   ⟨Rect.unit ![256, 0] ![256, 128] inb_S2048x128_S256x128_256_0, k0_pay7 (View.ld x2 (Rect.unit ![0, 256, 0] ![1, 256, 128] inb_S1x2048x128_S1x256x128_0_256_0))⟩,
   ⟨Rect.unit ![0, 0] ![256, 128] inb_S2048x128_S256x128_0_0, k0_pay4 (View.ld x2 (Rect.unit ![0, 0, 0] ![1, 256, 128] inb_S1x2048x128_S1x256x128_0_0_0))⟩]

theorem keyPieces_canon (x2 : Vec Ideal S1x2048x128 .f32) : View.canon (keyPieces x2) = keys x2 := by
  funext y
  refine View.canon_apply_of_pieces (Val := E) (S := S2048x128) (e := .bf16) (keys x2) _ ?_ y ?_
  rotate_left
  · exact View.cover_of_tiled_head _ _ _ rfl _
  unfold keyPieces
  simp only [List.forall_mem_cons, List.not_mem_nil, false_imp_iff, implies_true, and_true]
  refine ⟨?_, ?_, ?_, ?_, ?_, ?_, ?_, ?_⟩ <;> intro (x : S256x128.Idx) <;> idx_vars x <;> rw [ld_emb (keys x2)] <;>
    pointwise [keys, k0_pay26, k0_pay25, k0_pay23, k0_pay22, k0_pay20, k0_pay19, k0_pay16, k0_pay15, k0_pay13, k0_pay12, k0_pay10, k0_pay9, k0_pay7, k0_pay6, k0_pay4, k0_pay3]

theorem keys_read (x2 : Vec Ideal S1x2048x128 .f32) (r : Rect S2048x128) :
    (View.whole cc0_scratch0).readCov (keyPieces x2) r.toLoadRect = View.ld (keys x2) r := by
  rw [View.readCov_eq_canon', keyPieces_canon]; rfl

/-- The pieces stored in the value scratch. -/
abbrev valPieces (x3 : Vec Ideal S1x2048x128 .f32) : List (View.Piece E S2048x256 .bf16) :=
  [⟨Rect.unit ![0, 128] ![2048, 128] inb_S2048x256_S2048x128_0_128, k0_pay29 (F := Ideal)⟩,
   ⟨Rect.unit ![0, 0] ![2048, 128] inb_S2048x256_S2048x128_0_0, k0_pay28 x3⟩]

theorem valPieces_canon (x3 : Vec Ideal S1x2048x128 .f32) : View.canon (valPieces x3) = vals x3 := by
  funext y
  refine View.canon_apply_of_pieces (Val := E) (S := S2048x256) (e := .bf16) (vals x3) _ ?_ y ?_
  rotate_left
  · exact View.cover_of_tiled_head _ _ _ rfl _
  unfold valPieces
  simp only [List.forall_mem_cons, List.not_mem_nil, false_imp_iff, implies_true, and_true]
  refine ⟨?_, ?_⟩ <;> intro (x : S2048x128.Idx) <;> idx_vars x <;> rw [ld_emb (vals x3)] <;>
    pointwise [vals, k0_pay29, k0_pay28]
  by_cases h : x1.val = 0
  · rw [h]
    simp [IntOp.cmpi, FloatOps.sitofp]
  · have : ¬ BitVec.ofNat 32 x1.val = 0#32 := by word_omega
    rw [if_neg (by omega)]
    rw [show IntOp.cmpi .eq (BitVec.ofNat 32 x1.val) 0#32 = 0#1 from by
      simp only [IntOp.cmpi]; rw [beq_false_of_ne this]; rfl]
    simp [FloatOps.sitofp]

theorem vals_read (x3 : Vec Ideal S1x2048x128 .f32) (r : Rect S2048x256) :
    (View.whole cc0_scratch1).readCov (valPieces x3) r.toLoadRect = View.ld (vals x3) r := by
  rw [View.readCov_eq_canon', valPieces_canon]; rfl

/-- The pieces stored in the scratch of block means, the fill with zeros last. -/
abbrev meanPieces (x2 : Vec Ideal S1x2048x128 .f32) : List (View.Piece E S128x128 .f32) :=
  [⟨Rect.unit ![7, 0] ![1, 128] inb_S128x128_S1x128_7_0, k0_pay27 (View.ld x2 (Rect.unit ![0, 1792, 0] ![1, 256, 128] inb_S1x2048x128_S1x256x128_0_1792_0))⟩,
   ⟨Rect.unit ![6, 0] ![1, 128] inb_S128x128_S1x128_6_0, k0_pay24 (View.ld x2 (Rect.unit ![0, 1536, 0] ![1, 256, 128] inb_S1x2048x128_S1x256x128_0_1536_0))⟩,
   ⟨Rect.unit ![5, 0] ![1, 128] inb_S128x128_S1x128_5_0, k0_pay21 (View.ld x2 (Rect.unit ![0, 1280, 0] ![1, 256, 128] inb_S1x2048x128_S1x256x128_0_1280_0))⟩,
   ⟨Rect.unit ![4, 0] ![1, 128] inb_S128x128_S1x128_4_0, k0_pay18 (k0_pay17 (View.ld x2 (Rect.unit ![0, 1024, 0] ![1, 256, 128] inb_S1x2048x128_S1x256x128_0_1024_0)))⟩,
   ⟨Rect.unit ![3, 0] ![1, 128] inb_S128x128_S1x128_3_0, k0_pay14 (View.ld x2 (Rect.unit ![0, 768, 0] ![1, 256, 128] inb_S1x2048x128_S1x256x128_0_768_0))⟩,
   ⟨Rect.unit ![2, 0] ![1, 128] inb_S128x128_S1x128_2_0, k0_pay11 (View.ld x2 (Rect.unit ![0, 512, 0] ![1, 256, 128] inb_S1x2048x128_S1x256x128_0_512_0))⟩,
   ⟨Rect.unit ![1, 0] ![1, 128] inb_S128x128_S1x128_1_0, k0_pay8 (View.ld x2 (Rect.unit ![0, 256, 0] ![1, 256, 128] inb_S1x2048x128_S1x256x128_0_256_0))⟩,
   ⟨Rect.unit ![0, 0] ![1, 128] inb_S128x128_S1x128_0_0, k0_pay5 (View.ld x2 (Rect.unit ![0, 0, 0] ![1, 256, 128] inb_S1x2048x128_S1x256x128_0_0_0))⟩]

/-- The rows of block means that a tile loads. -/
def means8 (x2 : Vec Ideal S1x2048x128 .f32) : Vec Ideal S8x128 .f32 := fun i => kmean x2 (i 0) (i 1)

/-- All pieces of that scratch: the means over the first fill. -/
abbrev meanPiecesAll (x2 : Vec Ideal S1x2048x128 .f32) : List (View.Piece E S128x128 .f32) :=
  [⟨Rect.unit ![7, 0] ![1, 128] inb_S128x128_S1x128_7_0, k0_pay27 (View.ld x2 (Rect.unit ![0, 1792, 0] ![1, 256, 128] inb_S1x2048x128_S1x256x128_0_1792_0))⟩,
   ⟨Rect.unit ![6, 0] ![1, 128] inb_S128x128_S1x128_6_0, k0_pay24 (View.ld x2 (Rect.unit ![0, 1536, 0] ![1, 256, 128] inb_S1x2048x128_S1x256x128_0_1536_0))⟩,
   ⟨Rect.unit ![5, 0] ![1, 128] inb_S128x128_S1x128_5_0, k0_pay21 (View.ld x2 (Rect.unit ![0, 1280, 0] ![1, 256, 128] inb_S1x2048x128_S1x256x128_0_1280_0))⟩,
   ⟨Rect.unit ![4, 0] ![1, 128] inb_S128x128_S1x128_4_0, k0_pay18 (k0_pay17 (View.ld x2 (Rect.unit ![0, 1024, 0] ![1, 256, 128] inb_S1x2048x128_S1x256x128_0_1024_0)))⟩,
   ⟨Rect.unit ![3, 0] ![1, 128] inb_S128x128_S1x128_3_0, k0_pay14 (View.ld x2 (Rect.unit ![0, 768, 0] ![1, 256, 128] inb_S1x2048x128_S1x256x128_0_768_0))⟩,
   ⟨Rect.unit ![2, 0] ![1, 128] inb_S128x128_S1x128_2_0, k0_pay11 (View.ld x2 (Rect.unit ![0, 512, 0] ![1, 256, 128] inb_S1x2048x128_S1x256x128_0_512_0))⟩,
   ⟨Rect.unit ![1, 0] ![1, 128] inb_S128x128_S1x128_1_0, k0_pay8 (View.ld x2 (Rect.unit ![0, 256, 0] ![1, 256, 128] inb_S1x2048x128_S1x256x128_0_256_0))⟩,
   ⟨Rect.unit ![0, 0] ![1, 128] inb_S128x128_S1x128_0_0, k0_pay5 (View.ld x2 (Rect.unit ![0, 0, 0] ![1, 256, 128] inb_S1x2048x128_S1x256x128_0_0_0))⟩,
   ⟨Rect.unit ![0, 0] ![128, 128] inb_S128x128_S128x128_0_0, k0_pay2 (F := Ideal)⟩]

/-- The scratch of block means as one array. -/
def means (x2 : Vec Ideal S1x2048x128 .f32) : Vec Ideal S128x128 .f32 := fun i =>
  if h : (i 0).val < 8 then kmean x2 ⟨(i 0).val, h⟩ (i 1) else 0

theorem mem_row (n : ℕ) (hn : n < 128) (j : Fin 128) (inb : ∀ a, ![n, 0] a + ![1, 128] a ≤ S128x128.size a) :
    (ix2 ⟨n, hn⟩ j : S128x128.Idx) ∈ (Rect.unit (s := S128x128) ![n, 0] ![1, 128] inb).set := by
  rw [Rect.mem_set_unit]
  intro a
  fin_cases a
  · exact ⟨le_rfl, Nat.lt_succ_self n⟩
  · exact ⟨Nat.zero_le _, by have := j.isLt; simpa using this⟩

theorem means_read (x2 : Vec Ideal S1x2048x128 .f32) :
    (View.whole cc0_scratch2).readCov (meanPiecesAll x2)
      (Rect.unit ![0, 0] ![8, 128] inb_S128x128_S8x128_0_0).toLoadRect = means8 x2 := by
  rw [View.readCov_eq_canon']
  funext (j : S8x128.Idx)
  idx_vars j
  have := View.canon_append_of_pieces (Val := E) (S := S128x128) (e := .f32) (means x2)
    [⟨Rect.unit ![0, 0] ![128, 128] inb_S128x128_S128x128_0_0, k0_pay2 (F := Ideal)⟩] (meanPieces x2) ?_
    ((Rect.unit (s := S128x128) ![0, 0] ![8, 128] inb_S128x128_S8x128_0_0).toLoadRect.idx (ix2 j0 j1)) ?_
  · refine this.trans ?_
    pointwise
    simp [means, means8]
  · unfold meanPieces
    simp only [List.forall_mem_cons, List.not_mem_nil, false_imp_iff, implies_true, and_true]
    refine ⟨?_, ?_, ?_, ?_, ?_, ?_, ?_, ?_⟩ <;> intro (x : S1x128.Idx) <;> idx_vars x <;> rw [ld_emb (means x2)] <;>
      pointwise [means, kmean, k0_pay27, k0_pay25, k0_pay24, k0_pay22, k0_pay21, k0_pay19, k0_pay18, k0_pay17, k0_pay15, k0_pay14, k0_pay12, k0_pay11, k0_pay9, k0_pay8, k0_pay6, k0_pay5, k0_pay3]
  · rw [show (Rect.unit (s := S128x128) ![0, 0] ![8, 128] inb_S128x128_S8x128_0_0).toLoadRect.idx (ix2 j0 j1) = ix2 ⟨j0.val, by omega⟩ j1 from by
      funext a; fin_cases a <;> exact Fin.ext (by simp [LoadRect.idx])]
    unfold meanPieces
    fin_cases j0
    · exact ⟨_, .tail _ (.tail _ (.tail _ (.tail _ (.tail _ (.tail _ (.tail _ (.head _))))))), mem_row 0 (by omega) j1 inb_S128x128_S1x128_0_0⟩
    · exact ⟨_, .tail _ (.tail _ (.tail _ (.tail _ (.tail _ (.tail _ (.head _)))))), mem_row 1 (by omega) j1 inb_S128x128_S1x128_1_0⟩
    · exact ⟨_, .tail _ (.tail _ (.tail _ (.tail _ (.tail _ (.head _))))), mem_row 2 (by omega) j1 inb_S128x128_S1x128_2_0⟩
    · exact ⟨_, .tail _ (.tail _ (.tail _ (.tail _ (.head _)))), mem_row 3 (by omega) j1 inb_S128x128_S1x128_3_0⟩
    · exact ⟨_, .tail _ (.tail _ (.tail _ (.head _))), mem_row 4 (by omega) j1 inb_S128x128_S1x128_4_0⟩
    · exact ⟨_, .tail _ (.tail _ (.head _)), mem_row 5 (by omega) j1 inb_S128x128_S1x128_5_0⟩
    · exact ⟨_, .tail _ (.head _), mem_row 6 (by omega) j1 inb_S128x128_S1x128_6_0⟩
    · exact ⟨_, .head _, mem_row 7 (by omega) j1 inb_S128x128_S1x128_7_0⟩
end Moba
-- ==== Proof.Rank.lean ====
module

public import Idealize.ShloMosaic.Lib.Pointwise
public import Idealize.ShloMosaic.PureOps.Ideal
public import Idealize.ShloMosaic.Lib.Tactic.WordOmega

/-! The rank of a block among the earlier blocks by its gate, with ties going to the lower block, and the words in
which it is counted. -/

@[expose] public section
noncomputable section
namespace Moba
open Idealize.ShloMosaic

/-- Block `m` comes before block `n` in the order of gates, the lower block first among equals. -/
def Beats (g : Fin 8 → EReal) (n m : Fin 8) : Prop := if m < n then g n ≤ g m else g n < g m

open Classical in
/-- How many of the first `own` blocks come before block `n`. -/
def rank (own : ℕ) (g : Fin 8 → EReal) (n : Fin 8) : ℕ := ∑ m : Fin 8, if m.val < own ∧ Beats g n m then 1 else 0

open Classical in
theorem rank_eq (own : ℕ) (g : Fin 8 → EReal) (n : Fin 8) :
    rank own g n = (if 0 < own ∧ Beats g n 0 then 1 else 0) + (if 1 < own ∧ Beats g n 1 then 1 else 0)
      + (if 2 < own ∧ Beats g n 2 then 1 else 0) + (if 3 < own ∧ Beats g n 3 then 1 else 0)
      + (if 4 < own ∧ Beats g n 4 then 1 else 0) + (if 5 < own ∧ Beats g n 5 then 1 else 0)
      + (if 6 < own ∧ Beats g n 6 then 1 else 0) + (if 7 < own ∧ Beats g n 7 then 1 else 0) := by
  unfold rank
  exact Fin.sum_univ_eight _

/-- Whether a query of block `own` sees block `n`, as a number. -/
def keep (own : ℕ) (g : Fin 8 → EReal) (n : Fin 8) : EReal :=
  if n.val < own then (if rank own g n < 3 then 1 else 0) else if n.val = own then 1 else 0

theorem flag_word (P : Prop) [Decidable P] : BitVec.setWidth 32 (BitVec.ofBool (decide P)) = BitVec.ofNat 32 (if P then 1 else 0) := by
  by_cases h : P <;> simp [h]

theorem add_words (a b : ℕ) : IntOp.addi (BitVec.ofNat 32 a) (BitVec.ofNat 32 b) = BitVec.ofNat 32 (a + b) := by
  simp [IntOp.addi, BitVec.ofNat_add]

theorem select_count (n k : ℕ) (hn : n ≤ k) (hk : k ≤ 8) (x y : EReal) :
    Scalar.select (IntOp.cmpi .slt (BitVec.ofNat 32 n) 3#32) x y = if n < 3 then x else y := by
  have : n ≤ 8 := hn.trans hk
  interval_cases n <;> rfl

theorem flag_le (P : Prop) [Decidable P] : (if P then 1 else 0 : ℕ) ≤ 1 := by split <;> omega

theorem add_flag_le {a k : ℕ} (P : Prop) [Decidable P] (h : a ≤ k) : (a + if P then 1 else 0) ≤ k + 1 := by
  have := flag_le P
  omega

/-- A block ranks at most behind all the others. -/
theorem rank_lt (own : ℕ) (g : Fin 8 → EReal) (n : Fin 8) (hn : n.val < own) (ho : own ≤ 3) : rank own g n < 3 := by
  classical
  unfold rank
  have h : ∀ m : Fin 8, (if m.val < own ∧ Beats g n m then 1 else 0 : ℕ) ≤ if m.val < 3 ∧ m ≠ n then 1 else 0 := by
    intro m
    split
    · rename_i hm
      have hne : m ≠ n := by
        rintro rfl
        exact absurd hm.2 (by simp [Beats])
      rw [if_pos ⟨by omega, hne⟩]
    · exact Nat.zero_le _
  refine lt_of_le_of_lt (Finset.sum_le_sum fun m _ => h m) ?_
  rw [Fin.sum_univ_eight]
  have : n.val < 3 := by omega
  obtain ⟨n, hn8⟩ := n
  simp only at this
  interval_cases n <;> simp [Fin.ext_iff]
theorem half : Ideal.ofBits .f32 1056964608#32 = ((1 / 2 : ℝ) : EReal) := by
  simp [Ideal.ofBits, Ideal.ieee]
  rw [← EReal.coe_mul]
  norm_num

theorem half_lt_one : Ideal.ofBits .f32 1056964608#32 < 1 := by
  rw [half]; exact_mod_cast (by norm_num : (1 / 2 : ℝ) < 1)

theorem not_half_lt_zero : ¬ Ideal.ofBits .f32 1056964608#32 < 0 := by
  rw [half, not_lt]; exact_mod_cast (by norm_num : (0 : ℝ) ≤ 1 / 2)
end Moba
-- ==== Proof.Softmax.lean ====
module

public import Idealize.ShloMosaic.Lib.Pointwise
public import Idealize.ShloMosaic.PureOps.Ideal
public import Idealize.ShloMosaic.Lib.IdealHost

/-! The softmax-weighted mean of values over a finite index set, on the extended reals: it depends only on the
entries whose logit is not `⊥`, and dividing every weight by the total first gives the same mean. -/

@[expose] public section
noncomputable section
namespace Moba
open Idealize.ShloMosaic

/-- The weighted mean of `v` under the weights `exp (L j - max L)`, the total weight taken against `w`. -/
def attn {ι : Type} [Fintype ι] (L v w : ι → EReal) : EReal :=
  Ideal.div (∑ j, Ideal.exp (L j - Finset.univ.sup L) * v j) (∑ j, Ideal.exp (L j - Finset.univ.sup L) * w j)

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem exp_bot_sub (s : EReal) : Ideal.exp (⊥ - s) = 0 := by
  rw [EReal.bot_sub, Ideal.exp_bot]

/-- The mean in the form in which a tile computes it. -/
theorem attn_form {ι : Type} [Fintype ι] (L L' v v' w w' : ι → EReal) (hL : ∀ j, L j = L' j) (hv : ∀ j, v j = v' j) (hw : ∀ j, w j = w' j) :
    Ideal.div (∑ j, Ideal.exp (L j - Finset.fold max (Ideal.ofBits .f32 4286578688#32) (fun k => L k) Finset.univ) * v j)
      (∑ j, Ideal.exp (L j - Finset.fold max (Ideal.ofBits .f32 4286578688#32) (fun k => L k) Finset.univ) * w j) = attn L' v' w' := by
  obtain rfl : L = L' := funext hL
  obtain rfl : v = v' := funext hv
  obtain rfl : w = w' := funext hw
  rw [show Ideal.ofBits .f32 4286578688#32 = ⊥ from ofBits_neg_inf]
  rfl

section reindex
variable {ι κ : Type} [Fintype ι] [Fintype κ] [DecidableEq ι] [DecidableEq κ]

/-- A sum of weighted values over the entries that count, moved along a map that matches them up. -/
theorem sum_reindex (s : EReal) (L : ι → EReal) (M : κ → EReal) (v : ι → EReal) (v' : κ → EReal) (P : ι → Prop) (Q : κ → Prop)
    (e : ι → κ) (hP : ∀ i, ¬ P i → L i = ⊥) (hQ : ∀ k, ¬ Q k → M k = ⊥)
    (he : ∀ i, P i → Q (e i) ∧ L i = M (e i) ∧ v i = v' (e i))
    (inj : ∀ i j, P i → P j → e i = e j → i = j) (surj : ∀ k, Q k → ∃ i, P i ∧ e i = k) :
    ∑ i, Ideal.exp (L i - s) * v i = ∑ k, Ideal.exp (M k - s) * v' k := by
  classical
  have h1 : ∑ i, Ideal.exp (L i - s) * v i = ∑ i ∈ Finset.univ.filter P, Ideal.exp (L i - s) * v i := by
    symm
    refine Finset.sum_subset (Finset.filter_subset _ _) fun i _ hi => ?_
    have : ¬ P i := by simpa using hi
    rw [hP i this, exp_bot_sub, zero_mul]
  have h2 : ∑ k, Ideal.exp (M k - s) * v' k = ∑ k ∈ Finset.univ.filter Q, Ideal.exp (M k - s) * v' k := by
    symm
    refine Finset.sum_subset (Finset.filter_subset _ _) fun k _ hk => ?_
    have : ¬ Q k := by simpa using hk
    rw [hQ k this, exp_bot_sub, zero_mul]
  rw [h1, h2]
  refine Finset.sum_nbij e ?_ ?_ ?_ ?_
  · intro i hi
    have : P i := by simpa using hi
    simpa using (he i this).1
  · intro i hi j hj hij
    exact inj i j (by simpa using hi) (by simpa using hj) hij
  · intro k hk
    obtain ⟨i, hi, hik⟩ := surj k (by simpa using hk)
    exact ⟨i, by simpa using hi, hik⟩
  · intro i hi
    obtain ⟨-, h, h'⟩ := he i (by simpa using hi)
    rw [h, h']

theorem sup_reindex (L : ι → EReal) (M : κ → EReal) (P : ι → Prop) (Q : κ → Prop)
    (e : ι → κ) (hP : ∀ i, ¬ P i → L i = ⊥) (hQ : ∀ k, ¬ Q k → M k = ⊥)
    (he : ∀ i, P i → L i = M (e i)) (surj : ∀ k, Q k → ∃ i, P i ∧ e i = k) :
    Finset.univ.sup L = Finset.univ.sup M := by
  refine le_antisymm (Finset.sup_le fun i _ => ?_) (Finset.sup_le fun k _ => ?_)
  · by_cases h : P i
    · rw [he i h]; exact Finset.le_sup (f := M) (Finset.mem_univ _)
    · rw [hP i h]; exact bot_le
  · by_cases h : Q k
    · obtain ⟨i, hi, rfl⟩ := surj k h
      rw [← he i hi]; exact Finset.le_sup (f := L) (Finset.mem_univ _)
    · rw [hQ k h]; exact bot_le

/-- Two such means agree when a map matches up the entries that count. -/
theorem attn_reindex (L : ι → EReal) (M : κ → EReal) (v w : ι → EReal) (v' w' : κ → EReal) (P : ι → Prop) (Q : κ → Prop)
    (e : ι → κ) (hP : ∀ i, ¬ P i → L i = ⊥) (hQ : ∀ k, ¬ Q k → M k = ⊥)
    (he : ∀ i, P i → Q (e i) ∧ L i = M (e i) ∧ v i = v' (e i) ∧ w i = w' (e i))
    (inj : ∀ i j, P i → P j → e i = e j → i = j) (surj : ∀ k, Q k → ∃ i, P i ∧ e i = k) :
    attn L v w = attn M v' w' := by
  have hs := sup_reindex L M P Q e hP hQ (fun i h => (he i h).2.1) surj
  unfold attn
  rw [hs, sum_reindex _ L M v v' P Q e hP hQ (fun i h => ⟨(he i h).1, (he i h).2.1, (he i h).2.2.1⟩) inj surj,
    sum_reindex _ L M w w' P Q e hP hQ (fun i h => ⟨(he i h).1, (he i h).2.1, (he i h).2.2.2⟩) inj surj]

end reindex

section normalised
variable {ι : Type} [Fintype ι]

/-- A sum of extended reals each times one real number. -/
theorem sum_mul_coe (c : ℝ) (hc : 0 ≤ c) (f : ι → EReal) (s : Finset ι) : ∑ j ∈ s, f j * (c : EReal) = (∑ j ∈ s, f j) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top _)]

/-- With a greatest logit that is a real number, the total weight is a positive real. -/
theorem total_coe (L : ι → EReal) (hT : ∀ j, L j ≠ ⊤) (j₀ : ι) (h₀ : L j₀ ≠ ⊥) :
    ∃ r : ℝ, 0 < r ∧ ∑ j, Ideal.exp (L j - Finset.univ.sup L) = (r : EReal) := by
  classical
  have hsb : Finset.univ.sup L ≠ ⊥ := fun h => h₀ (le_bot_iff.mp (h ▸ Finset.le_sup (f := L) (Finset.mem_univ j₀)))
  have hst : Finset.univ.sup L ≠ ⊤ := by
    intro h
    have : Finset.univ.sup L < ⊤ := (Finset.sup_lt_iff (by simp)).mpr fun j _ => lt_top_iff_ne_top.mpr (hT j)
    exact absurd h this.ne
  obtain ⟨s, hs⟩ : ∃ s : ℝ, Finset.univ.sup L = (s : EReal) := ⟨_, (EReal.coe_toReal hst hsb).symm⟩
  have hterm : ∀ j, ∃ r : ℝ, 0 ≤ r ∧ Ideal.exp (L j - Finset.univ.sup L) = (r : EReal) := by
    intro j
    rw [hs]
    by_cases h : L j = ⊥
    · exact ⟨0, le_rfl, by rw [h, exp_bot_sub]; rfl⟩
    · obtain ⟨x, hx⟩ : ∃ x : ℝ, L j = (x : EReal) := ⟨_, (EReal.coe_toReal (hT j) h).symm⟩
      refine ⟨Real.exp (x - s), (Real.exp_pos _).le, ?_⟩
      rw [hx, ← EReal.coe_sub, Ideal.exp_coe]
  choose r hr0 hr using hterm
  refine ⟨∑ j, r j, ?_, ?_⟩
  · refine Finset.sum_pos' (fun j _ => hr0 j) ⟨j₀, Finset.mem_univ _, ?_⟩
    have h0 := hr j₀
    obtain ⟨x, hx⟩ : ∃ x : ℝ, L j₀ = (x : EReal) := ⟨_, (EReal.coe_toReal (hT j₀) h₀).symm⟩
    rw [hs, hx, ← EReal.coe_sub, Ideal.exp_coe] at h0
    have : r j₀ = Real.exp (x - s) := by exact_mod_cast h0.symm
    rw [this]; exact Real.exp_pos _
  · have hc : ∀ t : Finset ι, ((∑ j ∈ t, r j : ℝ) : EReal) = ∑ j ∈ t, (r j : EReal) := by
      intro t
      induction t using Finset.induction_on with
      | empty => simp
      | insert a t ha ih => rw [Finset.sum_insert ha, Finset.sum_insert ha, EReal.coe_add, ih]
    rw [hc]
    exact Finset.sum_congr rfl fun j _ => hr j

/-- Dividing each weight by the total, then summing, is dividing the weighted sum by the total. -/
theorem attn_normalised (L v : ι → EReal) (hT : ∀ j, L j ≠ ⊤) (j₀ : ι) (h₀ : L j₀ ≠ ⊥) :
    ∑ j, Ideal.div (Ideal.exp (L j - Finset.univ.sup L)) (∑ k, Ideal.exp (L k - Finset.univ.sup L)) * v j
      = attn L v (fun _ => 1) := by
  obtain ⟨r, hr, hsum⟩ := total_coe L hT j₀ h₀
  unfold attn
  simp only [mul_one, hsum]
  rw [Ideal.div_coe hr.ne']
  simp only [Ideal.div_coe hr.ne']
  rw [← sum_mul_coe (1 / r) (by positivity)]
  exact Finset.sum_congr rfl fun j _ => by rw [mul_assoc, mul_comm ((1 / r : ℝ) : EReal), ← mul_assoc]

end normalised
end Moba
-- ==== Proof.Tile.lean ====
module

public import proofs.«01_k».proof.Proof.Scratch
public import proofs.«01_k».proof.Proof.Rank
public import proofs.«01_k».proof.Proof.Softmax

/-! What the body computes for each of the eight query blocks, at an index: a softmax-weighted mean of the values, over the
keys of the blocks up to its own, of which (from the fifth block on) only its own and those of rank below three count. -/

@[expose] public section
set_option maxRecDepth 16384
noncomputable section
namespace Moba
open Cert.KernelIdeal Cert.KernelIdeal.Gen Idealize.ShloMosaic
variable (far : EReal) (Q : Vec Ideal S1x256x128 .f32) (B0 B1 : Vec Ideal S1x1x256x256 .f32)

/-- The bias of a key `j` for row `r` of block `own`. -/
def biasAt (own : ℕ) (r : Fin 256) (j : ℕ) : EReal :=
  if j < own * 256 - 256 then far
  else if j < own * 256 then B1 (ix4 0 0 r ⟨j % 256, Nat.mod_lt _ (by omega)⟩)
  else B0 (ix4 0 0 r ⟨j % 256, Nat.mod_lt _ (by omega)⟩)

/-- The scaled inner product of row `r` of the queries with the key `k`. -/
def dotK (r : Fin 256) (k : Fin 128 → EReal) : EReal := (∑ d, Q (ix3 0 r d) * k d) * Ideal.ofBits .f32 1035273459#32

/-- The gates of row `r`: its inner products with the block means. -/
def gates (M : Vec Ideal S8x128 .f32) (r : Fin 256) (n : Fin 8) : EReal := ∑ d, M (ix2 n d) * Q (ix3 0 r d)

theorem dotK_congr {N : ℕ} (K : (⟨2, ![N, 128]⟩ : Shape).Idx → EReal) (r : Fin 256) (j : Fin N) (n : ℕ) (h : n < N) (e : n = j.val) :
    (∑ x, Q (ix3 0 r x) * K (ix2 ⟨n, h⟩ x)) * Ideal.ofBits .f32 1035273459#32 = dotK Q r (fun d => K (ix2 j d)) := by
  subst e; rfl

theorem bias_congr (B : Vec Ideal S1x1x256x256 .f32) (r : Fin 256) (n n' : ℕ) (h : n < 256) (h' : n' < 256) (e : n = n') :
    B (ix4 0 0 r ⟨n, h⟩) = B (ix4 0 0 r ⟨n', h'⟩) := by
  subst e; rfl

theorem tile0 (K : Vec Ideal S256x128 .bf16) (V : Vec Ideal S256x256 .bf16) (r : Fin 256) (y : Fin 128) (hV : ∀ j, V (ix2 j 128) = 1) :
    k0_pay31 (F := Ideal) (k0_pay30 Q K) B0 V (ix3 0 r y) =
      attn (fun j : Fin 256 => dotK Q r (fun d => K (ix2 j d)) + biasAt far B0 B1 0 r j) (fun j => V (ix2 j ⟨y.val, by omega⟩)) (fun _ => 1) := by
  pointwise [k0_pay30, k0_pay31]
  refine attn_form _ _ _ _ _ _ (fun j => ?_) (fun j => rfl) (fun j => hV j)
  refine congrArg₂ (· + ·) (dotK_congr _ _ _ _ _ _ rfl) ?_
  unfold biasAt
  (repeat' split) <;> first | omega | exact bias_congr _ _ _ _ _ _ (by omega)

theorem tile1 (K : Vec Ideal S512x128 .bf16) (V : Vec Ideal S512x256 .bf16) (r : Fin 256) (y : Fin 128) (hV : ∀ j, V (ix2 j 128) = 1) :
    k0_pay35 (F := Ideal) (k0_pay33 Q K B1) (k0_pay34 Q K) B0 V (ix3 0 r y) =
      attn (fun j : Fin 512 => dotK Q r (fun d => K (ix2 j d)) + biasAt far B0 B1 1 r j) (fun j => V (ix2 j ⟨y.val, by omega⟩)) (fun _ => 1) := by
  have hS : ∀ j : Fin 512, (concatenate S256x512 1 [⟨S256x256, k0_pay33 Q K B1⟩, ⟨S256x256, addf (k0_pay34 Q K) (shapeCast S256x256 B0 shapeCasts_S1x1x256x256_S256x256)⟩] concatenates_S256x256_S256x256_S256x512_d1 : FVec Ideal S256x512 .f32) (ix2 r j)
      = dotK Q r (fun d => K (ix2 j d)) + biasAt far B0 B1 1 r j := by
    intro j
    pointwise [k0_pay32, k0_pay33, k0_pay34]
    split_ifs <;> first
      | omega
      | (refine congrArg₂ (· + ·) (dotK_congr _ _ _ _ _ _ (by omega)) ?_
         unfold biasAt
         (repeat' split) <;> first | rfl | omega | exact bias_congr _ _ _ _ _ _ (by omega))
  unfold k0_pay35
  dsimp only
  generalize (concatenate S256x512 1 [⟨S256x256, k0_pay33 Q K B1⟩, ⟨S256x256, addf (k0_pay34 Q K) (shapeCast S256x256 B0 shapeCasts_S1x1x256x256_S256x256)⟩] concatenates_S256x256_S256x256_S256x512_d1 : FVec Ideal S256x512 .f32) = S at hS ⊢
  pointwise
  exact attn_form _ _ _ _ _ _ hS (fun j => rfl) (fun j => hV j)

theorem tile2 (K : Vec Ideal S768x128 .bf16) (V : Vec Ideal S768x256 .bf16) (r : Fin 256) (y : Fin 128) (hV : ∀ j, V (ix2 j 128) = 1) :
    k0_pay40 (F := Ideal) (k0_pay37 far Q K) (k0_pay38 Q K B1) (k0_pay39 Q K) B0 V (ix3 0 r y) =
      attn (fun j : Fin 768 => dotK Q r (fun d => K (ix2 j d)) + biasAt far B0 B1 2 r j) (fun j => V (ix2 j ⟨y.val, by omega⟩)) (fun _ => 1) := by
  have hS : ∀ j : Fin 768, (concatenate S256x768 1 [⟨S256x256, k0_pay37 far Q K⟩, ⟨S256x256, k0_pay38 Q K B1⟩, ⟨S256x256, addf (k0_pay39 Q K) (shapeCast S256x256 B0 shapeCasts_S1x1x256x256_S256x256)⟩] concatenates_S256x256_S256x256_S256x256_S256x768_d1 : FVec Ideal S256x768 .f32) (ix2 r j)
      = dotK Q r (fun d => K (ix2 j d)) + biasAt far B0 B1 2 r j := by
    intro j
    pointwise [k0_pay36, k0_pay37, k0_pay38, k0_pay39]
    split_ifs <;> first
      | omega
      | (refine congrArg₂ (· + ·) (dotK_congr _ _ _ _ _ _ (by omega)) ?_
         unfold biasAt
         (repeat' split) <;> first | rfl | omega | exact bias_congr _ _ _ _ _ _ (by omega))
  unfold k0_pay40
  dsimp only
  generalize (concatenate S256x768 1 [⟨S256x256, k0_pay37 far Q K⟩, ⟨S256x256, k0_pay38 Q K B1⟩, ⟨S256x256, addf (k0_pay39 Q K) (shapeCast S256x256 B0 shapeCasts_S1x1x256x256_S256x256)⟩] concatenates_S256x256_S256x256_S256x256_S256x768_d1 : FVec Ideal S256x768 .f32) = S at hS ⊢
  pointwise
  exact attn_form _ _ _ _ _ _ hS (fun j => rfl) (fun j => hV j)

theorem tile3 (K : Vec Ideal S1024x128 .bf16) (V : Vec Ideal S1024x256 .bf16) (r : Fin 256) (y : Fin 128) (hV : ∀ j, V (ix2 j 128) = 1) :
    k0_pay46 (F := Ideal) (k0_pay42 far Q K) (k0_pay43 far Q K) (k0_pay44 Q K B1) (k0_pay45 Q K) B0 V (ix3 0 r y) =
      attn (fun j : Fin 1024 => dotK Q r (fun d => K (ix2 j d)) + biasAt far B0 B1 3 r j) (fun j => V (ix2 j ⟨y.val, by omega⟩)) (fun _ => 1) := by
  have hS : ∀ j : Fin 1024, (concatenate S256x1024 1 [⟨S256x256, k0_pay42 far Q K⟩, ⟨S256x256, k0_pay43 far Q K⟩, ⟨S256x256, k0_pay44 Q K B1⟩, ⟨S256x256, addf (k0_pay45 Q K) (shapeCast S256x256 B0 shapeCasts_S1x1x256x256_S256x256)⟩] concatenates_S256x256_S256x256_S256x256_S256x256_S256x1024_d1 : FVec Ideal S256x1024 .f32) (ix2 r j)
      = dotK Q r (fun d => K (ix2 j d)) + biasAt far B0 B1 3 r j := by
    intro j
    pointwise [k0_pay41, k0_pay42, k0_pay43, k0_pay44, k0_pay45]
    split_ifs <;> first
      | omega
      | (refine congrArg₂ (· + ·) (dotK_congr _ _ _ _ _ _ (by omega)) ?_
         unfold biasAt
         (repeat' split) <;> first | rfl | omega | exact bias_congr _ _ _ _ _ _ (by omega))
  unfold k0_pay46
  dsimp only
  generalize (concatenate S256x1024 1 [⟨S256x256, k0_pay42 far Q K⟩, ⟨S256x256, k0_pay43 far Q K⟩, ⟨S256x256, k0_pay44 Q K B1⟩, ⟨S256x256, addf (k0_pay45 Q K) (shapeCast S256x256 B0 shapeCasts_S1x1x256x256_S256x256)⟩] concatenates_S256x256_S256x256_S256x256_S256x256_S256x1024_d1 : FVec Ideal S256x1024 .f32) = S at hS ⊢
  pointwise
  exact attn_form _ _ _ _ _ _ hS (fun j => rfl) (fun j => hV j)

theorem score4 (K : Vec Ideal S1280x128 .bf16) (r : Fin 256) (j : Fin 1280) :
    k0_pay54 (F := Ideal) (k0_pay49 far Q K) (k0_pay50 far Q K) (k0_pay51 far Q K) (k0_pay52 Q K B1) (k0_pay53 Q K) B0 (ix2 r j)
      = dotK Q r (fun d => K (ix2 j d)) + biasAt far B0 B1 4 r j := by
  pointwise [k0_pay47, k0_pay48, k0_pay49, k0_pay50, k0_pay51, k0_pay52, k0_pay53, k0_pay54]
  split_ifs <;> first
    | omega
    | (refine congrArg₂ (· + ·) (dotK_congr _ _ _ _ _ _ (by omega)) ?_
       unfold biasAt
       (repeat' split) <;> first | rfl | omega | exact bias_congr _ _ _ _ _ _ (by omega))

theorem tile4 (K : Vec Ideal S1280x128 .bf16) (V : Vec Ideal S1280x256 .bf16) (M : Vec Ideal S8x128 .f32) (X : Vec Ideal S8x1280 .f32) (r : Fin 256) (y : Fin 128)
    (hX : ∀ n j, X (ix2 n j) = if (⟨j.val / 256, by omega⟩ : Fin 8) = n then 1 else 0) (hV : ∀ j, V (ix2 j 128) = 1) :
    k0_pay64 (F := Ideal) (k0_pay54 (k0_pay49 far Q K) (k0_pay50 far Q K) (k0_pay51 far Q K) (k0_pay52 Q K B1) (k0_pay53 Q K) B0) (k0_pay56 (k0_pay47 Q) M) (k0_pay58 (k0_pay57 (k0_pay47 Q) M) (FloatOps.ofBits FTy.f32 1065353216#32) (FloatOps.ofBits FTy.f32 0#32)) (k0_pay59 (k0_pay55 (k0_pay47 Q) M)) (k0_pay60 (k0_pay55 (k0_pay47 Q) M)) k0_pay61 k0_pay62 k0_pay63 (FloatOps.ofBits FTy.f32 0#32) X V (ix3 0 r y) =
      attn (fun j : Fin 1280 => if Ideal.ofBits .f32 1056964608#32 < keep 4 (gates Q M r) ⟨j.val / 256, by omega⟩ then dotK Q r (fun d => K (ix2 j d)) + biasAt far B0 B1 4 r j else ⊥)
        (fun j => V (ix2 j ⟨y.val, by omega⟩)) (fun _ => 1) := by
  classical
  pointwise [k0_pay64]
  refine attn_form _ _ _ _ _ _ (fun j => ?_) (fun j => rfl) (fun j => hV j)
  simp only [hX, mul_ite, mul_one, mul_zero, Finset.sum_ite_eq, Finset.mem_univ, if_true]
  rw [show Ideal.ofBits .f32 4286578688#32 = ⊥ from ofBits_neg_inf, score4]
  refine congrArg (fun k => if Ideal.ofBits .f32 1056964608#32 < k then _ else ⊥) ?_
  obtain ⟨n, hn⟩ : ∃ n, j.val / 256 = n := ⟨_, rfl⟩
  have h5 : n < 5 := by omega
  simp only [hn]
  interval_cases n <;> pointwise [k0_pay47, k0_pay55, k0_pay56, k0_pay57, k0_pay58, k0_pay59, k0_pay60, k0_pay61, k0_pay62, k0_pay63] <;>
    try simp only [flag_word, show (0#32) = BitVec.ofNat 32 0 from rfl, add_words, zero_add]
  all_goals first
    | (rw [select_count _ 3 (by repeat first | exact flag_le _ | refine add_flag_le _ ?_) (by omega)]
       simp [keep, rank_eq, Beats, gates])
    | simp [keep]

theorem score5 (K : Vec Ideal S1536x128 .bf16) (r : Fin 256) (j : Fin 1536) :
    k0_pay71 (F := Ideal) far (k0_pay66 Q K) (k0_pay67 far Q K) (k0_pay68 far Q K) (k0_pay69 Q K) (k0_pay70 far) B1 B0 (ix2 r j)
      = dotK Q r (fun d => K (ix2 j d)) + biasAt far B0 B1 5 r j := by
  pointwise [k0_pay65, k0_pay66, k0_pay67, k0_pay68, k0_pay69, k0_pay70, k0_pay71]
  split_ifs <;> first
    | omega
    | (refine congrArg₂ (· + ·) (dotK_congr _ _ _ _ _ _ (by omega)) ?_
       unfold biasAt
       (repeat' split) <;> first | rfl | omega | exact bias_congr _ _ _ _ _ _ (by omega))

theorem tile5 (K : Vec Ideal S1536x128 .bf16) (V : Vec Ideal S1536x256 .bf16) (M : Vec Ideal S8x128 .f32) (X : Vec Ideal S8x1536 .f32) (r : Fin 256) (y : Fin 128)
    (hX : ∀ n j, X (ix2 n j) = if (⟨j.val / 256, by omega⟩ : Fin 8) = n then 1 else 0) (hV : ∀ j, V (ix2 j 128) = 1) :
    k0_pay86 (F := Ideal) (k0_pay71 far (k0_pay66 Q K) (k0_pay67 far Q K) (k0_pay68 far Q K) (k0_pay69 Q K) (k0_pay70 far) B1 B0) (k0_pay73 (k0_pay65 Q) M) (k0_pay77 (k0_pay72 (k0_pay65 Q) M) k0_pay74 (k0_pay75 (k0_pay65 Q) M) (k0_pay76 (k0_pay65 Q) M)) (k0_pay78 (k0_pay72 (k0_pay65 Q) M)) (k0_pay82 (k0_pay72 (k0_pay65 Q) M) k0_pay79 (k0_pay80 (k0_pay72 (k0_pay65 Q) M)) (k0_pay81 (k0_pay72 (k0_pay65 Q) M))) (k0_pay83 (k0_pay72 (k0_pay65 Q) M)) k0_pay84 k0_pay85 X V (ix3 0 r y) =
      attn (fun j : Fin 1536 => if Ideal.ofBits .f32 1056964608#32 < keep 5 (gates Q M r) ⟨j.val / 256, by omega⟩ then dotK Q r (fun d => K (ix2 j d)) + biasAt far B0 B1 5 r j else ⊥)
        (fun j => V (ix2 j ⟨y.val, by omega⟩)) (fun _ => 1) := by
  classical
  pointwise [k0_pay86]
  refine attn_form _ _ _ _ _ _ (fun j => ?_) (fun j => rfl) (fun j => hV j)
  simp only [hX, mul_ite, mul_one, mul_zero, Finset.sum_ite_eq, Finset.mem_univ, if_true]
  rw [show Ideal.ofBits .f32 4286578688#32 = ⊥ from ofBits_neg_inf, score5]
  refine congrArg (fun k => if Ideal.ofBits .f32 1056964608#32 < k then _ else ⊥) ?_
  obtain ⟨n, hn⟩ : ∃ n, j.val / 256 = n := ⟨_, rfl⟩
  have h5 : n < 6 := by omega
  simp only [hn]
  interval_cases n <;> pointwise [k0_pay65, k0_pay72, k0_pay73, k0_pay74, k0_pay75, k0_pay76, k0_pay77, k0_pay78, k0_pay79, k0_pay80, k0_pay81, k0_pay82, k0_pay83, k0_pay84, k0_pay85] <;>
    try simp only [flag_word, show (0#32) = BitVec.ofNat 32 0 from rfl, add_words, zero_add]
  all_goals first
    | (rw [select_count _ 4 (by repeat first | exact flag_le _ | refine add_flag_le _ ?_) (by omega)]
       simp [keep, rank_eq, Beats, gates])
    | simp [keep]

theorem score6 (K : Vec Ideal S1792x128 .bf16) (r : Fin 256) (j : Fin 1792) :
    k0_pay92 (F := Ideal) far (k0_pay88 Q K) (k0_pay89 far Q K) (k0_pay90 far Q K) (k0_pay91 Q K) B1 B0 (ix2 r j)
      = dotK Q r (fun d => K (ix2 j d)) + biasAt far B0 B1 6 r j := by
  pointwise [k0_pay87, k0_pay88, k0_pay89, k0_pay90, k0_pay91, k0_pay92]
  split_ifs <;> first
    | omega
    | (refine congrArg₂ (· + ·) (dotK_congr _ _ _ _ _ _ (by omega)) ?_
       unfold biasAt
       (repeat' split) <;> first | rfl | omega | exact bias_congr _ _ _ _ _ _ (by omega))

theorem tile6 (K : Vec Ideal S1792x128 .bf16) (V : Vec Ideal S1792x256 .bf16) (M : Vec Ideal S8x128 .f32) (X : Vec Ideal S8x1792 .f32) (r : Fin 256) (y : Fin 128)
    (hX : ∀ n j, X (ix2 n j) = if (⟨j.val / 256, by omega⟩ : Fin 8) = n then 1 else 0) (hV : ∀ j, V (ix2 j 128) = 1) :
    k0_pay105 (F := Ideal) (k0_pay92 far (k0_pay88 Q K) (k0_pay89 far Q K) (k0_pay90 far Q K) (k0_pay91 Q K) B1 B0) (k0_pay95 (k0_pay94 (k0_pay87 Q) M)) (k0_pay96 (k0_pay93 (k0_pay87 Q) M)) (k0_pay99 (k0_pay93 (k0_pay87 Q) M) (k0_pay97 (k0_pay93 (k0_pay87 Q) M)) (k0_pay98 (k0_pay93 (k0_pay87 Q) M))) (k0_pay100 (k0_pay93 (k0_pay87 Q) M)) (k0_pay103 (k0_pay93 (k0_pay87 Q) M) (k0_pay101 (k0_pay93 (k0_pay87 Q) M)) (k0_pay102 (k0_pay93 (k0_pay87 Q) M))) (k0_pay104 (k0_pay93 (k0_pay87 Q) M)) X V (ix3 0 r y) =
      attn (fun j : Fin 1792 => if Ideal.ofBits .f32 1056964608#32 < keep 6 (gates Q M r) ⟨j.val / 256, by omega⟩ then dotK Q r (fun d => K (ix2 j d)) + biasAt far B0 B1 6 r j else ⊥)
        (fun j => V (ix2 j ⟨y.val, by omega⟩)) (fun _ => 1) := by
  classical
  pointwise [k0_pay105]
  refine attn_form _ _ _ _ _ _ (fun j => ?_) (fun j => rfl) (fun j => hV j)
  simp only [hX, mul_ite, mul_one, mul_zero, Finset.sum_ite_eq, Finset.mem_univ, if_true]
  rw [show Ideal.ofBits .f32 4286578688#32 = ⊥ from ofBits_neg_inf, score6]
  refine congrArg (fun k => if Ideal.ofBits .f32 1056964608#32 < k then _ else ⊥) ?_
  obtain ⟨n, hn⟩ : ∃ n, j.val / 256 = n := ⟨_, rfl⟩
  have h5 : n < 7 := by omega
  simp only [hn]
  interval_cases n <;> pointwise [k0_pay87, k0_pay93, k0_pay94, k0_pay95, k0_pay96, k0_pay97, k0_pay98, k0_pay99, k0_pay100, k0_pay101, k0_pay102, k0_pay103, k0_pay104] <;>
    try simp only [flag_word, show (0#32) = BitVec.ofNat 32 0 from rfl, add_words, zero_add]
  all_goals first
    | (rw [select_count _ 5 (by repeat first | exact flag_le _ | refine add_flag_le _ ?_) (by omega)]
       simp [keep, rank_eq, Beats, gates])
    | simp [keep]

theorem score7 (K : Vec Ideal S2048x128 .bf16) (r : Fin 256) (j : Fin 2048) :
    k0_pay111 (F := Ideal) far (k0_pay107 Q K) (k0_pay108 far Q K) (k0_pay109 Q K) (k0_pay110 far) B1 B0 (ix2 r j)
      = dotK Q r (fun d => K (ix2 j d)) + biasAt far B0 B1 7 r j := by
  pointwise [k0_pay106, k0_pay107, k0_pay108, k0_pay109, k0_pay110, k0_pay111]
  split_ifs <;> first
    | omega
    | (refine congrArg₂ (· + ·) (dotK_congr _ _ _ _ _ _ (by omega)) ?_
       unfold biasAt
       (repeat' split) <;> first | rfl | omega | exact bias_congr _ _ _ _ _ _ (by omega))

theorem tile7 (K : Vec Ideal S2048x128 .bf16) (V : Vec Ideal S2048x256 .bf16) (M : Vec Ideal S8x128 .f32) (X : Vec Ideal S8x2048 .f32) (r : Fin 256) (y : Fin 128)
    (hX : ∀ n j, X (ix2 n j) = if (⟨j.val / 256, by omega⟩ : Fin 8) = n then 1 else 0) (hV : ∀ j, V (ix2 j 128) = 1) :
    k0_pay1 (F := Ideal) (k0_pay129 (k0_pay111 far (k0_pay107 Q K) (k0_pay108 far Q K) (k0_pay109 Q K) (k0_pay110 far) B1 B0) (k0_pay112 (k0_pay106 Q) M) (k0_pay115 (k0_pay112 (k0_pay106 Q) M) (k0_pay113 (k0_pay106 Q) M) (k0_pay114 (k0_pay106 Q) M)) (k0_pay116 (k0_pay112 (k0_pay106 Q) M)) (k0_pay119 (k0_pay112 (k0_pay106 Q) M) k0_pay117 (k0_pay118 (k0_pay112 (k0_pay106 Q) M))) (k0_pay122 (k0_pay112 (k0_pay106 Q) M) (k0_pay120 (k0_pay112 (k0_pay106 Q) M)) (k0_pay121 (k0_pay112 (k0_pay106 Q) M))) (k0_pay123 (k0_pay112 (k0_pay106 Q) M)) (k0_pay126 (k0_pay112 (k0_pay106 Q) M) k0_pay124 (k0_pay125 (k0_pay112 (k0_pay106 Q) M))) (k0_pay127 (k0_pay112 (k0_pay106 Q) M)) (k0_pay128 (k0_pay112 (k0_pay106 Q) M)) X) V (ix3 0 r y) =
      attn (fun j : Fin 2048 => if Ideal.ofBits .f32 1056964608#32 < keep 7 (gates Q M r) ⟨j.val / 256, by omega⟩ then dotK Q r (fun d => K (ix2 j d)) + biasAt far B0 B1 7 r j else ⊥)
        (fun j => V (ix2 j ⟨y.val, by omega⟩)) (fun _ => 1) := by
  classical
  pointwise [k0_pay1, k0_pay129]
  refine attn_form _ _ _ _ _ _ (fun j => ?_) (fun j => rfl) (fun j => hV j)
  simp only [hX, mul_ite, mul_one, mul_zero, Finset.sum_ite_eq, Finset.mem_univ, if_true]
  rw [show Ideal.ofBits .f32 4286578688#32 = ⊥ from ofBits_neg_inf, score7]
  refine congrArg (fun k => if Ideal.ofBits .f32 1056964608#32 < k then _ else ⊥) ?_
  obtain ⟨n, hn⟩ : ∃ n, j.val / 256 = n := ⟨_, rfl⟩
  have h5 : n < 8 := by omega
  simp only [hn]
  interval_cases n <;> pointwise [k0_pay106, k0_pay112, k0_pay113, k0_pay114, k0_pay115, k0_pay116, k0_pay117, k0_pay118, k0_pay119, k0_pay120, k0_pay121, k0_pay122, k0_pay123, k0_pay124, k0_pay125, k0_pay126, k0_pay127, k0_pay128] <;>
    try simp only [flag_word, show (0#32) = BitVec.ofNat 32 0 from rfl, add_words, zero_add]
  all_goals first
    | (rw [select_count _ 6 (by repeat first | exact flag_le _ | refine add_flag_le _ ?_) (by omega)]
       simp [keep, rank_eq, Beats, gates])
    | simp [keep]

end Moba
-- ==== Proof.OutBlock.lean ====
module

public import proofs.«01_k».proof.Proof.Tile

/-! One grid point's output block at an index: the softmax-weighted mean of the value rows, under logits that are `⊥` for
the keys that the query does not see. -/

@[expose] public section
set_option maxRecDepth 16384
noncomputable section
namespace Moba
open Cert.KernelIdeal Cert.KernelIdeal.Gen Idealize.ShloMosaic

/-- The bias of key `j` for query `i`. -/
def biasOf (far : EReal) (x4 : Vec Ideal S1x2x256x256 .f32) (i j : Fin 2048) : EReal :=
  if j.val < i.val / 256 * 256 - 256 then far
  else if j.val < i.val / 256 * 256 then x4 (ix4 0 1 ⟨i.val % 256, Nat.mod_lt _ (by omega)⟩ ⟨j.val % 256, Nat.mod_lt _ (by omega)⟩)
  else x4 (ix4 0 0 ⟨i.val % 256, Nat.mod_lt _ (by omega)⟩ ⟨j.val % 256, Nat.mod_lt _ (by omega)⟩)

/-- The gate of query `i` for key block `n`. -/
def gate (x1 x2 : Vec Ideal S1x2048x128 .f32) (i : Fin 2048) (n : Fin 8) : EReal := ∑ d, kmean x2 n d * x1 (ix3 0 i d)

open Classical in
/-- The logit of query `i` at key `j`. -/
def logit (far : EReal) (x1 x2 : Vec Ideal S1x2048x128 .f32) (x4 : Vec Ideal S1x2x256x256 .f32) (i j : Fin 2048) : EReal :=
  if j.val / 256 ≤ i.val / 256 ∧ (i.val / 256 ≤ 3 ∨ Ideal.ofBits .f32 1056964608#32 < keep (i.val / 256) (gate x1 x2 i) ⟨j.val / 256, by omega⟩) then
    (∑ d, x1 (ix3 0 i d) * x2 (ix3 0 j d)) * Ideal.ofBits .f32 1035273459#32 + biasOf far x4 i j
  else ⊥

/-- The output block. -/
def outBlk (far : EReal) (x1 x2 x3 : Vec Ideal S1x2048x128 .f32) (x4 : Vec Ideal S1x2x256x256 .f32) : Vec Ideal S1x2048x128 .bf16 := fun y =>
  attn (fun j => logit far x1 x2 x4 (y 1) j) (fun j => x3 (ix3 0 j (y 2))) (fun _ => 1)

/-- A mean over the keys of the blocks up to the query's own is the mean over all keys. -/
theorem attn_prefix (far : EReal) (x1 x2 x3 : Vec Ideal S1x2048x128 .f32) (x4 : Vec Ideal S1x2x256x256 .f32) (i : Fin 2048) (y : Fin 128)
    (N : ℕ) (hN : N ≤ 2048) (hi : N = i.val / 256 * 256 + 256) (L v : Fin N → EReal)
    (hL : ∀ j : Fin N, L j = logit far x1 x2 x4 i ⟨j.val, by omega⟩) (hv : ∀ j : Fin N, v j = x3 (ix3 0 ⟨j.val, by omega⟩ y)) :
    attn L v (fun _ => 1) = outBlk far x1 x2 x3 x4 (ix3 0 i y) := by
  refine attn_reindex L _ v _ _ _ (fun _ => True) (fun k => k.val < N) (fun j => ⟨j.val, by omega⟩) (fun _ h => absurd trivial h) ?_ ?_ ?_ ?_
  · intro k hk
    show logit far x1 x2 x4 i k = ⊥
    unfold logit
    rw [if_neg]
    rintro ⟨h, -⟩
    omega
  · intro j _
    exact ⟨j.isLt, hL j, hv j, rfl⟩
  · intro a b _ _ h
    exact Fin.ext (Fin.mk.inj h)
  · intro k hk
    exact ⟨⟨k.val, hk⟩, trivial, rfl⟩

section rows
variable (far : EReal) (x1 x2 : Vec Ideal S1x2048x128 .f32) (x4 : Vec Ideal S1x2x256x256 .f32)
  (Q : Vec Ideal S1x256x128 .f32) (B0 B1 : Vec Ideal S1x1x256x256 .f32) (own : ℕ) (ho : own < 8) (r : Fin 256)
  (hQ : ∀ d, Q (ix3 0 r d) = x1 (ix3 0 ⟨own * 256 + r.val, by omega⟩ d))
  (hB0 : ∀ c, B0 (ix4 0 0 r c) = x4 (ix4 0 0 r c)) (hB1 : ∀ c, B1 (ix4 0 0 r c) = x4 (ix4 0 1 r c))
include hQ hB0 hB1

theorem score_eq (k : Fin 128 → EReal) (j : Fin 2048) (hk : ∀ d, k d = x2 (ix3 0 j d)) :
    dotK Q r k + biasAt far B0 B1 own r j.val
      = (∑ d, x1 (ix3 0 ⟨own * 256 + r.val, by omega⟩ d) * x2 (ix3 0 j d)) * Ideal.ofBits .f32 1035273459#32
        + biasOf far x4 ⟨own * 256 + r.val, by omega⟩ j := by
  have h1 : (own * 256 + r.val) / 256 = own := by omega
  have h2 : (⟨(own * 256 + r.val) % 256, Nat.mod_lt _ (by omega)⟩ : Fin 256) = r := Fin.ext (by show (own * 256 + r.val) % 256 = r.val; omega)
  unfold dotK biasAt biasOf
  simp only [hQ, hk, hB0, hB1, h1, h2]

theorem row_few (ho3 : own ≤ 3) (k : Fin 128 → EReal) (j : Fin 2048) (hj : j.val / 256 ≤ own) (hk : ∀ d, k d = x2 (ix3 0 j d)) :
    dotK Q r k + biasAt far B0 B1 own r j.val = logit far x1 x2 x4 ⟨own * 256 + r.val, by omega⟩ j := by
  rw [score_eq far x1 x2 x4 Q B0 B1 own ho r hQ hB0 hB1 k j hk]
  have h1 : (own * 256 + r.val) / 256 = own := by omega
  unfold logit
  rw [if_pos]
  exact ⟨by simpa only [h1] using hj, Or.inl (by simpa only [h1] using ho3)⟩

theorem row_many (ho3 : 3 < own) (M : Vec Ideal S8x128 .f32) (hM : ∀ n d, M (ix2 n d) = kmean x2 n d) (k : Fin 128 → EReal) (j : Fin 2048)
    (hj : j.val / 256 ≤ own) (hk : ∀ d, k d = x2 (ix3 0 j d)) :
    (if Ideal.ofBits .f32 1056964608#32 < keep own (gates Q M r) ⟨j.val / 256, by omega⟩ then dotK Q r k + biasAt far B0 B1 own r j.val else ⊥)
      = logit far x1 x2 x4 ⟨own * 256 + r.val, by omega⟩ j := by
  rw [score_eq far x1 x2 x4 Q B0 B1 own ho r hQ hB0 hB1 k j hk]
  have h1 : (own * 256 + r.val) / 256 = own := by omega
  have hg : gates Q M r = gate x1 x2 ⟨own * 256 + r.val, by omega⟩ := by
    funext n
    unfold gates gate
    simp only [hQ, hM]
  unfold logit
  simp only [h1, hg, hj, true_and, show ¬ own ≤ 3 from by omega, false_or]
end rows

theorem piece_rest (x1 : Vec Ideal S1x2048x128 .f32) (n : ℕ) (h : n < 2048) (n' : ℕ) (h' : n' < 2048) (e : n = n') (d : Fin 128) :
    x1 (ix3 0 ⟨n, h⟩ d) = x1 (ix3 0 ⟨n', h'⟩ d) := by
  subst e; rfl

theorem out_eq (c : Dev nD) (i : grid0.Coords) (a0 : Memref sig .tc .smem S8 .f32) (h0 : a0.IsWhole)
    (a1 : Memref sig .tc .vmem S1x2048x128 .f32) (h1 : a1.IsWhole) (a2 : Memref sig .tc .vmem S1x2048x128 .f32) (h2 : a2.IsWhole)
    (a3 : Memref sig .tc .vmem S1x2048x128 .f32) (h3 : a3.IsWhole) (a4 : Memref sig .tc .vmem S1x2x256x256 .f32) (h4 : a4.IsWhole)
    (a5 : Memref sig .tc .vmem S8x2048 .f32) (h5 : a5.IsWhole) (a6 : Memref sig .tc .vmem S1x2048x128 .bf16) (h6 : a6.IsWhole)
    (x0 : Vec Ideal S8 .f32) (x1 x2 x3 : Vec Ideal S1x2048x128 .f32) (x4 : Vec Ideal S1x2x256x256 .f32) (x5 : Vec Ideal S8x2048 .f32)
    (hX : ∀ n j, x5 (ix2 n j) = if (⟨j.val / 256, by omega⟩ : Fin 8) = n then 1 else 0) :
    out0_A_6 c i a0 h0 a1 h1 a2 h2 a3 h3 a4 h4 a5 h5 a6 h6 scM0_0 (Memref.isWhole_whole _) scM0_1 (Memref.isWhole_whole _) scM0_2 (Memref.isWhole_whole _)
      x0 x1 x2 x3 x4 x5 = outBlk (x0 (ix1 (i 1))) x1 x2 x3 x4 := by
  funext y
  frame_open
  frame_out
  refine View.canon_apply_of_pieces (Val := Elt Ideal) (S := S1x2048x128) (e := .bf16) (outBlk (x0 (ix1 (i 1))) x1 x2 x3 x4) _ ?_ _ ?_
  rotate_left
  · exact View.cover_of_tiled_head _ _ _ rfl _
  simp only [List.forall_mem_cons, List.not_mem_nil, false_imp_iff, implies_true, and_true]
  simp only [keys_read, vals_read, means_read]
  have hfar : View.ld x0 (Rect.unit (s := S8) (k0_off1 i) S1.size (k0_off1_inb i)) (Shape.Idx.first (by rw [show (Rect.unit (s := S8) (k0_off1 i) S1.size (k0_off1_inb i)).shape.numel = 1 from numel1_S1]; decide)) = x0 (ix1 (i 1)) := by
    refine congrArg x0 (funext fun a => ?_)
    fin_cases a
    refine Fin.ext ?_
    have e := congrFun (k0_off1_eq i) 0
    simp [LoadRect.idx, e]
  refine ⟨?_, ?_, ?_, ?_, ?_, ?_, ?_, ?_⟩ <;> intro (z : S1x256x128.Idx) <;> idx_vars z <;> obtain rfl : z0 = 0 := Subsingleton.elim _ _
  all_goals rw [ld_emb (outBlk _ _ _ _ _)]
  all_goals try rw [hfar]
  · refine (tile7 (x0 (ix1 (i 1))) (View.ld x1 (Rect.unit ![0, 1792, 0] ![1, 256, 128] inb_S1x2048x128_S1x256x128_0_1792_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![2048, 128] inb_S2048x128_S2048x128_0_0)) (View.ld (vals x3) (Rect.unit ![0, 0] ![2048, 256] inb_S2048x256_S2048x256_0_0)) (means8 x2) x5 z1 z2 (fun n j => ?_) (fun j => ?_)).trans ?_
    · exact hX n j
    · pointwise [vals]
    · refine (attn_prefix (x0 (ix1 (i 1))) x1 x2 x3 x4 ⟨1792 + z1.val, by omega⟩ z2 2048 (by omega) (by show _ = (1792 + z1.val) / 256 * 256 + 256; omega) _ _
        (fun j => row_many (x0 (ix1 (i 1))) x1 x2 x4 (View.ld x1 (Rect.unit ![0, 1792, 0] ![1, 256, 128] inb_S1x2048x128_S1x256x128_0_1792_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 7 (by omega) z1 (fun d => ?_) (fun c => ?_) (fun c => ?_)
          (by omega) (means8 x2) (fun n d => rfl) _ ⟨j.val, by omega⟩ (by show j.val / 256 ≤ 7; omega) (fun d => ?_)) (fun j => ?_)).trans ?_
      all_goals pointwise [keys, vals]
  · refine (tile6 (x0 (ix1 (i 1))) (View.ld x1 (Rect.unit ![0, 1536, 0] ![1, 256, 128] inb_S1x2048x128_S1x256x128_0_1536_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![1792, 128] inb_S2048x128_S1792x128_0_0)) (View.ld (vals x3) (Rect.unit ![0, 0] ![1792, 256] inb_S2048x256_S1792x256_0_0)) (means8 x2) (View.ld x5 (Rect.unit ![0, 0] ![8, 1792] inb_S8x2048_S8x1792_0_0)) z1 z2 (fun n j => ?_) (fun j => ?_)).trans ?_
    · pointwise; exact hX _ _
    · pointwise [vals]
    · refine (attn_prefix (x0 (ix1 (i 1))) x1 x2 x3 x4 ⟨1536 + z1.val, by omega⟩ z2 1792 (by omega) (by show _ = (1536 + z1.val) / 256 * 256 + 256; omega) _ _
        (fun j => row_many (x0 (ix1 (i 1))) x1 x2 x4 (View.ld x1 (Rect.unit ![0, 1536, 0] ![1, 256, 128] inb_S1x2048x128_S1x256x128_0_1536_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 6 (by omega) z1 (fun d => ?_) (fun c => ?_) (fun c => ?_)
          (by omega) (means8 x2) (fun n d => rfl) _ ⟨j.val, by omega⟩ (by show j.val / 256 ≤ 6; omega) (fun d => ?_)) (fun j => ?_)).trans ?_
      all_goals pointwise [keys, vals]
  · refine (tile5 (x0 (ix1 (i 1))) (View.ld x1 (Rect.unit ![0, 1280, 0] ![1, 256, 128] inb_S1x2048x128_S1x256x128_0_1280_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![1536, 128] inb_S2048x128_S1536x128_0_0)) (View.ld (vals x3) (Rect.unit ![0, 0] ![1536, 256] inb_S2048x256_S1536x256_0_0)) (means8 x2) (View.ld x5 (Rect.unit ![0, 0] ![8, 1536] inb_S8x2048_S8x1536_0_0)) z1 z2 (fun n j => ?_) (fun j => ?_)).trans ?_
    · pointwise; exact hX _ _
    · pointwise [vals]
    · refine (attn_prefix (x0 (ix1 (i 1))) x1 x2 x3 x4 ⟨1280 + z1.val, by omega⟩ z2 1536 (by omega) (by show _ = (1280 + z1.val) / 256 * 256 + 256; omega) _ _
        (fun j => row_many (x0 (ix1 (i 1))) x1 x2 x4 (View.ld x1 (Rect.unit ![0, 1280, 0] ![1, 256, 128] inb_S1x2048x128_S1x256x128_0_1280_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 5 (by omega) z1 (fun d => ?_) (fun c => ?_) (fun c => ?_)
          (by omega) (means8 x2) (fun n d => rfl) _ ⟨j.val, by omega⟩ (by show j.val / 256 ≤ 5; omega) (fun d => ?_)) (fun j => ?_)).trans ?_
      all_goals pointwise [keys, vals]
  · refine (tile4 (x0 (ix1 (i 1))) (View.ld x1 (Rect.unit ![0, 1024, 0] ![1, 256, 128] inb_S1x2048x128_S1x256x128_0_1024_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![1280, 128] inb_S2048x128_S1280x128_0_0)) (View.ld (vals x3) (Rect.unit ![0, 0] ![1280, 256] inb_S2048x256_S1280x256_0_0)) (means8 x2) (View.ld x5 (Rect.unit ![0, 0] ![8, 1280] inb_S8x2048_S8x1280_0_0)) z1 z2 (fun n j => ?_) (fun j => ?_)).trans ?_
    · pointwise; exact hX _ _
    · pointwise [vals]
    · refine (attn_prefix (x0 (ix1 (i 1))) x1 x2 x3 x4 ⟨1024 + z1.val, by omega⟩ z2 1280 (by omega) (by show _ = (1024 + z1.val) / 256 * 256 + 256; omega) _ _
        (fun j => row_many (x0 (ix1 (i 1))) x1 x2 x4 (View.ld x1 (Rect.unit ![0, 1024, 0] ![1, 256, 128] inb_S1x2048x128_S1x256x128_0_1024_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 4 (by omega) z1 (fun d => ?_) (fun c => ?_) (fun c => ?_)
          (by omega) (means8 x2) (fun n d => rfl) _ ⟨j.val, by omega⟩ (by show j.val / 256 ≤ 4; omega) (fun d => ?_)) (fun j => ?_)).trans ?_
      all_goals pointwise [keys, vals]
  · refine (tile3 (x0 (ix1 (i 1))) (View.ld x1 (Rect.unit ![0, 768, 0] ![1, 256, 128] inb_S1x2048x128_S1x256x128_0_768_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![1024, 128] inb_S2048x128_S1024x128_0_0)) (View.ld (vals x3) (Rect.unit ![0, 0] ![1024, 256] inb_S2048x256_S1024x256_0_0)) z1 z2 (fun j => ?_)).trans ?_
    · pointwise [vals]
    · refine (attn_prefix (x0 (ix1 (i 1))) x1 x2 x3 x4 ⟨768 + z1.val, by omega⟩ z2 1024 (by omega) (by show _ = (768 + z1.val) / 256 * 256 + 256; omega) _ _
        (fun j => row_few (x0 (ix1 (i 1))) x1 x2 x4 (View.ld x1 (Rect.unit ![0, 768, 0] ![1, 256, 128] inb_S1x2048x128_S1x256x128_0_768_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 3 (by omega) z1 (fun d => ?_) (fun c => ?_) (fun c => ?_)
          (by omega) _ ⟨j.val, by omega⟩ (by show j.val / 256 ≤ 3; omega) (fun d => ?_)) (fun j => ?_)).trans ?_
      all_goals pointwise [keys, vals]
  · refine (tile2 (x0 (ix1 (i 1))) (View.ld x1 (Rect.unit ![0, 512, 0] ![1, 256, 128] inb_S1x2048x128_S1x256x128_0_512_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![768, 128] inb_S2048x128_S768x128_0_0)) (View.ld (vals x3) (Rect.unit ![0, 0] ![768, 256] inb_S2048x256_S768x256_0_0)) z1 z2 (fun j => ?_)).trans ?_
    · pointwise [vals]
    · refine (attn_prefix (x0 (ix1 (i 1))) x1 x2 x3 x4 ⟨512 + z1.val, by omega⟩ z2 768 (by omega) (by show _ = (512 + z1.val) / 256 * 256 + 256; omega) _ _
        (fun j => row_few (x0 (ix1 (i 1))) x1 x2 x4 (View.ld x1 (Rect.unit ![0, 512, 0] ![1, 256, 128] inb_S1x2048x128_S1x256x128_0_512_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 2 (by omega) z1 (fun d => ?_) (fun c => ?_) (fun c => ?_)
          (by omega) _ ⟨j.val, by omega⟩ (by show j.val / 256 ≤ 2; omega) (fun d => ?_)) (fun j => ?_)).trans ?_
      all_goals pointwise [keys, vals]
  · refine (tile1 (x0 (ix1 (i 1))) (View.ld x1 (Rect.unit ![0, 256, 0] ![1, 256, 128] inb_S1x2048x128_S1x256x128_0_256_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![512, 128] inb_S2048x128_S512x128_0_0)) (View.ld (vals x3) (Rect.unit ![0, 0] ![512, 256] inb_S2048x256_S512x256_0_0)) z1 z2 (fun j => ?_)).trans ?_
    · pointwise [vals]
    · refine (attn_prefix (x0 (ix1 (i 1))) x1 x2 x3 x4 ⟨256 + z1.val, by omega⟩ z2 512 (by omega) (by show _ = (256 + z1.val) / 256 * 256 + 256; omega) _ _
        (fun j => row_few (x0 (ix1 (i 1))) x1 x2 x4 (View.ld x1 (Rect.unit ![0, 256, 0] ![1, 256, 128] inb_S1x2048x128_S1x256x128_0_256_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 1 (by omega) z1 (fun d => ?_) (fun c => ?_) (fun c => ?_)
          (by omega) _ ⟨j.val, by omega⟩ (by show j.val / 256 ≤ 1; omega) (fun d => ?_)) (fun j => ?_)).trans ?_
      all_goals pointwise [keys, vals]
  · refine (tile0 (x0 (ix1 (i 1))) (View.ld x1 (Rect.unit ![0, 0, 0] ![1, 256, 128] inb_S1x2048x128_S1x256x128_0_0_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) (View.ld (keys x2) (Rect.unit ![0, 0] ![256, 128] inb_S2048x128_S256x128_0_0)) (View.ld (vals x3) (Rect.unit ![0, 0] ![256, 256] inb_S2048x256_S256x256_0_0)) z1 z2 (fun j => ?_)).trans ?_
    · pointwise [vals]
    · refine (attn_prefix (x0 (ix1 (i 1))) x1 x2 x3 x4 ⟨0 + z1.val, by omega⟩ z2 256 (by omega) (by show _ = (0 + z1.val) / 256 * 256 + 256; omega) _ _
        (fun j => row_few (x0 (ix1 (i 1))) x1 x2 x4 (View.ld x1 (Rect.unit ![0, 0, 0] ![1, 256, 128] inb_S1x2048x128_S1x256x128_0_0_0)) (View.ld x4 (Rect.unit ![0, 0, 0, 0] ![1, 1, 256, 256] inb_S1x2x256x256_S1x1x256x256_0_0_0_0)) (View.ld x4 (Rect.unit ![0, 1, 0, 0] ![1, 1, 256, 256] inb_S1x2x256x256_S1x1x256x256_0_1_0_0)) 0 (by omega) z1 (fun d => ?_) (fun c => ?_) (fun c => ?_)
          (by omega) _ ⟨j.val, by omega⟩ (by show j.val / 256 ≤ 0; omega) (fun d => ?_)) (fun j => ?_)).trans ?_
      all_goals pointwise [keys, vals]
end Moba
-- ==== Proof.Bucket.lean ====
module

public import Idealize.ShloMosaic.Lib.Pointwise
public import Idealize.ShloMosaic.Lib.Tactic.WordOmega

/-! The bucket of a distance: the word that the relative-position tables are looked up with. The kernel rounds the
logarithm down before it converts it, the reference converts directly; the two agree because it is not negative. -/

@[expose] public section
noncomputable section
namespace Moba
open Idealize.ShloMosaic

/-- The logarithmic part at a distance word, before its conversion to an integer. -/
def logPart (d : BitVec 32) : EReal :=
  Ideal.div (Ideal.log (Ideal.div (FloatOps.sitofp (F := Ideal) FTy.f32 (IntOp.maxsi d 16#32))
    (Ideal.ofBits FTy.f32 1098907648#32))) (Ideal.ofBits FTy.f32 1074075026#32) * Ideal.ofBits FTy.f32 1098907648#32

/-- The bucket word of a distance word. -/
def bword (d : BitVec 32) : BitVec 32 :=
  Scalar.select (IntOp.cmpi CmpIPredicate.slt d 16#32) d
    (IntOp.minsi (IntOp.addi (16#32) (FloatOps.fptosi (F := Ideal) (φ := FTy.f32) 32 (logPart d))) 31#32)

theorem c16 : Ideal.ofBits FTy.f32 1098907648#32 = ((16 : ℝ) : EReal) := by
  simp [Ideal.ofBits, Ideal.ieee]
  try rw [← EReal.coe_mul]; norm_num

theorem clog : ∃ r : ℝ, 2 ≤ r ∧ r ≤ 2.1 ∧ Ideal.ofBits FTy.f32 1074075026#32 = (r : EReal) := by
  refine ⟨8721810 / 2^22, by norm_num, by norm_num, ?_⟩
  simp [Ideal.ofBits, Ideal.ieee]
  rw [← EReal.coe_mul]; norm_num

theorem toInt_max (d e : BitVec 32) : (IntOp.maxsi d e).toInt = max d.toInt e.toInt := by
  unfold IntOp.maxsi
  split <;> rename_i h <;> simp only [BitVec.sle_eq_decide, BitVec.slt_eq_decide, decide_eq_true_eq] at h <;> omega

theorem toInt_min (d e : BitVec 32) : (IntOp.minsi d e).toInt = min d.toInt e.toInt := by
  unfold IntOp.minsi
  split <;> rename_i h <;> simp only [BitVec.sle_eq_decide, BitVec.slt_eq_decide, decide_eq_true_eq] at h <;> omega

theorem logPart_eq : ∃ c : ℝ, 2 ≤ c ∧ c ≤ 2.1 ∧ ∀ d : BitVec 32,
    logPart d = ((Real.log (((max d.toInt 16 : ℤ) : ℝ) / 16) / c * 16 : ℝ) : EReal) := by
  obtain ⟨c, h2, h21, hc⟩ := clog
  refine ⟨c, h2, h21, fun d => ?_⟩
  have hm : (IntOp.maxsi d 16#32).toInt = max d.toInt 16 := toInt_max d 16#32
  have h16 : (16 : ℝ) ≤ ((max d.toInt 16 : ℤ) : ℝ) := by
    have : (16 : ℤ) ≤ max d.toInt 16 := le_max_right _ _
    exact_mod_cast this
  have hpos : ¬ ((max d.toInt 16 : ℤ) : ℝ) * (1 / 16) ≤ 0 := by
    have : 0 < ((max d.toInt 16 : ℤ) : ℝ) * (1 / 16) := by positivity
    exact not_le.mpr this
  unfold logPart
  rw [c16, hc]
  simp only [FloatOps.sitofp, hm]
  rw [Ideal.div_coe (y := 16) (by norm_num), ← EReal.coe_mul, Ideal.log_coe, if_neg hpos,
    Ideal.div_coe (y := c) (by linarith), ← EReal.coe_mul, ← EReal.coe_mul]
  congr 1
  rw [mul_one_div, mul_one_div]

/-- The bucket beyond the exact ones, as a natural number added to 16. -/
theorem logWord (d : BitVec 32) (hd : d.toInt ≤ 4096) :
    ∃ n : ℤ, 0 ≤ n ∧ n ≤ 2048 ∧ (256 ≤ d.toInt → 15 ≤ n) ∧ ∃ r : ℝ, logPart d = (r : EReal) ∧ 0 ≤ r ∧ n = ⌊r⌋ := by
  obtain ⟨c, h2, h21, h⟩ := logPart_eq
  have h16 : (16 : ℝ) ≤ ((max d.toInt 16 : ℤ) : ℝ) := by
    have : (16 : ℤ) ≤ max d.toInt 16 := le_max_right _ _
    exact_mod_cast this
  have h4096 : ((max d.toInt 16 : ℤ) : ℝ) ≤ 4096 := by
    have : max d.toInt 16 ≤ (4096 : ℤ) := by omega
    exact_mod_cast this
  generalize hx : ((max d.toInt 16 : ℤ) : ℝ) = x at h16 h4096
  have hl0 : 0 ≤ Real.log (x / 16) := Real.log_nonneg (by linarith)
  have hl1 : Real.log (x / 16) ≤ 255 := (Real.log_le_sub_one_of_pos (by linarith)).trans (by linarith)
  have hr0 : 0 ≤ Real.log (x / 16) / c * 16 := by positivity
  have hr1 : Real.log (x / 16) / c * 16 ≤ 2048 := by
    have : Real.log (x / 16) / c ≤ 128 := by rw [div_le_iff₀ (by linarith)]; linarith
    linarith
  refine ⟨⌊Real.log (x / 16) / c * 16⌋, Int.floor_nonneg.mpr hr0, ?_, fun h256 => ?_, _, by rw [h, hx], hr0, rfl⟩
  · have := Int.floor_le (Real.log (x / 16) / c * 16)
    have : ((⌊Real.log (x / 16) / c * 16⌋ : ℤ) : ℝ) ≤ (2048 : ℤ) := by push_cast; linarith
    exact_mod_cast this
  · rw [Int.le_floor]
    have hx256 : (256 : ℝ) ≤ x := by
      rw [← hx]
      have : (256 : ℤ) ≤ max d.toInt 16 := by omega
      exact_mod_cast this
    have : (1.96875 : ℝ) ≤ Real.log (x / 16) := by
      have h16 : Real.log 16 ≤ Real.log (x / 16) := Real.log_le_log (by norm_num) (by linarith)
      have e16 : Real.log 16 = 4 * Real.log 2 := by
        rw [show (16 : ℝ) = 2 ^ 4 by norm_num, Real.log_pow]; norm_num
      have := Real.one_sub_inv_le_log_of_pos (show (0 : ℝ) < 2 by norm_num)
      norm_num at this
      linarith
    have : (0.9375 : ℝ) ≤ Real.log (x / 16) / c := by rw [le_div_iff₀ (by linarith)]; linarith
    push_cast
    linarith

theorem fptosi_of (r : ℝ) (hr : 0 ≤ r) (h : ⌊r⌋ ≤ 2048) :
    FloatOps.fptosi (F := Ideal) (φ := FTy.f32) 32 (r : EReal) = BitVec.ofInt 32 ⌊r⌋ := by
  have h0 : 0 ≤ ⌊r⌋ := Int.floor_nonneg.mpr hr
  show Ideal.fptosi 32 (r : EReal) = _
  unfold Ideal.fptosi
  congr 1
  show max _ (min _ (if 0 ≤ r then ⌊r⌋ else ⌈r⌉)) = _
  rw [if_pos hr]
  norm_num
  omega

/-- Rounding down first changes nothing. -/
theorem floor_first (d : BitVec 32) (hd : d.toInt ≤ 4096) :
    FloatOps.fptosi (F := Ideal) (φ := FTy.f32) 32 (Ideal.liftRound Int.floor (logPart d))
      = FloatOps.fptosi (F := Ideal) (φ := FTy.f32) 32 (logPart d) := by
  obtain ⟨n, h0, h1, -, r, hr, hr0, rfl⟩ := logWord d hd
  rw [hr, fptosi_of r hr0 h1]
  show FloatOps.fptosi (F := Ideal) (φ := FTy.f32) 32 (((⌊r⌋ : ℤ) : ℝ) : EReal) = _
  rw [fptosi_of _ (by exact_mod_cast h0) (by rw [Int.floor_intCast]; exact h1), Int.floor_intCast]

theorem bword_range (d : BitVec 32) (h0 : 0 ≤ d.toInt) (hd : d.toInt ≤ 4096) :
    0 ≤ (bword d).toInt ∧ (bword d).toInt ≤ 31 ∧ (256 ≤ d.toInt → (bword d).toInt = 31) := by
  obtain ⟨n, hn0, h1, hfar, r, hr, hr0, rfl⟩ := logWord d hd
  unfold bword
  rw [hr, fptosi_of r hr0 h1]
  generalize ⌊r⌋ = n at *
  have ha : (IntOp.addi 16#32 (BitVec.ofInt 32 n)).toInt = 16 + n := by
    unfold IntOp.addi
    rw [BitVec.toInt_add, BitVec.toInt_ofInt]
    have e16 : (16#32).toInt = 16 := rfl
    rw [e16]
    simp only [Int.bmod]
    omega
  have hm := toInt_min (IntOp.addi 16#32 (BitVec.ofInt 32 n)) 31#32
  rw [ha] at hm
  have e31 : (31#32).toInt = 31 := rfl
  rw [e31] at hm
  by_cases hs : d.toInt < 16
  · have : Scalar.select (IntOp.cmpi CmpIPredicate.slt d 16#32) d (IntOp.minsi (IntOp.addi 16#32 (BitVec.ofInt 32 n)) 31#32) = d := by
      simp [Scalar.select, IntOp.cmpi, BitVec.slt_eq_decide, hs]
    rw [this]; omega
  · have : Scalar.select (IntOp.cmpi CmpIPredicate.slt d 16#32) d (IntOp.minsi (IntOp.addi 16#32 (BitVec.ofInt 32 n)) 31#32)
        = IntOp.minsi (IntOp.addi 16#32 (BitVec.ofInt 32 n)) 31#32 := by
      simp [Scalar.select, IntOp.cmpi, BitVec.slt_eq_decide, hs]
    rw [this, hm]; omega

/-- The row of the bias table at a distance. -/
def bidx (n : ℕ) : Fin 32 := ⟨min (bword (BitVec.ofNat 32 n)).toNat 31, by omega⟩

theorem toInt_ofNat (n : ℕ) (hn : n ≤ 4096) : (BitVec.ofNat 32 n).toInt = n := by
  rw [BitVec.toInt_eq_toNat_cond, BitVec.toNat_ofNat]
  omega

theorem bword_eq (n : ℕ) (hn : n ≤ 4096) : bword (BitVec.ofNat 32 n) = BitVec.ofNat 32 (bidx n).val := by
  have hi := toInt_ofNat n hn
  obtain ⟨h0, h1, -⟩ := bword_range (BitVec.ofNat 32 n) (by omega) (by omega)
  show _ = BitVec.ofNat 32 (min (bword (BitVec.ofNat 32 n)).toNat 31)
  generalize bword (BitVec.ofNat 32 n) = w at *
  rw [BitVec.toInt_eq_toNat_cond] at h0 h1
  split at h1
  · have : min w.toNat 31 = w.toNat := by omega
    simp only [this, BitVec.ofNat_toNat, BitVec.setWidth_eq]
  · have := w.isLt; omega

theorem bidx_far (n : ℕ) (hn : n ≤ 4096) (hf : 256 ≤ n) : bidx n = 31 := by
  have hi := toInt_ofNat n hn
  obtain ⟨h0, h1, h2⟩ := bword_range (BitVec.ofNat 32 n) (by omega) (by omega)
  have h3 := h2 (by omega)
  have : bword (BitVec.ofNat 32 n) = 31#32 := BitVec.eq_of_toInt_eq (by rw [h3]; rfl)
  refine Fin.ext ?_
  show min (bword (BitVec.ofNat 32 n)).toNat 31 = 31
  rw [this]
  rfl

/-- A distance word that is not negative. -/
theorem dist_word (a b : ℕ) (ha : a ≤ 4096) (hb : b ≤ 4096) :
    IntOp.maxsi (IntOp.subi (BitVec.ofNat 32 a) (BitVec.ofNat 32 b)) 0#32 = BitVec.ofNat 32 (a - b) := by
  refine BitVec.eq_of_toInt_eq ?_
  rw [toInt_max, toInt_ofNat (a - b) (by omega)]
  have hs : (IntOp.subi (BitVec.ofNat 32 a) (BitVec.ofNat 32 b)).toInt = (a : ℤ) - b := by
    unfold IntOp.subi
    rw [BitVec.toInt_sub, toInt_ofNat _ ha, toInt_ofNat _ hb]
    simp only [Int.bmod]
    omega
  have e0 : (0#32).toInt = 0 := rfl
  rw [hs, e0]
  omega

/-- A sum against a one-hot row is the entry. -/
theorem one_hot (f : Fin 32 → EReal) (r : Fin 32) :
    ∑ x : Fin 32, f x * FloatOps.uitofp (F := Ideal) FTy.f32 (IntOp.cmpi CmpIPredicate.eq (BitVec.ofNat 32 r.val) (BitVec.ofNat 32 x.val))
      = f r := by
  rw [Finset.sum_eq_single r]
  · simp [IntOp.cmpi, FloatOps.uitofp]
  · intro x _ hx
    have : ¬ BitVec.ofNat 32 r.val = BitVec.ofNat 32 x.val := by
      intro h
      have := congrArg BitVec.toNat h
      simp only [BitVec.toNat_ofNat] at this
      exact hx (Fin.ext (by omega))
    simp [IntOp.cmpi, FloatOps.uitofp, this]
  · intro h; exact absurd (Finset.mem_univ _) h

/-- The block of a position: the floor division by 256 as the host prints it. -/
def floorDiv256 (w : BitVec 32) : BitVec 32 :=
  Scalar.select
    (IntOp.andi
      (IntOp.cmpi CmpIPredicate.ne
        (if w = 0 then (0 : BitVec 32) else if w.msb = true then -1 else 1)
        (if (256#32) = 0 then (0 : BitVec 32) else if BitVec.msb (256#32) = true then -1 else 1))
      (IntOp.cmpi CmpIPredicate.ne (IntOp.remsi ArithUnit.host w (256#32)) 0#32))
    (IntOp.subi (IntOp.divsi ArithUnit.host w (256#32)) 1#32)
    (IntOp.divsi ArithUnit.host w (256#32))

theorem floorDiv256_word (j : ℕ) (hj : j < 2048) : floorDiv256 (BitVec.ofNat 32 j) = BitVec.ofNat 32 (j / 256) := by
  have hm : (BitVec.ofNat 32 j).msb = false := by
    rw [BitVec.msb_eq_decide, BitVec.toNat_ofNat]; simp; omega
  have h256 : BitVec.msb (256#32) = false := by decide
  have hc : ¬ IntOp.SDivCorner (BitVec.ofNat 32 j) (256#32) := by
    rintro (h | ⟨-, h⟩)
    · exact absurd h (by decide)
    · exact absurd h (by decide)
  have hd : IntOp.divsi ArithUnit.host (BitVec.ofNat 32 j) (256#32) = BitVec.ofNat 32 (j / 256) := by
    unfold IntOp.divsi
    rw [if_neg hc, BitVec.sdiv_eq, hm, h256]
    refine BitVec.eq_of_toNat_eq ?_
    simp only [BitVec.udiv_eq, BitVec.toNat_udiv, BitVec.toNat_ofNat]
    rw [Nat.mod_eq_of_lt (by omega : j < 2 ^ 32), Nat.mod_eq_of_lt (by omega : j / 256 < 2 ^ 32)]
  have hr : j = 0 → IntOp.remsi ArithUnit.host (BitVec.ofNat 32 j) (256#32) = 0#32 := by
    rintro rfl; decide
  unfold floorDiv256
  rw [hd, hm]
  by_cases h0 : j = 0
  · rw [hr h0]; subst h0; decide
  · have : ¬ BitVec.ofNat 32 j = 0 := by
      intro e
      have := congrArg BitVec.toNat e
      rw [BitVec.toNat_ofNat, Nat.mod_eq_of_lt (by omega)] at this
      exact h0 this
    have h1 : ¬ (256#32 : BitVec 32) = 0 := by decide
    rw [if_neg this, if_neg h1, h256]
    simp [IntOp.cmpi, IntOp.andi, Scalar.select]

end Moba
-- ==== Proof.HostTables.lean ====
module

public import proofs.«01_k».proof.Proof.Gen.KernelIdeal.Value
public import proofs.«01_k».proof.Proof.Bucket
public import proofs.«01_k».proof.Proof.Softmax
public import Idealize.ShloMosaic.Lib.Pointwise
public import Idealize.ShloMosaic.Lib.StableHlo.ReadAt

/-! The three arrays that the host prepares for the kernel, at an index: the far bias of a head, the bias table of the
own and the preceding block, and the one-hot matrix of the blocks. -/

@[expose] public section
set_option maxRecDepth 16384
noncomputable section
namespace Moba
open Cert.KernelIdeal Cert.KernelIdeal.Gen Idealize.ShloMosaic

variable (m : (ℓ : Loc nD τ sig) → ℓ.ty.Contents (Elt Idealize.ShloMosaic.Ideal))

/-- The kernel's bucket of a distance, looked up by a one-hot sum. -/
theorem lookup (f : Fin 32 → EReal) (n : ℕ) (hn : n ≤ 4096) :
    ∑ x : Fin 32, f x * FloatOps.uitofp (F := Ideal) FTy.f32
      (IntOp.cmpi CmpIPredicate.eq
        (Scalar.select (IntOp.cmpi CmpIPredicate.slt (BitVec.ofNat 32 n) 16#32) (BitVec.ofNat 32 n)
          (IntOp.minsi (IntOp.addi (16#32) (FloatOps.fptosi (F := Ideal) (φ := FTy.f32) 32
            (Ideal.liftRound Int.floor (logPart (BitVec.ofNat 32 n))))) 31#32))
        (BitVec.ofNat 32 x.val)) = f (bidx n) := by
  rw [floor_first _ (by rw [toInt_ofNat n hn]; omega)]
  have h := bword_eq n hn
  unfold bword at h
  rw [h]
  exact one_hot f (bidx n)

theorem far_at (c : Dev nD) (h : Fin 8) :
    (V m c main_v78 : Vec Ideal S8 .f32) (ix1 h) = (V m c main_arg3 : Vec Ideal S32x8 .f32) (ix2 31 h) := by
  rw [V_main_arg3]
  unfold V
  after_reads_at

theorem expand_word (j : Fin 2048) (n : Fin 8) :
    FloatOps.uitofp (F := Ideal) FTy.f32
      (IntOp.cmpi CmpIPredicate.eq (floorDiv256 (BitVec.ofNat 32 j.val)) (BitVec.ofNat 32 n.val))
      = if (⟨j.val / 256, by omega⟩ : Fin 8) = n then 1 else 0 := by
  rw [floorDiv256_word j.val j.isLt]
  by_cases h : j.val / 256 = n.val
  · rw [if_pos (Fin.ext h), h]; simp [IntOp.cmpi, FloatOps.uitofp]
  · rw [if_neg fun e => h (congrArg Fin.val e)]
    have : ¬ BitVec.ofNat 32 (j.val / 256) = BitVec.ofNat 32 n.val := by
      intro e
      have := congrArg BitVec.toNat e
      simp only [BitVec.toNat_ofNat] at this
      omega
    simp [IntOp.cmpi, FloatOps.uitofp, this]

theorem expand_at (c : Dev nD) (n : Fin 8) (j : Fin 2048) :
    (V m c main_v87 : Vec Ideal S8x2048 .f32) (ix2 n j)
      = (if (⟨j.val / 256, by omega⟩ : Fin 8) = n then 1 else 0 : EReal) := by
  unfold V
  after_reads_at
  exact expand_word j n

theorem bias_own_at (c : Dev nD) (h : Fin 8) (i j : Fin 256) :
    (V m c main_v76 : Vec Ideal S8x2x256x256 .f32) (ix4 h 0 i j)
      = (if j.val ≤ i.val then (V m c main_arg3 : Vec Ideal S32x8 .f32) (ix2 (bidx (i.val - j.val)) h) else ⊥ : EReal) := by
  rw [V_main_arg3]
  unfold V
  after_reads_at
  simp only [dist_word i.val j.val (by omega) (by omega)]
  have hL := lookup (fun x => (m (c, Proc.tc.devRef main_arg3) : Vec Ideal S32x8 .f32) (ix2 x h)) (i.val - j.val) (by omega)
  unfold logPart at hL
  rw [hL]
  by_cases hij : j.val ≤ i.val
  · have : IntOp.cmpi CmpIPredicate.sle (BitVec.ofNat 32 j.val) (BitVec.ofNat 32 i.val) = 1#1 := by word_omega
    rw [this, if_pos hij]; rfl
  · have : IntOp.cmpi CmpIPredicate.sle (BitVec.ofNat 32 j.val) (BitVec.ofNat 32 i.val) = 0#1 := by word_omega
    rw [this, if_neg hij]; exact ofBits_neg_inf

theorem bias_before_at (c : Dev nD) (h : Fin 8) (i j : Fin 256) :
    (V m c main_v76 : Vec Ideal S8x2x256x256 .f32) (ix4 h 1 i j)
      = (V m c main_arg3 : Vec Ideal S32x8 .f32) (ix2 (bidx (256 + i.val - j.val)) h) := by
  rw [V_main_arg3]
  unfold V
  after_reads_at
  have ha : IntOp.addi (256#32) (BitVec.ofNat 32 i.val) = BitVec.ofNat 32 (256 + i.val) := by
    simp [IntOp.addi, BitVec.ofNat_add]
  simp only [ha, dist_word (256 + i.val) j.val (by omega) (by omega)]
  have hL := lookup (fun x => (m (c, Proc.tc.devRef main_arg3) : Vec Ideal S32x8 .f32) (ix2 x h)) (256 + i.val - j.val) (by omega)
  unfold logPart at hL
  exact hL

end Moba
-- ==== Proof.Spec.lean ====
module

public import proofs.«01_k».proof.Proof.Softmax
public import proofs.«01_k».proof.Proof.Rank
public import proofs.«01_k».proof.Proof.Bucket
public import Idealize.ShloMosaic.Lib.Pointwise

/-! What both programs compute: for every query, the mean of the values weighted by the exponentials of the logits,
over the keys that are not later than the query and lie in its own block or in one of the three earlier blocks of
highest gate. -/

@[expose] public section
noncomputable section
namespace Moba
open Idealize.ShloMosaic

/-- Queries, keys or values: batches, positions, the eight heads' 128 columns side by side. -/
abbrev Rows : Shape := ⟨3, ![4, 2048, 1024]⟩
/-- The bias table: buckets, heads. -/
abbrev Table : Shape := ⟨2, ![32, 8]⟩

variable (q k v : Vec Ideal Rows .f32) (rb : Vec Ideal Table .f32)

/-- Column `d` of head `h`. -/
def col (h : Fin 8) (d : Fin 128) : Fin 1024 := ⟨h.val * 128 + d.val, by omega⟩

/-- The mean key of block `n`. -/
def sMean (b : Fin 4) (h : Fin 8) (n : Fin 8) (d : Fin 128) : EReal :=
  Ideal.div (∑ c : Fin 256, k (ix3 b ⟨n.val * 256 + c.val, by omega⟩ (col h d))) (Ideal.ofBits .f32 0x43800000#32)

/-- The gate of query `i` for block `n`. -/
def sGate (b : Fin 4) (h : Fin 8) (i : Fin 2048) (n : Fin 8) : EReal := ∑ d, sMean k b h n d * q (ix3 b i (col h d))

/-- Whether query `i` sees key `j`. -/
def Sees (b : Fin 4) (h : Fin 8) (i j : Fin 2048) : Prop :=
  j ≤ i ∧ (j.val / 256 = i.val / 256 ∨ j.val / 256 < i.val / 256 ∧ rank (i.val / 256) (sGate q k b h i) ⟨j.val / 256, by omega⟩ < 3)

/-- The logit of a key that is seen. -/
def seenLogit (b : Fin 4) (h : Fin 8) (i j : Fin 2048) : EReal :=
  (∑ d, q (ix3 b i (col h d)) * k (ix3 b j (col h d))) * Ideal.ofBits .f32 1035273459#32 + rb (ix2 (bidx (i.val - j.val)) h)

open Classical in
/-- The logit of query `i` at key `j`. -/
def sLogit (b : Fin 4) (h : Fin 8) (i j : Fin 2048) : EReal := if Sees q k b h i j then seenLogit q k rb b h i j else ⊥

/-- The attention output of batch `b`, head `h`, query `i`, column `d`. -/
def sOut (b : Fin 4) (h : Fin 8) (i : Fin 2048) (d : Fin 128) : EReal :=
  attn (sLogit q k rb b h i) (fun j => v (ix3 b j (col h d))) (fun _ => 1)

/-- The attention output as an array. -/
def spec : Vec Ideal Rows .bf16 := fun y => sOut q k v rb (y 0) ⟨(y 2).val / 128, by have := (y 2).isLt; simp at this; omega⟩ (y 1)
  ⟨(y 2).val % 128, Nat.mod_lt _ (by omega)⟩

end Moba
-- ==== Proof.KernelValue.lean ====
module

public import proofs.«01_k».proof.Proof.OutBlock
public import proofs.«01_k».proof.Proof.HostTables
public import proofs.«01_k».proof.Proof.Spec
public import Idealize.ShloMosaic.Lib.Pipeline.ValueKit

/-! The kernel's result array is the attention output. -/

@[expose] public section
set_option maxRecDepth 16384
noncomputable section
namespace Moba
open Cert.KernelIdeal Cert.KernelIdeal.Gen Idealize.ShloMosaic

variable (q k v : Vec Ideal Rows .f32) (rb : Vec Ideal Table .f32)

/-- The body's logit on the blocks of one batch and head is the logit of the arrays. -/
theorem logit_eq (b : Fin 4) (h : Fin 8) (far : EReal) (x1 x2 : Vec Ideal S1x2048x128 .f32) (x4 : Vec Ideal S1x2x256x256 .f32)
    (hf : far = rb (ix2 31 h)) (h1 : ∀ i d, x1 (ix3 0 i d) = q (ix3 b i (col h d))) (h2 : ∀ i d, x2 (ix3 0 i d) = k (ix3 b i (col h d)))
    (h40 : ∀ r c, x4 (ix4 0 0 r c) = if c.val ≤ r.val then rb (ix2 (bidx (r.val - c.val)) h) else ⊥)
    (h41 : ∀ r c, x4 (ix4 0 1 r c) = rb (ix2 (bidx (256 + r.val - c.val)) h)) (i j : Fin 2048) :
    logit far x1 x2 x4 i j = sLogit q k rb b h i j := by
  have hg : gate x1 x2 i = sGate q k b h i := by
    funext n
    unfold gate sGate kmean sMean
    simp only [h1, h2]
  have hs : (∑ d, x1 (ix3 0 i d) * x2 (ix3 0 j d)) = ∑ d, q (ix3 b i (col h d)) * k (ix3 b j (col h d)) := by
    simp only [h1, h2]
  unfold logit sLogit seenLogit
  rw [hg, hs]
  generalize (∑ d, q (ix3 b i (col h d)) * k (ix3 b j (col h d))) * Ideal.ofBits .f32 1035273459#32 = S
  have hsel : (j.val / 256 ≤ i.val / 256 ∧ (i.val / 256 ≤ 3 ∨ Ideal.ofBits .f32 1056964608#32 < keep (i.val / 256) (sGate q k b h i) ⟨j.val / 256, by omega⟩))
      ↔ (j.val / 256 = i.val / 256 ∨ j.val / 256 < i.val / 256 ∧ rank (i.val / 256) (sGate q k b h i) ⟨j.val / 256, by omega⟩ < 3) := by
    rcases lt_trichotomy (j.val / 256) (i.val / 256) with hlt | heq | hgt
    · have hne : ¬ j.val / 256 = i.val / 256 := hlt.ne
      simp only [hlt.le, hlt, hne, true_and, false_or]
      unfold keep
      simp only [hlt, if_true]
      constructor
      · rintro (h3 | hk)
        · exact rank_lt _ _ _ hlt h3
        · by_contra hr
          rw [if_neg hr] at hk
          exact not_half_lt_zero hk
      · intro hr
        rw [if_pos hr]
        exact Or.inr half_lt_one
    · unfold keep
      simp only [heq, le_refl, lt_irrefl, if_false, if_true, true_and, true_or, iff_true]
      exact Or.inr half_lt_one
    · simp only [not_le.mpr hgt, hgt.ne', not_lt.mpr hgt.le, false_and, or_false]
  rw [if_congr hsel rfl rfl]
  by_cases hc : (j.val / 256 = i.val / 256 ∨ j.val / 256 < i.val / 256 ∧ rank (i.val / 256) (sGate q k b h i) ⟨j.val / 256, by omega⟩ < 3)
  · rw [if_pos hc]
    have hle : j.val / 256 ≤ i.val / 256 := by rcases hc with h | h <;> omega
    unfold biasOf
    by_cases hji : j ≤ i
    · have hS : Sees q k b h i j := ⟨hji, hc⟩
      rw [if_pos hS]
      have hji' : j.val ≤ i.val := hji
      congr 1
      by_cases c1 : j.val < i.val / 256 * 256 - 256
      · rw [if_pos c1, hf, bidx_far _ (by omega) (by omega)]
      rw [if_neg c1]
      by_cases c2 : j.val < i.val / 256 * 256
      · rw [if_pos c2, h41]; congr 3; show 256 + i.val % 256 - j.val % 256 = _; omega
      · rw [if_neg c2, h40, if_pos (by show j.val % 256 ≤ i.val % 256; omega)]; congr 3; show i.val % 256 - j.val % 256 = _; omega
    · have hS : ¬ Sees q k b h i j := fun h => hji h.1
      rw [if_neg hS]
      have hji' : ¬ j.val ≤ i.val := hji
      rw [if_neg (by omega), if_neg (by omega), h40, if_neg (by show ¬ j.val % 256 ≤ i.val % 256; omega)]
      exact EReal.add_bot _
  · have hS : ¬ Sees q k b h i j := fun h => hc h.2
    rw [if_neg hc, if_neg hS]

variable (m : (ℓ : Loc nD τ sig) → ℓ.ty.Contents (Elt Idealize.ShloMosaic.Ideal))

/-- The block indices of the seven windows at a grid point (batch, head). -/
theorem index_eq : ∀ t : Fin grid0.N, win0_0.index t = ![0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 1).val, 0, 0, 0] ∧ win0_5.index t = ![0, 0]
    ∧ win0_6.index t = ![(grid0.coords t 0).val, 0, (grid0.coords t 1).val] := by
  decide +kernel

theorem coord0 (t : Fin grid0.N) : (grid0.coords t 0).val < 4 := (grid0.coords t 0).isLt
theorem coord1 (t : Fin grid0.N) : (grid0.coords t 1).val < 8 := (grid0.coords t 1).isLt

/-- The head of a grid point. -/
def headOf (t : Fin grid0.N) : Fin 8 := ⟨(grid0.coords t 1).val, coord1 t⟩
/-- The batch of a grid point. -/
def batchOf (t : Fin grid0.N) : Fin 4 := ⟨(grid0.coords t 0).val, coord0 t⟩

theorem far_blk (c : Dev nD) (t : Fin cfg0.N) :
    iblk m c 0 t (ix1 (grid0.coords t 1)) = m (c, Proc.tc.devRef main_arg3) (ix2 31 (headOf t)) := by
  obtain ⟨e0, -⟩ := index_eq t
  rw [← V_main_arg3 m c, ← far_at m c (headOf t)]
  blk_ext [iblk, e0, headOf]

theorem q_blk (c : Dev nD) (t : Fin cfg0.N) (i : Fin 2048) (d : Fin 128) :
    iblk m c 1 t (ix3 0 i d) = m (c, Proc.tc.devRef main_arg0) (ix3 (batchOf t) i (col (headOf t) d)) := by
  obtain ⟨-, e1, -⟩ := index_eq t
  rw [← V_main_arg0 m c]
  blk_ext [iblk, e1, headOf, batchOf, col]

theorem k_blk (c : Dev nD) (t : Fin cfg0.N) (i : Fin 2048) (d : Fin 128) :
    iblk m c 2 t (ix3 0 i d) = m (c, Proc.tc.devRef main_arg1) (ix3 (batchOf t) i (col (headOf t) d)) := by
  obtain ⟨-, -, e1, -⟩ := index_eq t
  rw [← V_main_arg1 m c]
  blk_ext [iblk, e1, headOf, batchOf, col]

theorem v_blk (c : Dev nD) (t : Fin cfg0.N) (i : Fin 2048) (d : Fin 128) :
    iblk m c 3 t (ix3 0 i d) = m (c, Proc.tc.devRef main_arg2) (ix3 (batchOf t) i (col (headOf t) d)) := by
  obtain ⟨-, -, -, e1, -⟩ := index_eq t
  rw [← V_main_arg2 m c]
  blk_ext [iblk, e1, headOf, batchOf, col]

theorem bias_blk (c : Dev nD) (t : Fin cfg0.N) (a : Fin 2) (i j : Fin 256) :
    iblk m c 4 t (ix4 0 a i j) = (V m c main_v76 : Vec Ideal S8x2x256x256 .f32) (ix4 (headOf t) a i j) := by
  obtain ⟨-, -, -, -, e1, -⟩ := index_eq t
  blk_ext [iblk, e1, headOf]

theorem expand_blk (c : Dev nD) (t : Fin cfg0.N) (n : Fin 8) (j : Fin 2048) :
    iblk m c 5 t (ix2 n j) = (V m c main_v87 : Vec Ideal S8x2048 .f32) (ix2 n j) := by
  obtain ⟨-, -, -, -, -, e1, -⟩ := index_eq t
  blk_ext [iblk, e1]

theorem out_emb (t : Fin cfg0.N) (i : Fin 2048) (d : Fin 128) :
    (win0_6.blk t).view.emb (ix3 0 i d) = (ix3 (batchOf t) i (col (headOf t) d) : Rows.Idx) := by
  obtain ⟨-, -, -, -, -, -, e1⟩ := index_eq t
  blk_ext [e1, batchOf, headOf, col]

theorem kernel_value (c : Dev nD) :
    (dats m 0 c).arrAt 6 cfg0.N = spec (m (c, Proc.tc.devRef main_arg0)) (m (c, Proc.tc.devRef main_arg1))
      (m (c, Proc.tc.devRef main_arg2)) (m (c, Proc.tc.devRef main_arg3)) := by
  refine (dats m 0 c).arrAt_eq_of_covers 6 _ (by decide +kernel) fun t hf y => ?_
  blk_simp
  rw [after0_6]
  unfold outsAt0
  rw [out_eq _ _ _ _ _ _ _ _ _ _ _ _ _ _ _ _ _ _ _ _ _ _ fun n j => by rw [expand_blk, expand_at]]
  obtain ⟨z, i, d, rfl⟩ : ∃ (z : Fin 1) (i : Fin 2048) (d : Fin 128), y = ix3 z i d := ⟨y 0, y 1, y 2, eq_ix3 y⟩
  obtain rfl : z = 0 := Subsingleton.elim _ _
  rw [out_emb]
  show attn _ _ _ = sOut _ _ _ _ _ _ _ _
  have eh : (⟨(col (headOf t) d).val / 128, by have := (col (headOf t) d).isLt; omega⟩ : Fin 8) = headOf t :=
    Fin.ext (by simp only [col]; omega)
  have ed : (⟨(col (headOf t) d).val % 128, Nat.mod_lt _ (by omega)⟩ : Fin 128) = d := Fin.ext (by simp only [col]; omega)
  refine Eq.trans ?_ (congrArg₂ (fun h d => sOut (m (c, Proc.tc.devRef main_arg0)) (m (c, Proc.tc.devRef main_arg1))
      (m (c, Proc.tc.devRef main_arg2)) (m (c, Proc.tc.devRef main_arg3)) (batchOf t) h i d) eh.symm ed.symm)
  unfold sOut
  congr 1
  · funext j
    refine logit_eq _ _ _ (batchOf t) (headOf t) _ _ _ _ (far_blk m c t) (q_blk m c t) (k_blk m c t) (fun r c' => ?_) (fun r c' => ?_) i j
    · rw [bias_blk, bias_own_at, V_main_arg3]
    · rw [bias_blk, bias_before_at, V_main_arg3]
  · funext j
    exact v_blk m c t j d
end Moba
-- ==== Proof.Gather.lean ====
module

public import proofs.«01_k».proof.Proof.Gen.ReferenceIdeal.Run
public import Idealize.ShloMosaic.Lib.Pointwise
public import Idealize.ShloMosaic.Lib.ValueIdxCore

/-! The reference's two gathers at an index: whole blocks of keys or values by batch, block and head, and entries of
the bias table by head and bucket. -/

@[expose] public section
set_option maxRecDepth 16384
noncomputable section
namespace Moba
open Cert.ReferenceIdeal Cert.ReferenceIdeal.Gen Idealize.ShloMosaic

/-- A start index word in range, clamped, is itself. -/
theorem clamp_word (n N : ℕ) (hN : N ≤ 4096) (hn : n < N) :
    min (BitVec.ofNat 32 n).toInt.toNat (N - 1) = n := by
  have : (BitVec.ofNat 32 n).toInt = n := by
    rw [BitVec.toInt_eq_toNat_cond, BitVec.toNat_ofNat]
    omega
  rw [this]; omega

theorem gather_blocks {α : Type} (x : S4x8x256x8x128.Idx → α) (idx : IVec S4x8x2048x4x3 32) (b : Fin 4) (h : Fin 8)
    (i : Fin 2048) (s : Fin 4) (c : Fin 256) (d : Fin 128) (b' : Fin 4) (n : Fin 8) (h' : Fin 8)
    (hb : idx (ix5 b h i s 0) = BitVec.ofNat 32 b'.val) (hn : idx (ix5 b h i s 1) = BitVec.ofNat 32 n.val)
    (hh : idx (ix5 b h i s 2) = BitVec.ofNat 32 h'.val) :
    Host.gather gather_S4x8x256x8x128_S4x8x2048x4x3_S4x8x2048x4x256x128_45_013_n_n_013_4_112561128 x idx (ix6 b h i s c d)
      = x (ix5 b' n c h' d) := by
  unfold Host.gather
  congr 1
  funext a
  refine Fin.ext ?_
  show GatherDims.start _ _ _ a + GatherDims.batchCoord _ _ a + GatherDims.offCoord _ _ a = _
  have hs : ∀ k, (gather_S4x8x256x8x128_S4x8x2048x4x3_S4x8x2048x4x256x128_45_013_n_n_013_4_112561128).siIdx (ix6 b h i s c d) k
      = ix5 b h i s ⟨k.val, k.isLt⟩ := by
    intro k
    funext a; refine Fin.ext ?_
    match a with
    | ⟨0, _⟩ => rfl
    | ⟨1, _⟩ => rfl
    | ⟨2, _⟩ => rfl
    | ⟨3, _⟩ => rfl
    | ⟨4, _⟩ => rfl
  rw [GatherDims.batchCoord_eq_zero _ _ _ List.not_mem_nil]
  simp only [Nat.add_zero]
  unfold GatherDims.start
  simp only [hs]
  fin_cases a
  · rw [GatherDims.offCoord_eq_zero _ _ _ (fun h => ((GatherDims.mem_sKept _ _).mp h).1 (by decide)), dif_pos (by decide)]
    show min (idx (ix5 b h i s 0)).toInt.toNat (4 - 1) + 0 = b'.val
    rw [hb, clamp_word _ 4 (by norm_num) b'.isLt]; rfl
  · rw [GatherDims.offCoord_eq_zero _ _ _ (fun h => ((GatherDims.mem_sKept _ _).mp h).1 (by decide)), dif_pos (by decide)]
    show min (idx (ix5 b h i s 1)).toInt.toNat (8 - 1) + 0 = n.val
    rw [hn, clamp_word _ 8 (by norm_num) n.isLt]; rfl
  · rw [dif_neg (by decide)]; show 0 + c.val = c.val; omega
  · rw [GatherDims.offCoord_eq_zero _ _ _ (fun h => ((GatherDims.mem_sKept _ _).mp h).1 (by decide)), dif_pos (by decide)]
    show min (idx (ix5 b h i s 2)).toInt.toNat (8 - 1) + 0 = h'.val
    rw [hh, clamp_word _ 8 (by norm_num) h'.isLt]; rfl
  · rw [dif_neg (by decide)]; show 0 + d.val = d.val; omega

theorem gather_table {α : Type} (x : S8x32.Idx → α) (idx : IVec S4x8x2048x4x256x2 32) (b : Fin 4) (h : Fin 8)
    (i : Fin 2048) (s : Fin 4) (c : Fin 256) (h' : Fin 8) (r : Fin 32)
    (hh : idx (ix6 b h i s c 0) = BitVec.ofNat 32 h'.val) (hr : idx (ix6 b h i s c 1) = BitVec.ofNat 32 r.val) :
    Host.gather gather_S8x32_S4x8x2048x4x256x2_S4x8x2048x4x256_n_01_n_n_01_5_11 x idx (ix5 b h i s c)
      = x (ix2 h' r) := by
  unfold Host.gather
  congr 1
  funext a
  refine Fin.ext ?_
  show GatherDims.start _ _ _ a + GatherDims.batchCoord _ _ a + GatherDims.offCoord _ _ a = _
  have hs : ∀ k, (gather_S8x32_S4x8x2048x4x256x2_S4x8x2048x4x256_n_01_n_n_01_5_11).siIdx (ix5 b h i s c) k
      = ix6 b h i s c ⟨k.val, k.isLt⟩ := by
    intro k
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  rw [GatherDims.batchCoord_eq_zero _ _ _ List.not_mem_nil]
  simp only [Nat.add_zero]
  unfold GatherDims.start
  simp only [hs]
  fin_cases a
  · rw [GatherDims.offCoord_eq_zero _ _ _ (fun h => ((GatherDims.mem_sKept _ _).mp h).1 (by decide)), dif_pos (by decide)]
    show min (idx (ix6 b h i s c 0)).toInt.toNat (8 - 1) + 0 = h'.val
    rw [hh, clamp_word _ 8 (by norm_num) h'.isLt]; rfl
  · rw [GatherDims.offCoord_eq_zero _ _ _ (fun h => ((GatherDims.mem_sKept _ _).mp h).1 (by decide)), dif_pos (by decide)]
    show min (idx (ix6 b h i s c 1)).toInt.toNat (32 - 1) + 0 = r.val
    rw [hr, clamp_word _ 32 (by norm_num) r.isLt]; rfl

end Moba
-- ==== Proof.Order.lean ====
module

public import proofs.«01_k».proof.Proof.Rank
public import Idealize.ShloMosaic.Lib.SortFacts
public import Idealize.ShloMosaic.Lib.SortPrefix

/-! The stable descending sort of the gates of one query, against the rank of a block: the entry at sorted position
`s` is the block that exactly `s` blocks beat. -/

@[expose] public section
noncomputable section
namespace Moba
open Idealize.ShloMosaic

/-- A sort of a list depends on the comparator only at pairs in the list's order. -/
theorem stableSort_of_pairwise {ι : Type} (B B' : ι → ι → Bool) (P : ι → ι → Prop)
    (h : ∀ a b, P a b → B b a = B' b a) (l : List ι) (hl : l.Pairwise P) : stableSort B l = stableSort B' l := by
  induction l with
  | nil => rfl
  | cons a l ih =>
    rw [List.pairwise_cons] at hl
    unfold stableSort
    rw [ih hl.2]
    exact insertBefore_congr _ _ _ _ fun b hb => h a b (hl.1 b ((perm_stableSort B' l).mem_iff.mp hb))

/-- Descending by value. -/
def gtB {n : ℕ} (x : Fin n → EReal) (k k' : Fin n) : Bool := decide (x k' < x k)

/-- Descending by value, then ascending by position. -/
def gtP {n : ℕ} (x : Fin n → EReal) (k k' : Fin n) : Bool :=
  decide (x k' < x k) || (decide (x k = x k') && decide (k < k'))

theorem gtP_total {n : ℕ} (x : Fin n → EReal) : StrictTotalBefore (gtP x) :=
  StrictTotalBefore.of_key_then_position (fun a b : EReal => decide (b < a)) x (by simp)
    (by simp only [decide_eq_true_eq]; intro a b c h h'; exact h'.trans h)
    (by simp only [decide_eq_true_eq]; intro a b; rcases lt_trichotomy b a with h | h | h <;> simp [h])

theorem sortedFrom_gtB {n : ℕ} (x : Fin n → EReal) : sortedFrom (gtB x) = sortedFrom (gtP x) := by
  have h : sortPositions n (gtB x) = sortPositions n (gtP x) := by
    refine stableSort_of_pairwise _ _ (· < ·) (fun a b hab => ?_) _ (List.pairwise_lt_finRange n)
    simp [gtB, gtP, not_lt_of_gt hab]
  funext k
  unfold sortedFrom
  simp only [List.get_eq_getElem, h, Fin.val_cast]

theorem gtP_sorted {n : ℕ} (x : Fin n → EReal) (s t : Fin n) :
    gtP x (sortedFrom (gtP x) t) (sortedFrom (gtP x) s) = true ↔ t < s := by
  have hB := gtP_total x
  have key : ∀ i j : Fin n, i < j → gtP x (sortedFrom (gtP x) i) (sortedFrom (gtP x) j) = true := fun i j hij => by
    have h := sortedFrom_noInversion (gtP x) (gtP x) hB.asymm (fun _ _ h => h) hB.negTrans i j hij
    rcases hB.total _ _ ((sortedFrom_injective (gtP x)).ne hij.ne) with h' | h'
    · exact h'
    · rw [h] at h'; cases h'
  refine ⟨fun h => ?_, key t s⟩
  rcases lt_trichotomy t s with h' | h' | h'
  · exact h'
  · subst h'; rw [hB.irrefl] at h; cases h
  · rw [hB.asymm _ _ (key _ _ h')] at h; cases h

/-- The number of entries before the one at sorted position `s` is `s`. -/
theorem card_before {n : ℕ} (x : Fin n → EReal) (s : Fin n) :
    (Finset.univ.filter fun m => gtP x m (sortedFrom (gtP x) s) = true).card = s.val := by
  have h : (Finset.univ.filter fun m => gtP x m (sortedFrom (gtP x) s) = true)
      = (Finset.univ.filter fun t : Fin n => t < s).image (sortedFrom (gtP x)) := by
    ext m
    obtain ⟨t, rfl⟩ := sortedFrom_surjective (gtP x) m
    simp only [Finset.mem_filter, Finset.mem_univ, true_and, Finset.mem_image, gtP_sorted]
    refine ⟨fun h => ⟨t, h, rfl⟩, fun ⟨t', h, e⟩ => ?_⟩
    rw [← sortedFrom_injective (gtP x) e]; exact h
  rw [h, Finset.card_image_of_injective _ (sortedFrom_injective (gtP x))]
  have : (Finset.univ.filter fun t : Fin n => t < s) = Finset.Iio s := by ext; simp
  rw [this, Fin.card_Iio]

/-- The gates of one query with the blocks not before its own block set to `⊥`. -/
def masked (own : ℕ) (g : Fin 8 → EReal) (n : Fin 8) : EReal := if n.val < own then g n else ⊥

open Classical in
theorem rank_card (own : ℕ) (g : Fin 8 → EReal) (hg : ∀ n, g n ≠ ⊥) (n : Fin 8) (hn : n.val < own) :
    rank own g n = (Finset.univ.filter fun m => gtP (masked own g) m n = true).card := by
  rw [rank, Finset.card_filter]
  refine Finset.sum_congr rfl fun m _ => if_congr ?_ rfl rfl
  unfold Beats gtP masked
  simp only [Bool.or_eq_true, Bool.and_eq_true, decide_eq_true_eq, if_pos hn]
  by_cases hm : m.val < own
  · simp only [if_pos hm, hm, true_and]
    by_cases hmn : m < n
    · simp only [hmn, if_true, and_true]
      rw [le_iff_lt_or_eq, eq_comm (a := g n)]
    · simp [hmn]
  · rw [if_neg hm]
    simp only [hm, false_and, false_iff, not_or, not_lt_bot, not_false_eq_true, true_and, not_and]
    intro h; exact absurd h.symm (hg n)

/-- The block at sorted position `s`, where it lies before the query's own, is beaten by `s` blocks. -/
theorem rank_sorted (own : ℕ) (g : Fin 8 → EReal) (hg : ∀ n, g n ≠ ⊥) (s : Fin 8)
    (hs : (sortedFrom (gtB (masked own g)) s).val < own) : rank own g (sortedFrom (gtB (masked own g)) s) = s.val := by
  rw [rank_card own g hg _ hs, sortedFrom_gtB, card_before]

theorem exists_sorted (own : ℕ) (g : Fin 8 → EReal) (hg : ∀ n, g n ≠ ⊥) (n : Fin 8) (hn : n.val < own)
    (hr : rank own g n < 3) : ∃ s : Fin 8, s.val < 3 ∧ sortedFrom (gtB (masked own g)) s = n := by
  obtain ⟨s, rfl⟩ := sortedFrom_surjective (gtB (masked own g)) n
  rw [rank_sorted own g hg s hn] at hr
  exact ⟨s, hr, rfl⟩

end Moba
-- ==== Proof.RefSelect.lean ====
module

public import proofs.«01_k».proof.Proof.Gather
public import proofs.«01_k».proof.Proof.Spec
public import proofs.«01_k».proof.Proof.Order
public import Idealize.ShloMosaic.Lib.Tactic.CleanTypes

/-! The reference's selection: the block of a query, the masked gates and the three blocks of highest gate. -/

@[expose] public section
set_option maxRecDepth 16384
noncomputable section
namespace Moba
open Cert.ReferenceIdeal Cert.ReferenceIdeal.Gen Cert.ReferenceIdeal.Value Idealize.ShloMosaic

variable (V0 : Valuation τ sig (Elt Idealize.ShloMosaic.Ideal))

/-- The queries. -/
abbrev qOf : Vec Ideal Rows .f32 := V0 (Proc.devRef .tc main_arg0)
/-- The keys. -/
abbrev kOf : Vec Ideal Rows .f32 := V0 (Proc.devRef .tc main_arg1)
/-- The values. -/
abbrev vOf : Vec Ideal Rows .f32 := V0 (Proc.devRef .tc main_arg2)
/-- The bias table. -/
abbrev rbOf : Vec Ideal Table .f32 := V0 (Proc.devRef .tc main_arg3)

theorem own_at (i : Fin 2048) : (res_main_v13 V0 : IVec S2048 32) (ix1 i) = BitVec.ofNat 32 (i.val / 256) := by
  rw [← floorDiv256_word i.val i.isLt]
  unfold res_main_v13 res_main_call0_v2 res_main_call0_v0 res_main_v12
  clean_types
  pointwise
  rfl

theorem q_at (b : Fin 4) (i : Fin 2048) (h : Fin 8) (d : Fin 128) :
    (res_main_v0 V0 : Vec Ideal S4x2048x8x128 .f32) (ix4 b i h d) = qOf V0 (ix3 b i (col h d)) := by
  unfold res_main_v0
  clean_types
  pointwise
  rfl

theorem k_at (b : Fin 4) (n : Fin 8) (c : Fin 256) (h : Fin 8) (d : Fin 128) :
    (res_main_v1 V0 : Vec Ideal S4x8x256x8x128 .f32) (ix5 b n c h d) = kOf V0 (ix3 b ⟨n.val * 256 + c.val, by omega⟩ (col h d)) := by
  unfold res_main_v1
  clean_types
  pointwise
  rfl

theorem gate_at (b : Fin 4) (h : Fin 8) (i : Fin 2048) (n : Fin 8) :
    (res_main_v21 V0 : Vec Ideal S4x8x2048x8 .f32) (ix4 b h i n)
      = masked (i.val / 256) (sGate (qOf V0) (kOf V0) b h i) n := by
  unfold res_main_v21
  clean_types
  pointwise
  simp only [own_at, q_at, k_at]
  have hg : (∑ x, qOf V0 (ix3 b i (col h x)) * Ideal.div (∑ x_1 : Fin 256, kOf V0 (ix3 b ⟨n.val * 256 + x_1.val, by omega⟩ (col h x)))
      (Ideal.ofBits FTy.f32 1132462080#32)) = sGate (qOf V0) (kOf V0) b h i n :=
    Finset.sum_congr rfl fun d _ => mul_comm _ _
  rw [hg]
  unfold masked
  by_cases hn : n.val < i.val / 256
  · have : IntOp.cmpi CmpIPredicate.slt (BitVec.ofNat 32 n.val) (BitVec.ofNat 32 (i.val / 256)) = 1#1 := by word_omega
    rw [this, if_pos hn]; rfl
  · have : IntOp.cmpi CmpIPredicate.slt (BitVec.ofNat 32 n.val) (BitVec.ofNat 32 (i.val / 256)) = 0#1 := by word_omega
    rw [this, if_neg hn]; exact ofBits_neg_inf

/-- The block in slot `s` of the descending order of the masked gates. -/
def ranked (b : Fin 4) (h : Fin 8) (i : Fin 2048) (s : Fin 8) : Fin 8 :=
  sortedFrom (gtB (masked (i.val / 256) (sGate (qOf V0) (kOf V0) b h i))) s

theorem sort_at (b : Fin 4) (h : Fin 8) (i : Fin 2048) (s : Fin 8) (x : Vec Ideal S4x8x2048x8 .f32)
    (g : Fin 8 → EReal) (hx : ∀ n, x (ix4 b h i n) = g n) (y : IVec S4x8x2048x8 32) :
    (Host.sort2 S4x8x2048x8 3 (fun l r => FloatOps.cmpfTotal (F := Ideal) (φ := .f32) .gt l.1 r.1) x y).1 (ix4 b h i s) = g (sortedFrom (gtB g) s)
    ∧ (Host.sort2 S4x8x2048x8 3 (fun l r => FloatOps.cmpfTotal (F := Ideal) (φ := .f32) .gt l.1 r.1) x y).2 (ix4 b h i s)
      = y (ix4 b h i (sortedFrom (gtB g) s)) := by
  have hd : 3 < S4x8x2048x8.rank := by decide
  have ha : ∀ k : Fin 8, Shape.Idx.along (ix4 b h i s : S4x8x2048x8.Idx) (⟨3, hd⟩ : Fin S4x8x2048x8.rank) k = ix4 b h i k := by
    intro k
    funext a
    match a with
    | ⟨0, _⟩ => rfl
    | ⟨1, _⟩ => rfl
    | ⟨2, _⟩ => rfl
    | ⟨3, _⟩ => rfl
  have hB : (fun k k' : Fin 8 => FloatOps.cmpfTotal (F := Ideal) (φ := .f32) .gt (x (ix4 b h i k)) (x (ix4 b h i k')) == 1#1) = gtB g := by
    funext k k'
    rw [hx, hx]
    unfold gtB
    show (BitVec.ofBool (decide (g k' < g k)) == 1#1) = _
    by_cases hh : g k' < g k <;> simp [hh]
  unfold Host.sort2
  rw [dif_pos hd]
  constructor
  · show x (Shape.Idx.along (ix4 b h i s : S4x8x2048x8.Idx) (⟨3, hd⟩ : Fin S4x8x2048x8.rank) (sortedFrom (fun k k' : Fin 8 => _) s)) = _
    simp only [ha]
    rw [hB]
    exact (congrArg x (ha (sortedFrom (gtB g) s))).trans (hx _)
  · show y (Shape.Idx.along (ix4 b h i s : S4x8x2048x8.Idx) (⟨3, hd⟩ : Fin S4x8x2048x8.rank) (sortedFrom (fun k k' : Fin 8 => _) s)) = _
    simp only [ha]
    rw [hB]
    exact congrArg y (ha (sortedFrom (gtB g) s))

theorem top_at (b : Fin 4) (h : Fin 8) (i : Fin 2048) (s : Fin 3) (hf) :
    (Host.topK S4x8x2048x3 3 (FloatOps.cmpfTotal (F := Ideal) (φ := .f32) .gt) (res_main_v21 V0 : Vec Ideal S4x8x2048x8 .f32) hf).1 (ix4 b h i s)
      = masked (i.val / 256) (sGate (qOf V0) (kOf V0) b h i) (ranked V0 b h i ⟨s.val, by omega⟩)
    ∧ (Host.topK S4x8x2048x3 3 (FloatOps.cmpfTotal (F := Ideal) (φ := .f32) .gt) (res_main_v21 V0 : Vec Ideal S4x8x2048x8 .f32) hf).2 (ix4 b h i s)
      = BitVec.ofNat 32 (ranked V0 b h i ⟨s.val, by omega⟩).val := by
  unfold Host.topK
  constructor
  · pointwise
    exact (sort_at b h i ⟨s.val, by omega⟩ _ _ (gate_at V0 b h i) _).1
  · pointwise
    exact (sort_at b h i ⟨s.val, by omega⟩ _ _ (gate_at V0 b h i) _).2

/-- The block in slot `s` of a query: the three ranked blocks, then its own. -/
def slotBlock (b : Fin 4) (h : Fin 8) (i : Fin 2048) (s : Fin 4) : Fin 8 :=
  if s.val < 3 then ranked V0 b h i ⟨s.val, by omega⟩ else ⟨i.val / 256, by omega⟩

theorem sel_at (b : Fin 4) (h : Fin 8) (i : Fin 2048) (s : Fin 4) :
    (res_main_v24 V0 : IVec S4x8x2048x4 32) (ix4 b h i s) = BitVec.ofNat 32 (slotBlock V0 b h i s).val := by
  unfold res_main_v24 slotBlock
  clean_types
  generalize hT : Host.topK S4x8x2048x3 3 _ _ _ = T
  pointwise
  by_cases hs : s.val < 3
  · rw [dif_pos hs, if_pos hs, ← hT]
    exact (top_at V0 b h i ⟨s.val, hs⟩ _).2
  · rw [dif_neg hs, if_neg hs]
    exact own_at V0 i

end Moba
-- ==== Proof.RefLogits.lean ====
module

public import proofs.«01_k».proof.Proof.RefSelect

/-! The reference's logits: for a query, a slot and a column of the slot's block, the logit of the key that lies there. -/

@[expose] public section
set_option maxRecDepth 16384
noncomputable section
namespace Moba
open Cert.ReferenceIdeal Cert.ReferenceIdeal.Gen Cert.ReferenceIdeal.Value Idealize.ShloMosaic

variable (V0 : Valuation τ sig (Elt Idealize.ShloMosaic.Ideal))

/-- The position of column `c` of the block in slot `s`. -/
def keyPos (b : Fin 4) (h : Fin 8) (i : Fin 2048) (s : Fin 4) (c : Fin 256) : Fin 2048 :=
  ⟨(slotBlock V0 b h i s).val * 256 + c.val, by omega⟩

theorem dist_at (b : Fin 4) (h : Fin 8) (i : Fin 2048) (s : Fin 4) (c : Fin 256) :
    (res_main_v83 V0 : IVec S4x8x2048x4x256 32) (ix5 b h i s c)
      = IntOp.subi (BitVec.ofNat 32 i.val) (BitVec.ofNat 32 (keyPos V0 b h i s c).val) := by
  unfold res_main_v83 res_main_v12
  clean_types
  pointwise
  rw [sel_at]
  unfold keyPos IntOp.addi IntOp.muli
  rw [BitVec.ofNat_add, BitVec.ofNat_mul]

theorem reach_at (b : Fin 4) (h : Fin 8) (i : Fin 2048) (s : Fin 4) (c : Fin 256) :
    (res_main_v91 V0 : IVec S4x8x2048x4x256 32) (ix5 b h i s c) = BitVec.ofNat 32 (i.val - (keyPos V0 b h i s c).val) := by
  unfold res_main_v91
  clean_types
  pointwise
  rw [dist_at, dist_word _ _ (by omega) (by omega)]

theorem bucket_at (b : Fin 4) (h : Fin 8) (i : Fin 2048) (s : Fin 4) (c : Fin 256) :
    (res_main_v109 V0 : IVec S4x8x2048x4x256 32) (ix5 b h i s c)
      = BitVec.ofNat 32 (bidx (i.val - (keyPos V0 b h i s c).val)).val := by
  rw [← bword_eq _ (by omega), ← reach_at]
  unfold res_main_v109
  clean_types
  pointwise
  rfl

/-- An index that is not negative is not moved by the length of its axis. -/
theorem wrap_word (n : ℕ) (hn : n ≤ 4096) (N : BitVec 32) :
    Scalar.select (IntOp.cmpi CmpIPredicate.slt (BitVec.ofNat 32 n) 0#32) (IntOp.addi (BitVec.ofNat 32 n) N) (BitVec.ofNat 32 n)
      = BitVec.ofNat 32 n := by
  have : IntOp.cmpi CmpIPredicate.slt (BitVec.ofNat 32 n) 0#32 = 0#1 := by
    unfold IntOp.cmpi
    simp only [BitVec.slt_eq_decide, toInt_ofNat n hn]
    have : ¬ ((n : ℤ) < (0#32).toInt) := by simp
    rw [decide_eq_false this]; rfl
  rw [this]; rfl

/-- A difference of positions is not negative just when the second is not after the first. -/
theorem later_word (a b : ℕ) (ha : a ≤ 4096) (hb : b ≤ 4096) :
    IntOp.cmpi CmpIPredicate.sge (IntOp.subi (BitVec.ofNat 32 a) (BitVec.ofNat 32 b)) 0#32 = BitVec.ofBool (decide (b ≤ a)) := by
  have hs : (IntOp.subi (BitVec.ofNat 32 a) (BitVec.ofNat 32 b)).toInt = (a : ℤ) - b := by
    unfold IntOp.subi
    rw [BitVec.toInt_sub, toInt_ofNat _ ha, toInt_ofNat _ hb]
    exact Int.bmod_eq_of_le (by omega) (by omega)
  unfold IntOp.cmpi
  simp only [BitVec.sle_eq_decide, hs]
  congr 2
  have : (0#32).toInt = 0 := rfl
  rw [this]
  exact propext ⟨fun h => by omega, fun h => by omega⟩

/-- Blocks gathered by three columns of indices: batch, block, head. -/
theorem block_gather (x : Vec Ideal S4x8x256x8x128 .f32) (X Y Z : IVec S4x8x2048x4x1 32) (hc) (b : Fin 4) (h : Fin 8) (i : Fin 2048)
    (s : Fin 4) (c : Fin 256) (d : Fin 128) (n : Fin 8) (hX : X (ix5 b h i s 0) = BitVec.ofNat 32 b.val)
    (hY : Y (ix5 b h i s 0) = BitVec.ofNat 32 n.val) (hZ : Z (ix5 b h i s 0) = BitVec.ofNat 32 h.val) :
    Host.gather gather_S4x8x256x8x128_S4x8x2048x4x3_S4x8x2048x4x256x128_45_013_n_n_013_4_112561128 x
      (concatenate S4x8x2048x4x3 4 [⟨S4x8x2048x4x1, X⟩, ⟨S4x8x2048x4x1, Y⟩, ⟨S4x8x2048x4x1, Z⟩] hc) (ix6 b h i s c d)
      = x (ix5 b n c h d) := by
  refine gather_blocks _ _ _ _ _ _ _ _ _ _ _ ?_ ?_ ?_
  · pointwise; exact hX
  · pointwise; exact hY
  · pointwise; exact hZ

/-- Entries of the bias table gathered by two columns of indices: head, bucket. -/
theorem table_gather (x : Vec Ideal S8x32 .f32) (X Y : IVec S4x8x2048x4x256x1 32) (hc) (b : Fin 4) (h : Fin 8) (i : Fin 2048)
    (s : Fin 4) (c : Fin 256) (r : Fin 32) (hX : X (ix6 b h i s c 0) = BitVec.ofNat 32 h.val)
    (hY : Y (ix6 b h i s c 0) = BitVec.ofNat 32 r.val) :
    Host.gather gather_S8x32_S4x8x2048x4x256x2_S4x8x2048x4x256_n_01_n_n_01_5_11 x
      (concatenate S4x8x2048x4x256x2 5 [⟨S4x8x2048x4x256x1, X⟩, ⟨S4x8x2048x4x256x1, Y⟩] hc) (ix5 b h i s c) = x (ix2 h r) := by
  refine gather_table _ _ _ _ _ _ _ _ _ ?_ ?_
  · pointwise; exact hX
  · pointwise; exact hY

theorem batch_word (b : Fin 4) (i j l : Fin 1) : (res_main_v8 V0 : IVec S4x1x1x1 32) (ix4 b i j l) = BitVec.ofNat 32 b.val := by
  unfold res_main_v8
  clean_types
  pointwise

theorem head_word (h : Fin 8) (i j l : Fin 1) : (res_main_v10 V0 : IVec S1x8x1x1 32) (ix4 i h j l) = BitVec.ofNat 32 h.val := by
  unfold res_main_v10
  clean_types
  pointwise

theorem head_word' (h : Fin 8) (i j l o : Fin 1) : (res_main_v89 V0 : IVec S1x8x1x1x1 32) (ix5 i h j l o) = BitVec.ofNat 32 h.val := by
  unfold res_main_v89
  clean_types
  pointwise
  exact head_word V0 h _ _ _

/-- The slot of a flat position. -/
abbrev slotOf (k : Fin 1024) : Fin 4 := ⟨k.val / 256, by omega⟩
/-- The column of a flat position. -/
abbrev colOf (k : Fin 1024) : Fin 256 := ⟨k.val % 256, Nat.mod_lt _ (by omega)⟩

/-- Whether the key at a slot and column is seen. -/
def SlotSees (b : Fin 4) (h : Fin 8) (i : Fin 2048) (s : Fin 4) (c : Fin 256) : Prop :=
  (s.val < 3 → (slotBlock V0 b h i s).val < i.val / 256) ∧ keyPos V0 b h i s c ≤ i

theorem abs_real (r : ℝ) : FloatOps.absf (F := Ideal) (φ := .f32) (r : EReal) < ⊤ := by
  show max (r : EReal) (-(r : EReal)) < ⊤
  exact max_lt (EReal.coe_lt_top r) (by rw [← EReal.coe_neg]; exact EReal.coe_lt_top _)

theorem abs_bot : ¬ FloatOps.absf (F := Ideal) (φ := .f32) (⊥ : EReal) < ⊤ := by
  show ¬ max (⊥ : EReal) (-(⊥ : EReal)) < ⊤
  simp

open Classical in
theorem logits_at (b : Fin 4) (h : Fin 8) (i : Fin 2048) (hg : ∀ n, ∃ r : ℝ, sGate (qOf V0) (kOf V0) b h i n = r) (k : Fin 1024) :
    (res_main_v130 V0 : Vec Ideal S4x8x2048x1024 .f32) (ix4 b h i k)
      = (if SlotSees V0 b h i (slotOf k) (colOf k) then seenLogit (qOf V0) (kOf V0) (rbOf V0) b h i (keyPos V0 b h i (slotOf k) (colOf k))
        else ⊥ : EReal) := by
  unfold res_main_v130
  clean_types
  generalize hG : Host.gather gather_S4x8x256x8x128_S4x8x2048x4x3_S4x8x2048x4x256x128_45_013_n_n_013_4_112561128 _ _ = G
  have hG' : ∀ d, G (ix6 b h i (slotOf k) (colOf k) d)
      = (res_main_v1 V0 : Vec Ideal S4x8x256x8x128 .f32) (ix5 b (slotBlock V0 b h i (slotOf k)) (colOf k) h d) := by
    intro d
    rw [← hG]
    exact block_gather _ _ _ _ _ b h i (slotOf k) (colOf k) d (slotBlock V0 b h i (slotOf k))
      (by pointwise; rw [batch_word]; exact wrap_word _ (by omega) _)
      (by pointwise; rw [sel_at]; exact wrap_word _ (by omega) _)
      (by pointwise; rw [head_word]; exact wrap_word _ (by omega) _)
  pointwise
  rw [table_gather _ _ _ _ b h i (slotOf k) (colOf k) (bidx (i.val - (keyPos V0 b h i (slotOf k) (colOf k)).val))
    (by pointwise; rw [head_word']; exact wrap_word _ (by omega) _)
    (by pointwise; rw [bucket_at]; exact wrap_word _ (by omega) _), dist_at, later_word _ _ (by omega) (by omega)]
  simp only [hG', q_at, k_at]
  have hok : (if h_1 : k.val / 256 < 3 then BitVec.ofBool (decide (FloatOps.absf (F := Ideal) (φ := .f32)
      ((Host.topK S4x8x2048x3 3 (FloatOps.cmpfTotal (F := Ideal) (φ := .f32) .gt) (res_main_v21 V0 : Vec Ideal S4x8x2048x8 .f32)
        sliceFits_S4x8x2048x8_S4x8x2048x3).1 (ix4 b h i ⟨k.val / 256, h_1⟩)) < Ideal.ofBits FTy.f32 2139095040#32))
      else 1#1) = BitVec.ofBool (decide (k.val / 256 < 3 → (slotBlock V0 b h i (slotOf k)).val < i.val / 256)) := by
    by_cases hk : k.val / 256 < 3
    · rw [dif_pos hk, show Ideal.ofBits FTy.f32 2139095040#32 = ⊤ from ofBits_pos_inf, (top_at V0 b h i ⟨k.val / 256, hk⟩ _).1]
      congr 2
      have hb : slotBlock V0 b h i (slotOf k) = ranked V0 b h i ⟨k.val / 256, by omega⟩ := if_pos hk
      rw [hb]
      unfold masked
      refine propext ⟨fun h1 _ => ?_, fun h1 => ?_⟩
      · by_contra hn
        rw [if_neg hn] at h1
        exact abs_bot h1
      · rw [if_pos (h1 hk)]
        obtain ⟨r, hr⟩ := hg (ranked V0 b h i ⟨k.val / 256, by omega⟩)
        rw [hr]
        exact abs_real r
    · rw [dif_neg hk, decide_eq_true (fun h => absurd h hk)]; rfl
  refine (congrArg (fun w => Scalar.select (IntOp.andi w _) _ _) hok).trans ?_
  by_cases hS : SlotSees V0 b h i (slotOf k) (colOf k)
  · rw [if_pos hS]
    obtain ⟨h1, h2⟩ := hS
    rw [decide_eq_true h1]
    have h3 : (keyPos V0 b h i ⟨k.val / 256, by omega⟩ ⟨k.val % 256, by omega⟩).val ≤ i.val := h2
    rw [decide_eq_true h3]
    unfold seenLogit
    pointwise
    rfl
  · rw [if_neg hS]
    unfold SlotSees at hS
    have hz : IntOp.andi (BitVec.ofBool (decide (k.val / 256 < 3 → (slotBlock V0 b h i (slotOf k)).val < i.val / 256)))
        (BitVec.ofBool (decide ((keyPos V0 b h i (slotOf k) (colOf k)).val ≤ i.val))) = 0#1 := by
      by_cases h1 : k.val / 256 < 3 → (slotBlock V0 b h i (slotOf k)).val < i.val / 256
      · have h2 : ¬ (keyPos V0 b h i (slotOf k) (colOf k)).val ≤ i.val := fun h2 => hS ⟨h1, h2⟩
        rw [decide_eq_false h2]
        unfold IntOp.andi; simp
      · rw [decide_eq_false h1]
        unfold IntOp.andi; simp
    refine (congrArg (fun w => Scalar.select w _ _) hz).trans ?_
    exact ofBits_neg_inf

end Moba
-- ==== Proof.RefValue.lean ====
module

public import proofs.«01_k».proof.Proof.RefLogits

/-! The reference's result is the attention output, where queries, keys and the bias table are real. -/

@[expose] public section
set_option maxRecDepth 16384
noncomputable section
namespace Moba
open Cert.ReferenceIdeal Cert.ReferenceIdeal.Gen Cert.ReferenceIdeal.Value Idealize.ShloMosaic

theorem sum_real {ι : Type} [Fintype ι] (f : ι → EReal) (hf : ∀ j, ∃ r : ℝ, f j = r) : ∃ r : ℝ, ∑ j, f j = r := by
  choose r hr using hf
  refine ⟨∑ j, r j, ?_⟩
  classical
  simp only [hr]
  induction (Finset.univ : Finset ι) using Finset.induction_on with
  | empty => simp
  | insert a s ha ih => rw [Finset.sum_insert ha, Finset.sum_insert ha, ih, EReal.coe_add]

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem c256 : Ideal.ofBits FTy.f32 0x43800000#32 = ((256 : ℝ) : EReal) := by
  simp [Ideal.ofBits, Ideal.ieee]
  try rw [← EReal.coe_mul]; norm_num

theorem cscale : ∃ r : ℝ, Ideal.ofBits FTy.f32 1035273459#32 = (r : EReal) := by
  refine ⟨11863283 / 2^27, ?_⟩
  simp [Ideal.ofBits, Ideal.ieee]
  rw [← EReal.coe_mul]; norm_num

section real
variable (q k : Vec Ideal Rows .f32) (rb : Vec Ideal Table .f32) (hq : ∀ y, ∃ r : ℝ, q y = r) (hk : ∀ y, ∃ r : ℝ, k y = r)
  (hrb : ∀ y, ∃ r : ℝ, rb y = r)
include hq hk

theorem gate_real (b : Fin 4) (h : Fin 8) (i : Fin 2048) (n : Fin 8) : ∃ r : ℝ, sGate q k b h i n = r := by
  unfold sGate sMean
  refine sum_real _ fun d => mul_real ?_ (hq _)
  rw [c256, Ideal.div_coe (by norm_num)]
  exact mul_real (sum_real _ fun c => hk _) ⟨_, rfl⟩

include hrb in
theorem logit_real (b : Fin 4) (h : Fin 8) (i j : Fin 2048) : ∃ r : ℝ, seenLogit q k rb b h i j = r := by
  unfold seenLogit
  obtain ⟨x, hx⟩ := mul_real (sum_real _ fun d => mul_real (hq (ix3 b i (col h d))) (hk (ix3 b j (col h d)))) cscale
  obtain ⟨z, hz⟩ := hrb (ix2 (bidx (i.val - j.val)) h)
  exact ⟨x + z, by rw [hx, hz, EReal.coe_add]⟩
end real

/-- The greatest entry of a row. -/
theorem row_max (X : Vec Ideal S4x8x2048x1024 .f32) (b : Fin 4) (h : Fin 8) (i : Fin 2048)  :
  Host.reduce (FloatOps.maximumf (F := Ideal) (φ := .f32)) X (constant S_ .f32 0xFF800000#32) reducesTo_S4x8x2048x1024_S4x8x2048_d3 h_S_ (ix3 b h i)
     = Finset.univ.sup (fun k : Fin 1024 => X (ix4 b h i k)) := by
  pointwise
  rw [ofBits_neg_inf]
  rfl

/-- The exponential of a row's entry less the row's greatest. -/
theorem exp_row (X : Vec Ideal S4x8x2048x1024 .f32) (M : Vec Ideal S4x8x2048 .f32) (b : Fin 4) (h : Fin 8) (i : Fin 2048) (k : Fin 1024) :
  Host.exp (F := Ideal) (φ := .f32) (subf X (broadcastInDim S4x8x2048x1024 ![0, 1, 2, 3] bcast_S4x8x2048x1_S4x8x2048x1024_0_1_2_3 (broadcastInDim S4x8x2048x1 ![0, 1, 2] bcast_S4x8x2048_S4x8x2048x1_0_1_2 (maximumf (broadcastInDim S4x8x2048 ![] bcast_S_S4x8x2048 (constant S_ .f32 0xFF800000#32)) M)))) (ix4 b h i k)
   = Ideal.exp (X (ix4 b h i k) - M (ix3 b h i)) := by
  pointwise
  rw [ofBits_neg_inf, max_eq_right bot_le]
variable (V0 : Valuation τ sig (Elt Idealize.ShloMosaic.Ideal))

/-- The reference's logits of one query. -/
def rowLogit (b : Fin 4) (h : Fin 8) (i : Fin 2048) (k : Fin 1024) : EReal :=
  (res_main_v130 V0 : Vec Ideal S4x8x2048x1024 .f32) (ix4 b h i k)

theorem weight_at (b : Fin 4) (h : Fin 8) (i : Fin 2048) (k : Fin 1024) :
    (res_main_v137 V0 : Vec Ideal S4x8x2048x1024 .f32) (ix4 b h i k)
      = Ideal.exp (rowLogit V0 b h i k - Finset.univ.sup (rowLogit V0 b h i)) := by
  unfold res_main_v137
  refine (exp_row _ _ b h i k).trans ?_
  rw [row_max]
  rfl
open Classical in
theorem row_attn (b : Fin 4) (h : Fin 8) (i : Fin 2048) (d : Fin 128) (hq : ∀ y, ∃ r : ℝ, qOf V0 y = r) (hk : ∀ y, ∃ r : ℝ, kOf V0 y = r)
    (hrb : ∀ y, ∃ r : ℝ, rbOf V0 y = r) :
    ∑ k : Fin 1024, Ideal.div (Ideal.exp (rowLogit V0 b h i k - Finset.univ.sup (rowLogit V0 b h i)))
        (∑ k, Ideal.exp (rowLogit V0 b h i k - Finset.univ.sup (rowLogit V0 b h i)))
        * vOf V0 (ix3 b (keyPos V0 b h i (slotOf k) (colOf k)) (col h d))
      = sOut (qOf V0) (kOf V0) (vOf V0) (rbOf V0) b h i d := by
  have hg := gate_real (qOf V0) (kOf V0) hq hk b h i
  have hgb : ∀ n, sGate (qOf V0) (kOf V0) b h i n ≠ ⊥ := fun n => by
    obtain ⟨r, hr⟩ := hg n
    rw [hr]; exact EReal.coe_ne_bot r
  have hL : ∀ k, rowLogit V0 b h i k = _ := logits_at V0 b h i hg
  have hpos : ∀ k : Fin 1024, (keyPos V0 b h i (slotOf k) (colOf k)).val / 256 = (slotBlock V0 b h i (slotOf k)).val := fun k => by
    show ((slotBlock V0 b h i (slotOf k)).val * 256 + k.val % 256) / 256 = _
    omega
  have hmod : ∀ k : Fin 1024, (keyPos V0 b h i (slotOf k) (colOf k)).val % 256 = k.val % 256 := fun k => by
    show ((slotBlock V0 b h i (slotOf k)).val * 256 + k.val % 256) % 256 = _
    omega
  have hown : ∀ k : Fin 1024, ¬ k.val / 256 < 3 → slotBlock V0 b h i (slotOf k) = ⟨i.val / 256, by omega⟩ := fun k hk => if_neg hk
  have hrank : ∀ k : Fin 1024, (hk : k.val / 256 < 3) → slotBlock V0 b h i (slotOf k) = ranked V0 b h i ⟨k.val / 256, by omega⟩ :=
    fun k hk => if_pos hk
  have hself : SlotSees V0 b h i (slotOf ⟨3 * 256 + i.val % 256, by omega⟩) (colOf ⟨3 * 256 + i.val % 256, by omega⟩) := by
    have h3 : ¬ (⟨3 * 256 + i.val % 256, by omega⟩ : Fin 1024).val / 256 < 3 := by show ¬ (3 * 256 + i.val % 256) / 256 < 3; omega
    refine ⟨fun h => absurd h h3, ?_⟩
    have := hpos ⟨3 * 256 + i.val % 256, by omega⟩
    have h2 := hmod ⟨3 * 256 + i.val % 256, by omega⟩
    rw [hown _ h3] at this
    simp only at this h2
    refine Fin.mk_le_of_le_val ?_
    show (keyPos V0 b h i (slotOf ⟨3 * 256 + i.val % 256, by omega⟩) (colOf ⟨3 * 256 + i.val % 256, by omega⟩)).val ≤ i.val
    omega
  rw [attn_normalised (rowLogit V0 b h i) _ ?hT ⟨3 * 256 + i.val % 256, by omega⟩ ?h0]
  case hT =>
    intro k
    rw [hL]
    obtain ⟨r, hr⟩ := logit_real _ _ (rbOf V0) hq hk hrb b h i (keyPos V0 b h i (slotOf k) (colOf k))
    split
    · rw [hr]; exact EReal.coe_ne_top r
    · exact bot_ne_top
  · unfold sOut
    refine attn_reindex _ _ _ _ _ _ (fun k => SlotSees V0 b h i (slotOf k) (colOf k)) (fun j => Sees (qOf V0) (kOf V0) b h i j)
      (fun k => keyPos V0 b h i (slotOf k) (colOf k)) ?_ ?_ ?_ ?_ ?_
    · intro k hk
      rw [hL, if_neg hk]
    · intro j hj
      unfold sLogit
      rw [if_neg hj]
    · intro k hP
      have hS : Sees (qOf V0) (kOf V0) b h i (keyPos V0 b h i (slotOf k) (colOf k)) := by
        refine ⟨hP.2, ?_⟩
        by_cases hk3 : k.val / 256 < 3
        · right
          have hlt := hP.1 hk3
          refine ⟨by rw [hpos]; exact hlt, ?_⟩
          have hb : (⟨(keyPos V0 b h i (slotOf k) (colOf k)).val / 256, by omega⟩ : Fin 8)
              = ranked V0 b h i ⟨k.val / 256, by omega⟩ := Fin.ext ((hpos k).trans (congrArg Fin.val (hrank k hk3)))
          rw [hb]
          rw [hrank k hk3] at hlt
          have := rank_sorted (i.val / 256) _ hgb ⟨k.val / 256, by omega⟩ hlt
          exact this.trans_lt hk3
        · left
          rw [hpos, hown k hk3]
      refine ⟨hS, ?_, rfl, rfl⟩
      rw [hL, if_pos hP]
      unfold sLogit
      rw [if_pos hS]
    · intro k k' hP hP' he
      have e1 := congrArg Fin.val he
      have eb : slotBlock V0 b h i (slotOf k) = slotBlock V0 b h i (slotOf k') := Fin.ext (by rw [← hpos, ← hpos]; simp only [he])
      have ec : k.val % 256 = k'.val % 256 := by rw [← hmod, ← hmod]; simp only [he]
      have es : k.val / 256 = k'.val / 256 := by
        by_cases hk3 : k.val / 256 < 3
        · by_cases hk3' : k'.val / 256 < 3
          · rw [hrank k hk3, hrank k' hk3'] at eb
            have := congrArg Fin.val (sortedFrom_injective _ eb)
            exact this
          · have := hP.1 hk3
            rw [eb, hown k' hk3'] at this
            exact absurd this (lt_irrefl _)
        · by_cases hk3' : k'.val / 256 < 3
          · have := hP'.1 hk3'
            rw [← eb, hown k hk3] at this
            exact absurd this (lt_irrefl _)
          · omega
      exact Fin.ext (by omega)
    · rintro j ⟨hji, hj⟩
      rcases hj with hj | ⟨hlt, hr⟩
      · refine ⟨⟨3 * 256 + j.val % 256, by omega⟩, ?_⟩
        have h3 : ¬ (⟨3 * 256 + j.val % 256, by omega⟩ : Fin 1024).val / 256 < 3 := by show ¬ (3 * 256 + j.val % 256) / 256 < 3; omega
        have h1 := hpos ⟨3 * 256 + j.val % 256, by omega⟩
        have h2 := hmod ⟨3 * 256 + j.val % 256, by omega⟩
        rw [hown _ h3] at h1
        have e : keyPos V0 b h i (slotOf ⟨3 * 256 + j.val % 256, by omega⟩) (colOf ⟨3 * 256 + j.val % 256, by omega⟩) = j :=
          Fin.ext (by simp only at h1 h2; omega)
        exact ⟨⟨fun h => absurd h h3, by rw [e]; exact hji⟩, e⟩
      · obtain ⟨s, hs, hsn⟩ := exists_sorted (i.val / 256) _ hgb ⟨j.val / 256, by omega⟩ hlt hr
        refine ⟨⟨s.val * 256 + j.val % 256, by omega⟩, ?_⟩
        have h3 : (⟨s.val * 256 + j.val % 256, by omega⟩ : Fin 1024).val / 256 < 3 := by show (s.val * 256 + j.val % 256) / 256 < 3; omega
        have h1 := hpos ⟨s.val * 256 + j.val % 256, by omega⟩
        have h2 := hmod ⟨s.val * 256 + j.val % 256, by omega⟩
        have hsl : (⟨(s.val * 256 + j.val % 256) / 256, by omega⟩ : Fin 8) = s := Fin.ext (by show (s.val * 256 + j.val % 256) / 256 = s.val; omega)
        have hb : slotBlock V0 b h i (slotOf ⟨s.val * 256 + j.val % 256, by omega⟩) = ⟨j.val / 256, by omega⟩ := by
          rw [hrank _ h3]
          exact (congrArg (ranked V0 b h i) hsl).trans hsn
        rw [hb] at h1
        have e : keyPos V0 b h i (slotOf ⟨s.val * 256 + j.val % 256, by omega⟩) (colOf ⟨s.val * 256 + j.val % 256, by omega⟩) = j :=
          Fin.ext (by simp only at h1 h2; omega)
        exact ⟨⟨fun _ => by rw [hb]; exact hlt, by rw [e]; exact hji⟩, e⟩
  · rw [hL, if_pos hself]
    obtain ⟨r, hr⟩ := logit_real _ _ (rbOf V0) hq hk hrb b h i (keyPos V0 b h i (slotOf ⟨3 * 256 + i.val % 256, by omega⟩) (colOf ⟨3 * 256 + i.val % 256, by omega⟩))
    rw [hr]; exact EReal.coe_ne_bot r

end Moba
-- ==== Proof.RefRun.lean ====
module

public import proofs.«01_k».proof.Proof.RefValue

/-! Every run of the reference ends with the attention output in its result array. -/

@[expose] public section
set_option maxRecDepth 16384
noncomputable section
namespace Moba
open Cert.ReferenceIdeal Cert.ReferenceIdeal.Gen Cert.ReferenceIdeal.Value Idealize.ShloMosaic Idealize.ShloMosaic.TcCoe Idealize.SL.Sem Idealize.ShloMosaic.StableHlo

/-- A sum over slots and columns is a sum over flat positions. -/
theorem sum_flat (f : Fin 1024 → EReal) :
    ∑ s : Fin 4, ∑ c : Fin 256, f ⟨s.val * 256 + c.val, by omega⟩ = ∑ k, f k := by
  rw [← Fintype.sum_prod_type' (f := fun (s : Fin 4) (c : Fin 256) => f ⟨s.val * 256 + c.val, by omega⟩)]
  refine Fintype.sum_equiv (finProdFinEquiv (m := 4) (n := 256)) _ _ fun x => congrArg f (Fin.ext ?_)
  show x.1.val * 256 + x.2.val = x.2.val + 256 * x.1.val
  omega

theorem ref_run (m : (ℓ : Loc nD τ sig) → Buf (Elt Idealize.ShloMosaic.Ideal) ℓ) (ρ : Dev nD → PrngReg)
    (hq : ∀ c y, ∃ r : ℝ, qOf (launchContents m c) y = r) (hk : ∀ c y, ∃ r : ℝ, kOf (launchContents m c) y = r)
    (hrb : ∀ c y, ∃ r : ℝ, rbOf (launchContents m c) y = r) :
    θ_run defs (onTc (τ := τ) (main (F := Idealize.ShloMosaic.Ideal))) ⟨m, fun _ => 0, ρ⟩ fun r => ∀ c : Dev nD,
      r.2.mem ((c.tc : Thread nD τ).loc main_v145)
        = spec (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (run m ρ)
  have hrow := fun b h i d => row_attn (launchContents m c) b h i d (hq c) (hk c) (hrb c)
  show _ = spec (qOf (launchContents m c)) (kOf (launchContents m c)) (vOf (launchContents m c)) (rbOf (launchContents m c))
  generalize launchContents m c = V0 at *
  clear h hq hk hrb
  clean_types
  generalize hG : Host.gather gather_S4x8x256x8x128_S4x8x2048x4x3_S4x8x2048x4x256x128_45_013_n_n_013_4_112561128 _ _ = G
  have hG' : ∀ b h i s c d, G (ix6 b h i s c d) = vOf V0 (ix3 b (keyPos V0 b h i s c) (col h d)) := by
    intro b h i s c d
    rw [← hG]
    refine (block_gather _ _ _ _ _ b h i s c d (slotBlock V0 b h i s)
      (by pointwise; rw [batch_word]; exact wrap_word _ (by omega) _)
      (by pointwise; rw [sel_at]; exact wrap_word _ (by omega) _)
      (by pointwise; rw [head_word]; exact wrap_word _ (by omega) _)).trans ?_
    pointwise
    rfl
  clear hG
  funext y
  obtain ⟨b, i, e, rfl⟩ : ∃ (b : Fin 4) (i : Fin 2048) (e : Fin 1024), y = ix3 b i e := ⟨y 0, y 1, y 2, eq_ix3 y⟩
  pointwise
  refine Eq.trans ?_ (hrow b ⟨e.val / 128, by omega⟩ i ⟨e.val % 128, Nat.mod_lt _ (by omega)⟩)
  rw [← sum_flat]
  refine Finset.sum_comm.trans (Finset.sum_congr rfl fun s _ => Finset.sum_congr rfl fun c' _ => ?_)
  have es : slotOf ⟨s.val * 256 + c'.val, by omega⟩ = s := Fin.ext (by show (s.val * 256 + c'.val) / 256 = s.val; omega)
  have ec : colOf ⟨s.val * 256 + c'.val, by omega⟩ = c' := Fin.ext (by show (s.val * 256 + c'.val) % 256 = c'.val; omega)
  rw [es, ec, hG']
  simp only [weight_at]

end Moba
-- ==== Proof.Equation.lean ====
module

public import proofs.«01_k».proof.Defs
public import proofs.«01_k».proof.Proof.KernelValue
public import proofs.«01_k».proof.Proof.RefRun
public import proofs.«01_k».proof.Proof.Gen.Pre_finite
public import Idealize.ShloMosaic.Lib.ReduceAll
public import Idealize.ShloMosaic.Lib.Quiescent

/-! The attention kernel and its reference end with the same array, when queries, keys and the bias table are finite. -/

@[expose] public section
set_option maxRecDepth 16384
noncomputable section
namespace Moba
open Idealize.ShloMosaic Idealize.ShloMosaic.TcCoe Idealize.SL.Sem Idealize.ShloMosaic.StableHlo

/-- An extended real whose absolute value is below infinity is a real. -/
theorem real_of_abs_lt (x : EReal)
    (h : (FloatOps.cmpf (F := Ideal) (φ := .f32) .olt (max x (-x)) (Ideal.ofBits .f32 0x7F800000#32)) = 1#1) : ∃ r : ℝ, x = r := by
  rw [ofBits_pos_inf] at h
  have hlt : max x (-x) < ⊤ := by
    by_contra hn
    have h0 : BitVec.ofBool (decide (max x (-x) < (⊤ : EReal))) = 1#1 := h
    rw [decide_eq_false hn] at h0
    exact absurd h0 (by decide)
  refine ⟨x.toReal, (EReal.coe_toReal ?_ ?_).symm⟩
  · rintro rfl; simp at hlt
  · rintro rfl; simp at hlt

/-- A test that every entry of an array is finite, read at one entry. -/
theorem real_of_all {S : Shape} {dims : List (Fin S.rank)} (x : FVec Ideal S .f32) (b : (⟨0, ![]⟩ : Shape).BroadcastsInDim S (![] : Fin 0 → Fin S.rank))
    (hr : S.ReducesTo dims ⟨0, ![]⟩) (hu : 0 < (⟨0, ![]⟩ : Shape).numel)
    (h : Host.reduce IntOp.andi (cmpf .olt (Host.absf x) (broadcastInDim S ![] b (constant (F := Ideal) ⟨0, ![]⟩ .f32 0x7F800000#32)))
      (constantI ⟨0, ![]⟩ 1 1#1) hr hu ix0 = 1#1) (i : S.Idx) : ∃ r : ℝ, x i = r :=
  real_of_abs_lt (x i) (Host.reduce_andi_all _ _ hr hu ix0 h i)

/-- The precondition makes every query, key and bias finite. -/
theorem finite_entries (q k v : FVec Ideal Cert.Pre_finite.S4x2048x1024 .f32) (rb : FVec Ideal Cert.Pre_finite.S32x8 .f32)
    (h : @Cert.Pre_finite.fn Cert.Pre_finite.Gen.facts Ideal _ q k v rb = fun _ => 1#1) :
    (∀ y, ∃ r : ℝ, q y = r) ∧ (∀ y, ∃ r : ℝ, k y = r) ∧ ∀ y, ∃ r : ℝ, rb y = r := by
  have h0 := congrFun h ix0
  unfold Cert.Pre_finite.fn at h0
  obtain ⟨h1, hb⟩ := IntOp.andi_eq_one.mp h0
  obtain ⟨hq, hk⟩ := IntOp.andi_eq_one.mp h1
  exact ⟨real_of_all q _ _ _ hq, real_of_all k _ _ _ hk, real_of_all rb _ _ _ hb⟩

/-- The reference's frame: no operation writes an argument, and it has no semaphore. -/
theorem frame_ref : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- The value claim. -/
theorem equation : @Cert.algebraic_KernelIdeal_ReferenceIdeal_pre_finite Cert.KernelIdeal.Gen.facts Cert.ReferenceIdeal.Gen.facts
    Cert.Pre_finite.Gen.facts := by
  intro m g m' g' hpre hargs
  refine ⟨fun c => spec (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨(h c).1.trans (kernel_value m c), (h c).2⟩)
      (Cert.KernelIdeal.Value.run_blocks m g)
  · have hfin := fun c => finite_entries _ _ _ _ (hpre c)
    refine (θ_run Cert.ReferenceIdeal.defs _ _).mono (fun r h c => ⟨(h c).1.trans ?_, (h c).2⟩)
      (ref_run m' g' (fun c y => ?_) (fun c y => ?_) (fun c y => ?_))
    · obtain ⟨r, hr⟩ := (hfin c).1 y
      exact ⟨r, (congrFun (hargs c).1 y).trans hr⟩
    · obtain ⟨r, hr⟩ := (hfin c).2.1 y
      exact ⟨r, (congrFun (hargs c).2.1 y).trans hr⟩
    · obtain ⟨r, hr⟩ := (hfin c).2.2 y
      exact ⟨r, (congrFun (hargs c).2.2.2 y).trans hr⟩
    · obtain ⟨h0, h1, h2, h3⟩ := hargs c
      rw [h0, h1, h2, h3]

end Moba
end
-- ==== Proof.ProjRun.lean ====
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.VecWindow

/-! The input projection's body, run once on any staging buffers: the layer norm goes to the scratch on the first tile of a
row block, and the product of the scratch with the weight tile goes to the one output the tile belongs to. -/

@[expose] public section
set_option maxRecDepth 16384
noncomputable section
namespace Proj2
open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first tile of a row block. -/
abbrev First (i : grid0.Coords) : Prop :=
  (Scalar.cmpi .ne (Scalar.extui (Scalar.cmpi .eq (BitVec.ofNat 32 (i 1).val) 0#32)) 0#32) = 1#1

/-- Exactly one output takes the tile, and the first tile is one of the first output's. -/
def OneOf (i : grid0.Coords) : Prop :=
  (First i ∧ k0_cond2 i = 1#1 ∧ ¬k0_cond3 i = 1#1 ∧ ¬k0_cond4 i = 1#1 ∧ ¬k0_cond5 i = 1#1 ∧ ¬k0_cond6 i = 1#1)
  ∨ (¬First i ∧ k0_cond2 i = 1#1 ∧ ¬k0_cond3 i = 1#1 ∧ ¬k0_cond4 i = 1#1 ∧ ¬k0_cond5 i = 1#1 ∧ ¬k0_cond6 i = 1#1)
  ∨ (¬First i ∧ ¬k0_cond2 i = 1#1 ∧ k0_cond3 i = 1#1 ∧ ¬k0_cond4 i = 1#1 ∧ ¬k0_cond5 i = 1#1 ∧ ¬k0_cond6 i = 1#1)
  ∨ (¬First i ∧ ¬k0_cond2 i = 1#1 ∧ ¬k0_cond3 i = 1#1 ∧ k0_cond4 i = 1#1 ∧ ¬k0_cond5 i = 1#1 ∧ ¬k0_cond6 i = 1#1)
  ∨ (¬First i ∧ ¬k0_cond2 i = 1#1 ∧ ¬k0_cond3 i = 1#1 ∧ ¬k0_cond4 i = 1#1 ∧ k0_cond5 i = 1#1 ∧ ¬k0_cond6 i = 1#1)
  ∨ (¬First i ∧ ¬k0_cond2 i = 1#1 ∧ ¬k0_cond3 i = 1#1 ∧ ¬k0_cond4 i = 1#1 ∧ ¬k0_cond5 i = 1#1 ∧ k0_cond6 i = 1#1)

theorem oneOf : ∀ t : Fin grid0.N, OneOf (grid0.coords t) := by
  unfold OneOf; decide +kernel

set_option maxHeartbeats 4000000 in
/-- The body on whole buffers: the scratch is set on a first tile, the tile's output gets the product, the rest stay. -/
theorem body_run (c : Dev nD) (i : grid0.Coords) (hi : OneOf i)
    (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x512 .bf16) (harg10 : arg10.IsWhole) (arg11 : Memref sig .tc .vmem S1024x2048 .bf16) (harg11 : arg11.IsWhole)
    (x0 : Vec F S1024x2048 .f32) (x1 x2 : Vec F S1x2048 .f32) (x3 : Vec F S1x2048x512 .f32)
    (y4 y5 y6 y7 : Vec F S1024x512 .f32) (y8 : Vec F S1024x512 .bf16) (xs s : Vec F S1024x2048 .bf16)
    (hs : s = if First i then k0_pay2 x0 x1 x2 else xs) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y4 ∗ owns (c : Thread nD τ) arg7 fullShare y5
        ∗ owns (c : Thread nD τ) arg8 fullShare y6 ∗ owns (c : Thread nD τ) arg9 fullShare y7 ∗ owns (c : Thread nD τ) arg10 fullShare y8
        ∗ owns (c : Thread nD τ) arg11 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (if k0_cond2 i = 1#1 then k0_pay3 s x3 else y4)
            ∗ owns (c : Thread nD τ) arg7 fullShare (if k0_cond3 i = 1#1 then k0_pay3 s x3 else y5)
            ∗ owns (c : Thread nD τ) arg8 fullShare (if k0_cond4 i = 1#1 then k0_pay3 s x3 else y6)
            ∗ owns (c : Thread nD τ) arg9 fullShare (if k0_cond5 i = 1#1 then k0_pay3 s x3 else y7)
            ∗ owns (c : Thread nD τ) arg10 fullShare (if k0_cond6 i = 1#1 then k0_pay1 (k0_pay3 s x3) else y8)
            ∗ owns (c : Thread nD τ) arg11 fullShare s) -∗ K ⟨⟩))
      ⊢ wp frame (wpE (defs₀ (F := F)) Variants.none c none) E
          (cc0_proj i arg2 harg2 arg3 harg3 arg4 harg4 arg5 harg5 arg6 harg6 arg7 harg7 arg8 harg8 arg9 harg9 arg10 harg10 arg11 harg11) K := by
  rcases hi with ⟨h1, h2, h3, h4, h5, h6⟩ | ⟨h1, h2, h3, h4, h5, h6⟩ | ⟨h1, h2, h3, h4, h5, h6⟩ | ⟨h1, h2, h3, h4, h5, h6⟩
    | ⟨h1, h2, h3, h4, h5, h6⟩ | ⟨h1, h2, h3, h4, h5, h6⟩
  all_goals
    simp only [cc0_proj_eq_skeleton]; unfold cc0_proj_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    sl_exec (disch := first | sl_exact h1 | sl_exact h2 | sl_exact h3 | sl_exact h4 | sl_exact h5 | sl_exact h6)
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro
      first
      | (rw [if_neg h2]; exact hf4)
      | (rw [if_pos h2, View.read_writes_full, hs, if_neg h1, View.readAt_full, View.readAt_full, hfs, hf3])
      | (rw [if_pos h2, View.read_writes_full, hs, if_pos h1]
         unfold body_run.sl.v3 body_run.sl.HS_1
         rw [View.readCov_full, View.readAt_full, View.readAt_full, View.readAt_full, View.readAt_full, hf0, hf1, hf2, hf3])
    isplitl [H5]
    · iexists _; isplitr
      swap; · iexact H5
      ipureintro
      first
      | (rw [if_neg h3]; exact hf5)
      | (rw [if_pos h3, View.read_writes_full, hs, if_neg h1, View.readAt_full, View.readAt_full, hfs, hf3])
    isplitl [H6]
    · iexists _; isplitr
      swap; · iexact H6
      ipureintro
      first
      | (rw [if_neg h4]; exact hf6)
      | (rw [if_pos h4, View.read_writes_full, hs, if_neg h1, View.readAt_full, View.readAt_full, hfs, hf3])
    isplitl [H7]
    · iexists _; isplitr
      swap; · iexact H7
      ipureintro
      first
      | (rw [if_neg h5]; exact hf7)
      | (rw [if_pos h5, View.read_writes_full, hs, if_neg h1, View.readAt_full, View.readAt_full, hfs, hf3])
    isplitl [H8]
    · iexists _; isplitr
      swap; · iexact H8
      ipureintro
      first
      | (rw [if_neg h6]; exact hf8)
      | (rw [if_pos h6, View.read_writes_full, hs, if_neg h1, View.readAt_full, View.readAt_full, hfs, hf3])
    iexists _; isplitr
    swap; · iexact HS
    ipureintro
    first
    | (rw [hs, if_neg h1]; exact hfs)
    | (rw [hs, if_pos h1]
       unfold body_run.sl.HS_1
       rw [View.read_writes_full, View.readAt_full, View.readAt_full, View.readAt_full, hf0, hf1, hf2])

end Proj2
end
-- ==== Proof.ProjFrame.lean ====
module

public import proofs.«01_k».proof.Proof.ProjRun
public import Idealize.ShloMosaic.Lib.Claim

/-! The input projection's pipeline: what every buffer holds after every point of the grid, and the run of the whole program. -/

@[expose] public section
set_option maxRecDepth 16384
noncomputable section
namespace Proj2
open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Which tile of a row block an output's buffer holds -/

/-- The first and the last tile of a row block that go to an output. -/
def lo : Fin 9 → Fin 8 := ![0, 0, 0, 0, 0, 2, 4, 6, 7]
def hi : Fin 9 → Fin 8 := ![7, 7, 7, 7, 1, 3, 5, 6, 7]

/-- The point that computed the tile an output's buffer belongs to at a point: the nearest of its own tiles. -/
def pos (w : Fin 9) (t : Fin cfg0.N) : Fin cfg0.N :=
  ⟨8 * (t.val / 8) + max (lo w).val (min (t.val % 8) (hi w).val), by
    have := t.isLt; have hN : cfg0.N = 64 := N_0; have := (lo w).isLt; have := (hi w).isLt; omega⟩

/-- The first point of a point's row block. -/
def base (t : Fin cfg0.N) : Fin cfg0.N := ⟨8 * (t.val / 8), by have := t.isLt; omega⟩

theorem pos_stored : ∀ (w : Fin 9) (t : Fin grid0.N), (cfg0.win w).isOut = true → cfg0.idle w (grid0.coords t) = false → pos w t = t := by
  decide +kernel

theorem pos_carry : ∀ (w : Fin 9) (t : Fin grid0.N), (cfg0.win w).isOut = true → cfg0.idle w (grid0.coords t) = true → t.val % 8 ≠ 0 →
    (pos w t).val = (8 * ((t.val - 1) / 8) + max (lo w).val (min ((t.val - 1) % 8) (hi w).val)) := by
  decide +kernel

/-- Nothing is in an output's buffer until its last tile but one is stored, in every row block. -/
theorem fresh_eq (w : Fin 9) (hw : (cfg0.win w).isOut = true) (n : ℕ) (hn : n ≤ cfg0.N) :
    cfg0.fresh w n = decide (n % 8 ≤ (hi w).val) :=
  cfg0.fresh_tab w (fun n => decide (n % 8 ≤ (hi w).val)) (by simp)
    (fun t => (by decide +kernel : ∀ (w : Fin 9) (t : Fin grid0.N), (cfg0.win w).isOut = true →
      decide ((t.val + 1) % 8 ≤ (hi w).val) = ((cfg0.win w).flush t || (cfg0.idle w (grid0.coords t) && decide (t.val % 8 ≤ (hi w).val)))) w t hw) n hn

theorem idle_flush : ∀ (w : Fin 9) (t : Fin grid0.N), (cfg0.win w).isOut = true → cfg0.idle w (grid0.coords t) = true →
    (cfg0.win w).flush t = true → ¬t.val % 8 ≤ (hi w).val := by
  decide +kernel

theorem first_iff : ∀ t : Fin grid0.N, First (grid0.coords t) ↔ t.val % 8 = 0 := by
  decide +kernel

variable (m : (ℓ : Loc nD τ sig) → Buf (Elt F) ℓ) (ρ : Dev nD → PrngReg)

/-! ## The proof data -/

/-- The scratch through a row block: the layer norm of its rows. -/
def scr (c : Dev nD) (t : Fin cfg0.N) : Vec F S1024x2048 .bf16 :=
  k0_pay2 (iblk m c 0 (base t)) (iblk m c 1 (base t)) (iblk m c 2 (base t))

/-- The tile a point computes. -/
def tile (c : Dev nD) (t : Fin cfg0.N) : Vec F S1024x512 .f32 := k0_pay3 (scr m c t) (iblk m c 3 t)

/-- Between points the scratch holds the last row block's layer norm. -/
def inv (c : Dev nD) : (n : ℕ) → n ≤ cfg0.N → sProp 𝕄
  | 0, _ => Pipeline.ΦA spec0 c
  | n + 1, hn => iprop(owns (c : Thread nD τ) (Memref.whole cc0_scratch0 : Memref sig .tc .vmem S1024x2048 .bf16) fullShare (scr m c ⟨n, hn⟩)
      ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c (pos 4 t)
    | ⟨5, _⟩ => tile m c (pos 5 t)
    | ⟨6, _⟩ => tile m c (pos 6 t)
    | ⟨7, _⟩ => tile m c (pos 7 t)
    | ⟨8, _⟩ => k0_pay1 (tile m c (pos 8 t))
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after4 (c : Dev nD) (t : Fin cfg0.N) : (dats m 0 c).after 4 t = tile m c (pos 4 t) := by dsimp only [dats]
theorem after5 (c : Dev nD) (t : Fin cfg0.N) : (dats m 0 c).after 5 t = tile m c (pos 5 t) := by dsimp only [dats]
theorem after6 (c : Dev nD) (t : Fin cfg0.N) : (dats m 0 c).after 6 t = tile m c (pos 6 t) := by dsimp only [dats]
theorem after7 (c : Dev nD) (t : Fin cfg0.N) : (dats m 0 c).after 7 t = tile m c (pos 7 t) := by dsimp only [dats]
theorem after8 (c : Dev nD) (t : Fin cfg0.N) : (dats m 0 c).after 8 t = k0_pay1 (tile m c (pos 8 t)) := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d

/-- An output's buffer holds the same at two points whose nearest own tile is the same. -/
theorem after_congr (c : Dev nD) (w : Fin 9) (hw : (cfg0.win w).isOut = true) (t t' : Fin cfg0.N) (h : pos w t = pos w t') :
    (dats m 0 c).after w t = (dats m 0 c).after w t' := by
  obtain ⟨w, hlt⟩ := w
  match w, hlt, hw, h with
  | 4, _, _, h => exact congrArg (tile m c) h
  | 5, _, _, h => exact congrArg (tile m c) h
  | 6, _, _, h => exact congrArg (tile m c) h
  | 7, _, _, h => exact congrArg (tile m c) h
  | 8, _, _, h => exact congrArg (fun p => k0_pay1 (tile m c p)) h
  | 0, _, hw, _ => exact (Bool.false_ne_true hw).elim
  | 1, _, hw, _ => exact (Bool.false_ne_true hw).elim
  | 2, _, hw, _ => exact (Bool.false_ne_true hw).elim
  | 3, _, hw, _ => exact (Bool.false_ne_true hw).elim

theorem carry (c : Dev nD) (w : Fin 9) (hw : (cfg0.win w).isOut = true) (t : Fin cfg0.N)
    (hi' : cfg0.idle w (cfg0.grid.coords t) = true) (hf : ¬t.val % 8 ≤ (hi w).val) :
    (dats m 0 c).after w t = (dats m 0 c).after w ⟨t.val - 1, by omega⟩ :=
  after_congr m c w hw _ _ (Fin.ext (pos_carry w t hw hi' (by omega)))

theorem clip_none (w : Fin 9) (i : cfg0.grid.Coords) (a) : (cfg0.win w).clip i a = none := by
  obtain ⟨w, hlt⟩ := w
  match w, hlt with
  | 0, _ | 1, _ | 2, _ | 3, _ | 4, _ | 5, _ | 6, _ | 7, _ | 8, _ => rfl

/-- At a point that writes an output back without storing into it, the buffer still holds the output's last tile. -/
theorem before_flush (c : Dev nD) (w : Fin 9) (hw : (cfg0.win w).isOut = true) (t : Fin cfg0.N)
    (hi' : cfg0.idle w (cfg0.grid.coords t) = true) (hf : (cfg0.win w).flush t = true) (d) :
    (dats m 0 c).before w t d = (dats m 0 c).after w t := by
  have hlast := idle_flush w t hw hi' hf
  have hN : cfg0.N = 64 := N_0
  rw [(dats m 0 c).before_out_traj w hw (clip_none w) (fun t' _ h1 h2 => by
    rw [fresh_eq w hw _ t'.isLt.le] at h2
    exact carry m c w hw t' h1 (by simpa using h2)) t.val t rfl d, fresh_eq w hw _ t.isLt.le, if_neg (by simpa using hlast)]
  exact (carry m c w hw t hi' hlast).symm

/-- What the body must leave in an output's buffer. -/
theorem leaves_out (c : Dev nD) (w : Fin 9) (hw : (cfg0.win w).isOut = true) (t : Fin cfg0.N) (d) (X)
    (h1 : cfg0.idle w (cfg0.grid.coords t) = false → X = (dats m 0 c).after w t)
    (h2 : cfg0.idle w (cfg0.grid.coords t) = true → X = (dats m 0 c).before w t d) :
    owns (c : Thread nD τ) ((cfg0.win w).stage (cfg0.slots t w)) fullShare X ⊢ ((dats m 0 c).leavesExact w t : sProp 𝕄) := by
  unfold Dat.leavesExact
  cases hi' : cfg0.idle w (cfg0.grid.coords t)
  · rw [h1 hi']
  · dsimp only
    rw [h2 hi']
    cases hf : (cfg0.win w).flush t
    · dsimp only
      iintro H
      iexists d
      iexact H
    · dsimp only
      rw [before_flush m c w hw t hi' hf d]

/-! ## The body at every point -/

/-- Before a point the scratch holds what the point needs, unless the point sets it. -/
theorem inv_open (c : Dev nD) (t : Fin cfg0.N) :
    (dats m 0 c).Φ t.castSucc ⊢ iprop(∃ xs : Vec F S1024x2048 .bf16,
      ⌜scr m c t = if First (cfg0.grid.coords t) then k0_pay2 (iblk m c 0 t) (iblk m c 1 t) (iblk m c 2 t) else xs⌝
      ∗ owns (c : Thread nD τ) (Memref.whole cc0_scratch0 : Memref sig .tc .vmem S1024x2048 .bf16) fullShare xs ∗ (∃ r, prngReg c r)) := by
  have hset : First (cfg0.grid.coords t) → scr m c t = k0_pay2 (iblk m c 0 t) (iblk m c 1 t) (iblk m c 2 t) := fun h => by
    have hb : base t = t := Fin.ext (by have := (first_iff t).mp h; simp only [base]; omega)
    unfold scr; rw [hb]
  rw [show (dats m 0 c).Φ t.castSucc = inv m c t.val (Nat.le_of_lt t.isLt) from by
    dsimp only [dats]; exact Dat.Φ_castSucc (inv m c) t]
  obtain ⟨n, hn⟩ := t
  cases n with
  | zero =>
    unfold inv Pipeline.ΦA
    rw [scopedRest0_eq]
    iintro ⟨⟨%d, HS⟩, Hg⟩
    iexists d
    isplitr [HS Hg]
    · ipureintro
      rw [if_pos ((first_iff _).mpr rfl)]
      exact hset ((first_iff _).mpr rfl)
    isplitl [HS]
    · rw [owns_whole]; iexact HS
    iexact Hg
  | succ n =>
    unfold inv
    iintro ⟨HS, Hg⟩
    iexists _
    isplitr [HS Hg]
    swap
    · isplitl [HS]
      · iexact HS
      iexact Hg
    ipureintro
    by_cases h : First (cfg0.grid.coords ⟨n + 1, hn⟩)
    · rw [if_pos h]; exact hset h
    · rw [if_neg h]
      have hb : base ⟨n + 1, hn⟩ = base ⟨n, by omega⟩ :=
        Fin.ext (by have := mt (first_iff ⟨n + 1, hn⟩).mpr h; simp only [base] at *; omega)
      unfold scr; rw [hb]

/-- A window's staging buffer at a point. -/
abbrev buf (w : Fin 9) (t : Fin cfg0.N) := (cfg0.win w).stage (cfg0.slots t w)

theorem leaves_in (c : Dev nD) (t : Fin cfg0.N) :
    ((dats m 0 c).leavesExact 0 t = owns (c : Thread nD τ) (buf 0 t) fullShare (iblk m c 0 t))
    ∧ ((dats m 0 c).leavesExact 1 t = owns (c : Thread nD τ) (buf 1 t) fullShare (iblk m c 1 t))
    ∧ ((dats m 0 c).leavesExact 2 t = owns (c : Thread nD τ) (buf 2 t) fullShare (iblk m c 2 t))
    ∧ ((dats m 0 c).leavesExact 3 t = owns (c : Thread nD τ) (buf 3 t) fullShare (iblk m c 3 t)) :=
  ⟨rfl, rfl, rfl, rfl⟩

/-- An output's buffer after the body: its own tile where it takes one, what it held before elsewhere. -/
theorem leaves_if (c : Dev nD) (w : Fin 9) (hw : (cfg0.win w).isOut = true) (t : Fin cfg0.N) (d) (p : Prop) [Decidable p] (A B)
    (hA : pos w t = t → A = (dats m 0 c).after w t) (hB : B = (dats m 0 c).before w t d) (hp : p ↔ cfg0.idle w (cfg0.grid.coords t) = false) :
    owns (c : Thread nD τ) ((cfg0.win w).stage (cfg0.slots t w)) fullShare (if p then A else B) ⊢ ((dats m 0 c).leavesExact w t : sProp 𝕄) :=
  leaves_out m c w hw t d _ (fun h => by rw [if_pos (hp.mpr h)]; exact hA (pos_stored w t hw h))
    (fun h => by rw [if_neg (fun h' => by rw [hp.mp h'] at h; exact Bool.false_ne_true h)]; exact hB)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (buf 0 t) fullShare ((dats m 0 c).before 0 t d))
    ∗ (∃ d, owns (c : Thread nD τ) (buf 1 t) fullShare ((dats m 0 c).before 1 t d))
    ∗ (∃ d, owns (c : Thread nD τ) (buf 2 t) fullShare ((dats m 0 c).before 2 t d))
    ∗ (∃ d, owns (c : Thread nD τ) (buf 3 t) fullShare ((dats m 0 c).before 3 t d))
    ∗ (∃ d, owns (c : Thread nD τ) (buf 4 t) fullShare ((dats m 0 c).before 4 t d))
    ∗ (∃ d, owns (c : Thread nD τ) (buf 5 t) fullShare ((dats m 0 c).before 5 t d))
    ∗ (∃ d, owns (c : Thread nD τ) (buf 6 t) fullShare ((dats m 0 c).before 6 t d))
    ∗ (∃ d, owns (c : Thread nD τ) (buf 7 t) fullShare ((dats m 0 c).before 7 t d))
    ∗ (∃ d, owns (c : Thread nD τ) (buf 8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  obtain ⟨e0, e1, e2, e3⟩ := leaves_in m c t
  rw [e0, e1, e2, e3]
  rw [show (dats m 0 c).owesAt () t.succ = (dats m 0 c).owesAt () t.castSucc from rfl]
  rw [show (dats m 0 c).Φ t.succ = iprop(owns (c : Thread nD τ) (Memref.whole cc0_scratch0 : Memref sig .tc .vmem S1024x2048 .bf16) fullShare (scr m c t)
      ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave Hx := inv_open m c t $$ HΦ
  icases Hx with ⟨%xs, %hs, HS, Hg⟩
  iapply (body_run c (grid0.coords t) (oneOf t) _ _ _ _ _ _ _ _ _ _ _ _ _ _ _ _ _ _ _ _ (iblk m c 0 t) (iblk m c 1 t) (iblk m c 2 t) (iblk m c 3 t)
    ((dats m 0 c).before 4 t d4) ((dats m 0 c).before 5 t d5) ((dats m 0 c).before 6 t d6) ((dats m 0 c).before 7 t d7) ((dats m 0 c).before 8 t d8)
    xs (scr m c t) hs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]
  · iapply (leaves_if m c 4 rfl t d4 (k0_cond2 (grid0.coords t) = 1#1) _ _ (fun h => by rw [after4, h]; rfl) rfl (by simp [cfg0, idle0])) $$ H4
  isplitl [H5]
  · iapply (leaves_if m c 5 rfl t d5 (k0_cond3 (grid0.coords t) = 1#1) _ _ (fun h => by rw [after5, h]; rfl) rfl (by simp [cfg0, idle0])) $$ H5
  isplitl [H6]
  · iapply (leaves_if m c 6 rfl t d6 (k0_cond4 (grid0.coords t) = 1#1) _ _ (fun h => by rw [after6, h]; rfl) rfl (by simp [cfg0, idle0])) $$ H6
  isplitl [H7]
  · iapply (leaves_if m c 7 rfl t d7 (k0_cond5 (grid0.coords t) = 1#1) _ _ (fun h => by rw [after7, h]; rfl) rfl (by simp [cfg0, idle0])) $$ H7
  · iapply (leaves_if m c 8 rfl t d8 (k0_cond6 (grid0.coords t) = 1#1) _ _ (fun h => by rw [after8, h]; rfl) rfl (by simp [cfg0, idle0])) $$ H8

theorem body_row (t : Fin cfg0.N) :
    defs₀ (F := F) .tc cfg0.body (cfg0.bodyArgs t (cfg0.slots t)) = bodyAt0 t := by
  unfold defs₀; rw [Defs.onTc_tc]

theorem body_ob (c : Dev nD) : BodyObligation (dats (F := F) m 0 c) (defs₀ (F := F)) Variants.none () Set.univ := fun t => by
  rw [bigSep_W0, bigSep_W0, body_row]
  exact triple_restated (sound_body m c t) rfl .rfl fun _ => .rfl

/-- After the last point the scratch's contents are forgotten. -/
theorem inv_last (c : Dev nD) : (dats m 0 c).Φ (Fin.last cfg0.N) ⊢ Pipeline.ΦA spec0 c := by
  rw [show (dats m 0 c).Φ (Fin.last cfg0.N) = iprop(owns (c : Thread nD τ) (Memref.whole cc0_scratch0 : Memref sig .tc .vmem S1024x2048 .bf16) fullShare
    (scr m c ⟨63, by decide⟩) ∗ (∃ r, prngReg c r)) from rfl]
  unfold Pipeline.ΦA
  rw [scopedRest0_eq]
  simp only [owns_whole]
  iintro ⟨HS, Hg⟩
  isplitl [HS]
  · iexists _; iexact HS
  iexact Hg

set_option backward.isDefEq.respectTransparency.types false in
/-- The launch: every array ends as the proof data says, and no counter is left. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ob m c).loose) (hshare := fun c => (dats m 0 c).share_full fun _ => rfl)
    (howed := fun _ _ => rfl) (V := V m) (hmain := hmain m Variants.none) (hA := A_eq m)
    (hin := fun c => Idealize.SL.BI.Entails.refl _) (hout := inv_last m)

theorem run : θ_run defs (onTc (τ := τ) (main (F := F))) (s₀ m ρ) (Pipeline.FramePost cfgs (dats m) 0 (V m)) :=
  (θ_run defs _ _).mono (fun _ h => h.1) (run_all m ρ)

/-- The arguments end as they began, and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_all m ρ))

end Proj2
end
-- ==== Proof.ProjSpec.lean ====
module

public import Idealize.ShloMosaic.Lib.Pointwise

/-! What the input projections compute: the product of a row's layer norm with a column of the weights. -/

@[expose] public section
noncomputable section
namespace Proj
open Idealize.ShloMosaic

/-- The mean of a row of 2048 entries. -/
def mean (x : Fin 2048 → EReal) : EReal := Ideal.div (∑ d, x d) (Ideal.ofBits .f32 0x45000000#32)

/-- The layer norm of a row, with scale `g` and shift `b`. -/
def norm (x g b : Fin 2048 → EReal) (d : Fin 2048) : EReal :=
  (x d - mean x) * Ideal.rsqrt (mean (fun e => (x e - mean x) * (x e - mean x)) + Ideal.ofBits .f32 0x3727C5AC#32) * g d + b d

/-- One entry of a projection: a normed row times a column of the weights. -/
def entry (x g b w : Fin 2048 → EReal) : EReal := ∑ d, norm x g b d * w d

/-- `W` columns of the prompt's projection, from column `o` of the weights on: batches and positions as one row index. -/
def prompt (x : Vec Ideal ⟨3, ![4, 2048, 2048]⟩ .f32) (g b : Vec Ideal ⟨1, ![2048]⟩ .f32) (w : Vec Ideal ⟨3, ![1, 2048, 4096]⟩ .f32)
    (o W : ℕ) (h : o + W ≤ 4096) (r : Fin 8192) (n : Fin W) : EReal :=
  entry (fun d => x (ix3 ⟨r.val / 2048, by omega⟩ ⟨r.val % 2048, by omega⟩ d)) (fun d => g (ix1 d)) (fun d => b (ix1 d))
    (fun d => w (ix3 0 d ⟨o + n.val, by omega⟩))

/-- `W` columns of the samples' projection, from column `o` of the weights on. -/
def sample (x : Vec Ideal ⟨3, ![128, 1, 2048]⟩ .f32) (g b : Vec Ideal ⟨1, ![2048]⟩ .f32) (w : Vec Ideal ⟨3, ![1, 2048, 4096]⟩ .f32)
    (o W : ℕ) (h : o + W ≤ 4096) (r : Fin 128) (n : Fin W) : EReal :=
  entry (fun d => x (ix3 r 0 d)) (fun d => g (ix1 d)) (fun d => b (ix1 d)) (fun d => w (ix3 0 d ⟨o + n.val, by omega⟩))

/-- Half of the memories' keys and values, from column `o` of the weights on: no layer norm. -/
def memory (x : Vec Ideal ⟨3, ![4, 256, 2048]⟩ .f32) (w : Vec Ideal ⟨3, ![1, 2048, 1024]⟩ .f32) (o : ℕ) (h : o + 512 ≤ 1024)
    (r : Fin 1024) (n : Fin 512) : EReal :=
  ∑ d : Fin 2048, x (ix3 ⟨r.val / 256, by omega⟩ ⟨r.val % 256, by omega⟩ d) * w (ix3 0 d ⟨o + n.val, by omega⟩)

end Proj
end
-- ==== Proof.ProjValue.lean ====
module

public import proofs.«01_k».proof.Proof.ProjFrame
public import proofs.«01_k».proof.Proof.ProjSpec
public import Idealize.ShloMosaic.Lib.Pipeline.ValueKit
public import Idealize.ShloMosaic.Lib.StableHlo.ReadAt
public import Idealize.ShloMosaic.Lib.Tactic.CleanTypes

/-! The five result arrays of the prompt's input projection. -/

@[expose] public section
set_option maxRecDepth 16384
noncomputable section
namespace Proj2
open Cert.Kernel2Ideal Cert.Kernel2Ideal.Gen Idealize.ShloMosaic Idealize.ShloMosaic.StableHlo

theorem pay2_at (x : Vec Ideal S1024x2048 .f32) (g b : Vec Ideal S1x2048 .f32) (r : Fin 1024) (d : Fin 2048) :
    k0_pay2 x g b (ix2 r d) = Proj.norm (fun e => x (ix2 r e)) (fun e => g (ix2 0 e)) (fun e => b (ix2 0 e)) d := by
  unfold k0_pay2
  pointwise
  rfl

theorem pay3_at (s : Vec Ideal S1024x2048 .bf16) (w : Vec Ideal S1x2048x512 .f32) (r : Fin 1024) (n : Fin 512) :
    k0_pay3 s w (ix2 r n) = ∑ d : Fin 2048, s (ix2 r d) * w (ix3 0 d n) := by
  unfold k0_pay3
  pointwise

theorem pay1_at (x : Vec Ideal S1024x512 .f32) (y) : k0_pay1 (F := Ideal) x y = x y := rfl

variable (m : (ℓ : Loc nD τ sig) → ℓ.ty.Contents (Elt Idealize.ShloMosaic.Ideal))

theorem x_at (c : Dev nD) (r : Fin 8192) (d : Fin 2048) :
    (V m c main_v0 : Vec Ideal S8192x2048 .f32) (ix2 r d) = m (c, Proc.tc.devRef main_arg0) (ix3 ⟨r.val / 2048, by omega⟩ ⟨r.val % 2048, by omega⟩ d) := by
  unfold V
  after_reads_at

theorem g_at (c : Dev nD) (d : Fin 2048) :
    (V m c main_v1 : Vec Ideal S1x2048 .f32) (ix2 0 d) = m (c, Proc.tc.devRef main_arg1) (ix1 d) := by
  unfold V
  after_reads_at

theorem b_at (c : Dev nD) (d : Fin 2048) :
    (V m c main_v2 : Vec Ideal S1x2048 .f32) (ix2 0 d) = m (c, Proc.tc.devRef main_arg2) (ix1 d) := by
  unfold V
  after_reads_at

/-- The block indices at a grid point. -/
theorem index_eq : ∀ t : Fin grid0.N, win0_0.index t = ![t.val / 8, 0] ∧ win0_1.index t = ![0, 0] ∧ win0_2.index t = ![0, 0]
    ∧ win0_3.index t = ![0, 0, t.val % 8] ∧ win0_4.index t = ![t.val / 8, min (t.val % 8) 1]
    ∧ win0_5.index t = ![t.val / 8, min (t.val % 8 - 2) 1] ∧ win0_6.index t = ![t.val / 8, min (t.val % 8 - 4) 1]
    ∧ win0_7.index t = ![t.val / 8, 0] ∧ win0_8.index t = ![t.val / 8, 0] := by
  decide +kernel

theorem x_blk (c : Dev nD) (t : Fin cfg0.N) (r : Fin 1024) (d : Fin 2048) :
    iblk m c 0 t (ix2 r d) = (V m c main_v0 : Vec Ideal S8192x2048 .f32) (ix2 ⟨1024 * (t.val / 8) + r.val, by have := t.isLt; have : cfg0.N = 64 := N_0; omega⟩ d) := by
  obtain ⟨e, -⟩ := index_eq t
  blk_ext [iblk, e]

theorem g_blk (c : Dev nD) (t : Fin cfg0.N) (d : Fin 2048) :
    iblk m c 1 t (ix2 0 d) = (V m c main_v1 : Vec Ideal S1x2048 .f32) (ix2 0 d) := by
  obtain ⟨-, e, -⟩ := index_eq t
  blk_ext [iblk, e]

theorem b_blk (c : Dev nD) (t : Fin cfg0.N) (d : Fin 2048) :
    iblk m c 2 t (ix2 0 d) = (V m c main_v2 : Vec Ideal S1x2048 .f32) (ix2 0 d) := by
  obtain ⟨-, -, e, -⟩ := index_eq t
  blk_ext [iblk, e]

theorem w_blk (c : Dev nD) (t : Fin cfg0.N) (d : Fin 2048) (n : Fin 512) :
    iblk m c 3 t (ix3 0 d n) = m (c, Proc.tc.devRef main_arg3) (ix3 0 d ⟨512 * (t.val % 8) + n.val, by omega⟩) := by
  obtain ⟨-, -, -, e, -⟩ := index_eq t
  rw [← V_main_arg3 m c]
  blk_ext [iblk, e]

/-- The columns of the projection that go to one output. -/
def cols (c : Dev nD) (o W : ℕ) (h : o + W ≤ 4096) (r : Fin 8192) (n : Fin W) : EReal :=
  Proj.prompt (m (c, Proc.tc.devRef main_arg0)) (m (c, Proc.tc.devRef main_arg1)) (m (c, Proc.tc.devRef main_arg2))
    (m (c, Proc.tc.devRef main_arg3)) o W h r n

/-- A tile holds its rows and columns of the projection. -/
theorem tile_at (c : Dev nD) (t : Fin cfg0.N) (r : Fin 1024) (n : Fin 512) (o W : ℕ) (h : o + W ≤ 4096) (R : Fin 8192) (k : Fin W)
    (hR : R.val = 1024 * (t.val / 8) + r.val) (hk : o + k.val = 512 * (t.val % 8) + n.val) :
    tile m c t (ix2 r n) = cols m c o W h R k := by
  have hb : (base t).val / 8 = t.val / 8 := by simp only [base]; omega
  have hR' : (⟨1024 * ((base t).val / 8) + r.val, by have := R.isLt; rw [hb]; omega⟩ : Fin 8192) = R := Fin.ext (by simp only [hb, hR])
  have hk' : (⟨512 * (t.val % 8) + n.val, by omega⟩ : Fin 4096) = ⟨o + k.val, by omega⟩ := Fin.ext hk.symm
  unfold tile scr cols Proj.prompt Proj.entry
  rw [pay3_at]
  refine Finset.sum_congr rfl fun d _ => ?_
  rw [pay2_at, w_blk, hk']
  simp only [x_blk, g_blk, b_blk, hR']
  exact congrArg (· * _) (congrFun (congr (congrArg₂ Proj.norm (funext fun e => x_at m c R e) (funext fun e => g_at m c e)) (funext fun e => b_at m c e)) d)

theorem emb4 (t : Fin cfg0.N) (r : Fin 1024) (n : Fin 512) : (win0_4.blk t).view.emb (ix2 r n)
    = (ix2 ⟨1024 * (t.val / 8) + r.val, by have := t.isLt; have : cfg0.N = 64 := N_0; omega⟩ ⟨512 * (min (t.val % 8) 1) + n.val, by omega⟩ : S8192x1024.Idx) := by
  have e := (index_eq t).2.2.2.2.1
  blk_ext [e]

theorem value4 (c : Dev nD) : (dats m 0 c).arrAt 4 cfg0.N = fun y => cols m c 0 1024 (by omega) (y 0) (y 1) := by
  refine (dats m 0 c).arrAt_eq_of_covers 4 _ (by decide +kernel) fun t hf y => ?_
  blk_simp
  rw [after4]
  obtain ⟨r, n, rfl⟩ : ∃ (r : Fin 1024) (n : Fin 512), y = ix2 r n := ⟨y 0, y 1, eq_ix2 y⟩
  rw [emb4]
  exact tile_at m c _ r n _ _ _ _ _
    (by show 1024 * (t.val / 8) + r.val = 1024 * ((8 * (t.val / 8) + max 0 (min (t.val % 8) 1)) / 8) + r.val; omega)
    (by show 0 + (512 * (min (t.val % 8) 1) + n.val) = 512 * ((8 * (t.val / 8) + max 0 (min (t.val % 8) 1)) % 8) + n.val; omega)

theorem emb5 (t : Fin cfg0.N) (r : Fin 1024) (n : Fin 512) : (win0_5.blk t).view.emb (ix2 r n)
    = (ix2 ⟨1024 * (t.val / 8) + r.val, by have := t.isLt; have : cfg0.N = 64 := N_0; omega⟩ ⟨512 * (min (t.val % 8 - 2) 1) + n.val, by omega⟩ : S8192x1024.Idx) := by
  have e := (index_eq t).2.2.2.2.2.1
  blk_ext [e]

theorem value5 (c : Dev nD) : (dats m 0 c).arrAt 5 cfg0.N = fun y => cols m c 1024 1024 (by omega) (y 0) (y 1) := by
  refine (dats m 0 c).arrAt_eq_of_covers 5 _ (by decide +kernel) fun t hf y => ?_
  blk_simp
  rw [after5]
  obtain ⟨r, n, rfl⟩ : ∃ (r : Fin 1024) (n : Fin 512), y = ix2 r n := ⟨y 0, y 1, eq_ix2 y⟩
  rw [emb5]
  exact tile_at m c _ r n _ _ _ _ _
    (by show 1024 * (t.val / 8) + r.val = 1024 * ((8 * (t.val / 8) + max 2 (min (t.val % 8) 3)) / 8) + r.val; omega)
    (by show 1024 + (512 * (min (t.val % 8 - 2) 1) + n.val) = 512 * ((8 * (t.val / 8) + max 2 (min (t.val % 8) 3)) % 8) + n.val; omega)

theorem emb6 (t : Fin cfg0.N) (r : Fin 1024) (n : Fin 512) : (win0_6.blk t).view.emb (ix2 r n)
    = (ix2 ⟨1024 * (t.val / 8) + r.val, by have := t.isLt; have : cfg0.N = 64 := N_0; omega⟩ ⟨512 * (min (t.val % 8 - 4) 1) + n.val, by omega⟩ : S8192x1024.Idx) := by
  have e := (index_eq t).2.2.2.2.2.2.1
  blk_ext [e]

theorem value6 (c : Dev nD) : (dats m 0 c).arrAt 6 cfg0.N = fun y => cols m c 2048 1024 (by omega) (y 0) (y 1) := by
  refine (dats m 0 c).arrAt_eq_of_covers 6 _ (by decide +kernel) fun t hf y => ?_
  blk_simp
  rw [after6]
  obtain ⟨r, n, rfl⟩ : ∃ (r : Fin 1024) (n : Fin 512), y = ix2 r n := ⟨y 0, y 1, eq_ix2 y⟩
  rw [emb6]
  exact tile_at m c _ r n _ _ _ _ _
    (by show 1024 * (t.val / 8) + r.val = 1024 * ((8 * (t.val / 8) + max 4 (min (t.val % 8) 5)) / 8) + r.val; omega)
    (by show 2048 + (512 * (min (t.val % 8 - 4) 1) + n.val) = 512 * ((8 * (t.val / 8) + max 4 (min (t.val % 8) 5)) % 8) + n.val; omega)

theorem emb7 (t : Fin cfg0.N) (r : Fin 1024) (n : Fin 512) : (win0_7.blk t).view.emb (ix2 r n)
    = (ix2 ⟨1024 * (t.val / 8) + r.val, by have := t.isLt; have : cfg0.N = 64 := N_0; omega⟩ ⟨n.val, by omega⟩ : S8192x512.Idx) := by
  have e := (index_eq t).2.2.2.2.2.2.2.1
  blk_ext [e]

theorem value7 (c : Dev nD) : (dats m 0 c).arrAt 7 cfg0.N = fun y => cols m c 3072 512 (by omega) (y 0) (y 1) := by
  refine (dats m 0 c).arrAt_eq_of_covers 7 _ (by decide +kernel) fun t hf y => ?_
  blk_simp
  rw [after7]
  obtain ⟨r, n, rfl⟩ : ∃ (r : Fin 1024) (n : Fin 512), y = ix2 r n := ⟨y 0, y 1, eq_ix2 y⟩
  rw [emb7]
  exact tile_at m c _ r n _ _ _ _ _
    (by show 1024 * (t.val / 8) + r.val = 1024 * ((8 * (t.val / 8) + max 6 (min (t.val % 8) 6)) / 8) + r.val; omega)
    (by show 3072 + n.val = 512 * ((8 * (t.val / 8) + max 6 (min (t.val % 8) 6)) % 8) + n.val; omega)

theorem emb8 (t : Fin cfg0.N) (r : Fin 1024) (n : Fin 512) : (win0_8.blk t).view.emb (ix2 r n)
    = (ix2 ⟨1024 * (t.val / 8) + r.val, by have := t.isLt; have : cfg0.N = 64 := N_0; omega⟩ ⟨n.val, by omega⟩ : S8192x512.Idx) := by
  have e := (index_eq t).2.2.2.2.2.2.2.2
  blk_ext [e]

theorem value8 (c : Dev nD) : (dats m 0 c).arrAt 8 cfg0.N = fun y => cols m c 3584 512 (by omega) (y 0) (y 1) := by
  refine (dats m 0 c).arrAt_eq_of_covers 8 _ (by decide +kernel) fun t hf y => ?_
  blk_simp
  rw [after8]
  obtain ⟨r, n, rfl⟩ : ∃ (r : Fin 1024) (n : Fin 512), y = ix2 r n := ⟨y 0, y 1, eq_ix2 y⟩
  rw [emb8]
  exact tile_at m c _ r n _ _ _ _ _
    (by show 1024 * (t.val / 8) + r.val = 1024 * ((8 * (t.val / 8) + max 7 (min (t.val % 8) 7)) / 8) + r.val; omega)
    (by show 3584 + n.val = 512 * ((8 * (t.val / 8) + max 7 (min (t.val % 8) 7)) % 8) + n.val; omega)

end Proj2
end
-- ==== Proof.ProjRef.lean ====
module

public import proofs.«01_k».proof.Defs
public import proofs.«01_k».proof.Proof.ProjValue
public import proofs.«01_k».proof.Proof.Gen.Reference2Ideal.Run
public import proofs.«01_k».proof.Proof.Gen.Kernel2
public import Idealize.ShloMosaic.Lib.Quiescent

/-! The reference of the prompt's input projection ends with the same five arrays. -/

@[expose] public section
set_option maxRecDepth 16384
noncomputable section
namespace Proj2
open Idealize.ShloMosaic Idealize.ShloMosaic.TcCoe Idealize.SL.Sem Idealize.ShloMosaic.StableHlo

section
open Cert.Reference2Ideal Cert.Reference2Ideal.Gen

/-- The reference's normed rows times the weights. -/
def rProj (x : FVec Ideal S4x2048x2048 .f32) (g b : FVec Ideal S2048 .f32) (w : FVec Ideal S1x2048x4096 .f32) : FVec Ideal S4x2048x4096 .f32 :=
  Host.dotGeneral dot_S4x2048x2048_S2048x4096_S4x2048x4096_2_0_01_1_n_n none
    (addf (mulf (mulf (subf x (broadcastInDim S4x2048x2048 ![0, 1, 2] bcast_S4x2048x1_S4x2048x2048_0_1_2 (Host.divf (broadcastInDim S4x2048x1 ![0, 1] bcast_S4x2048_S4x2048x1_0_1 (Host.reduceAdd x (constant S_ .f32 0x00000000#32) reducesTo_S4x2048x2048_S4x2048_d2 h_S_)) (broadcastInDim S4x2048x1 ![] bcast_S_S4x2048x1 (constant S_ .f32 0x45000000#32)))))
      (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd
        (mulf (subf x (broadcastInDim S4x2048x2048 ![0, 1, 2] bcast_S4x2048x1_S4x2048x2048_0_1_2 (Host.divf (broadcastInDim S4x2048x1 ![0, 1] bcast_S4x2048_S4x2048x1_0_1 (Host.reduceAdd x (constant S_ .f32 0x00000000#32) reducesTo_S4x2048x2048_S4x2048_d2 h_S_)) (broadcastInDim S4x2048x1 ![] bcast_S_S4x2048x1 (constant S_ .f32 0x45000000#32)))))
          (subf x (broadcastInDim S4x2048x2048 ![0, 1, 2] bcast_S4x2048x1_S4x2048x2048_0_1_2 (Host.divf (broadcastInDim S4x2048x1 ![0, 1] bcast_S4x2048_S4x2048x1_0_1 (Host.reduceAdd x (constant S_ .f32 0x00000000#32) reducesTo_S4x2048x2048_S4x2048_d2 h_S_)) (broadcastInDim S4x2048x1 ![] bcast_S_S4x2048x1 (constant S_ .f32 0x45000000#32))))))
        (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32))))))
      (broadcastInDim S4x2048x2048 ![0, 1, 2] bcast_S1x1x2048_S4x2048x2048_0_1_2 (broadcastInDim S1x1x2048 ![2] bcast_S2048_S1x1x2048_2 g)))
      (broadcastInDim S4x2048x2048 ![0, 1, 2] bcast_S1x1x2048_S4x2048x2048_0_1_2 (broadcastInDim S1x1x2048 ![2] bcast_S2048_S1x1x2048_2 b)))
    (shapeCast _ w shapeCasts_S1x2048x4096_S2048x4096)

theorem rProj_at (x : FVec Ideal S4x2048x2048 .f32) (g b : FVec Ideal S2048 .f32) (w : FVec Ideal S1x2048x4096 .f32) (i : Fin 4) (s : Fin 2048) (n : Fin 4096) :
    rProj x g b w (ix3 i s n) = Proj.entry (fun d => x (ix3 i s d)) (fun d => g (ix1 d)) (fun d => b (ix1 d)) (fun d => w (ix3 0 d n)) := by
  unfold rProj
  pointwise
  rfl

variable (x : FVec Ideal S4x2048x2048 .f32) (g b : FVec Ideal S2048 .f32) (w : FVec Ideal S1x2048x4096 .f32)

theorem out0 : shapeCast S8192x1024 (extractStridedSlice S4x2048x1024 ![0, 0, 0] (rProj x g b w) slices_S4x2048x4096_S4x2048x1024_0_0_0) shapeCasts_S4x2048x1024_S8192x1024
    = fun y => Proj.prompt x g b w 0 1024 (by omega) (y 0) (y 1) := by
  funext y
  obtain ⟨r, n, rfl⟩ : ∃ (r : Fin 8192) (n : Fin 1024), y = ix2 r n := ⟨y 0, y 1, eq_ix2 y⟩
  pointwise
  rw [rProj_at]
  simp only [Proj.prompt, Nat.zero_add]

theorem out1 : shapeCast S8192x1024 (extractStridedSlice S4x2048x1024 ![0, 0, 1024] (rProj x g b w) slices_S4x2048x4096_S4x2048x1024_0_0_1024) shapeCasts_S4x2048x1024_S8192x1024
    = fun y => Proj.prompt x g b w 1024 1024 (by omega) (y 0) (y 1) := by
  funext y
  obtain ⟨r, n, rfl⟩ : ∃ (r : Fin 8192) (n : Fin 1024), y = ix2 r n := ⟨y 0, y 1, eq_ix2 y⟩
  pointwise
  rw [rProj_at]
  rfl

theorem out2 : shapeCast S8192x1024 (extractStridedSlice S4x2048x1024 ![0, 0, 2048] (rProj x g b w) slices_S4x2048x4096_S4x2048x1024_0_0_2048) shapeCasts_S4x2048x1024_S8192x1024
    = fun y => Proj.prompt x g b w 2048 1024 (by omega) (y 0) (y 1) := by
  funext y
  obtain ⟨r, n, rfl⟩ : ∃ (r : Fin 8192) (n : Fin 1024), y = ix2 r n := ⟨y 0, y 1, eq_ix2 y⟩
  pointwise
  rw [rProj_at]
  rfl

theorem out3 : shapeCast S8192x512 (extractStridedSlice S4x2048x512 ![0, 0, 3072] (rProj x g b w) slices_S4x2048x4096_S4x2048x512_0_0_3072) shapeCasts_S4x2048x512_S8192x512
    = fun y => Proj.prompt x g b w 3072 512 (by omega) (y 0) (y 1) := by
  funext y
  obtain ⟨r, n, rfl⟩ : ∃ (r : Fin 8192) (n : Fin 512), y = ix2 r n := ⟨y 0, y 1, eq_ix2 y⟩
  pointwise
  rw [rProj_at]
  rfl

theorem out4 : truncf .bf16 (shapeCast S8192x512 (extractStridedSlice S4x2048x512 ![0, 0, 3584] (rProj x g b w) slices_S4x2048x4096_S4x2048x512_0_0_3584) shapeCasts_S4x2048x512_S8192x512) bitsLt_bf16_f32
    = fun y => Proj.prompt x g b w 3584 512 (by omega) (y 0) (y 1) := by
  funext y
  obtain ⟨r, n, rfl⟩ : ∃ (r : Fin 8192) (n : Fin 512), y = ix2 r n := ⟨y 0, y 1, eq_ix2 y⟩
  pointwise
  rw [rProj_at]
  rfl
end

section
attribute [local instance] Cert.Kernel2.Gen.facts Cert.Kernel2Ideal.Gen.facts

/-- The two printings of the kernel have the same text, so the same body table. -/
theorem tables : Cert.Kernel2.defs₀ (F := Bits) = Cert.Kernel2Ideal.defs₀ (F := Bits) := by
  delta Cert.Kernel2.defs₀ Cert.Kernel2Ideal.defs₀
  refine congrArg Defs.onTc ?_
  funext p x
  match p, x with
  | 0, (_, _) => rfl
  | ⟨_ + 1, h⟩, _ => exact absurd h (Nat.not_lt.2 (Nat.le_add_left _ _))

/-- The frame of the program as printed: the run over any floats, taken at the bit-exact ones. -/
theorem frame_kernel : Cert.quiescent_Kernel2 := fun m ρ _ =>
  Eq.mpr (congrArg (fun d => θ_run (Pipeline.defs (Cert.Kernel2Ideal.pcfgs (F := Bits)) d) (onTc Cert.Kernel2Ideal.main) ⟨m, fun _ => 0, ρ⟩ _) tables)
    (frame (F := Bits) m ρ)
end

/-- The reference's frame: no operation writes an argument, and it has no semaphore. -/
theorem frame_ref : @Cert.quiescent_Reference2Ideal Cert.Reference2Ideal.Gen.facts := fun m ρ _ =>
  (θ_run Cert.Reference2Ideal.defs _ _).mono (fun r h => ⟨fun c => (h c).2.2.2.2.2, sem_eq_zero_of_no_sems (by decide) r.2⟩)
    (Cert.Reference2Ideal.Value.run m ρ)

/-- The value claim: both programs end with the projection's columns in the five results. -/
theorem equation : @Cert.algebraic_Kernel2Ideal_Reference2Ideal Cert.Kernel2Ideal.Gen.facts Cert.Reference2Ideal.Gen.facts := by
  intro m g m' g' hpre hargs
  refine ⟨fun c y => cols m c 0 1024 (by omega) (y 0) (y 1), fun c y => cols m c 1024 1024 (by omega) (y 0) (y 1),
    fun c y => cols m c 2048 1024 (by omega) (y 0) (y 1), fun c y => cols m c 3072 512 (by omega) (y 0) (y 1),
    fun c y => cols m c 3584 512 (by omega) (y 0) (y 1), ?_, ?_⟩
  · refine (θ_run Cert.Kernel2Ideal.defs _ _).mono (fun r h c => ?_) (θ_run_and (run m g) (frame m g))
    obtain ⟨⟨h1, -⟩, ⟨h2, -⟩⟩ := (⟨h.1 c, h.2⟩ : _ ∧ _)
    exact ⟨(h1 4).trans (value4 m c), (h1 5).trans (value5 m c), (h1 6).trans (value6 m c), (h1 7).trans (value7 m c),
      (h1 8).trans (value8 m c), h2 c⟩
  · refine (θ_run Cert.Reference2Ideal.defs _ _).mono (fun r h c => ?_) (Cert.Reference2Ideal.Value.run m' g')
    obtain ⟨h0, h1, h2, h3⟩ := hargs c
    obtain ⟨r0, r1, r2, r3, r4, rest⟩ := h c
    refine ⟨r0.trans ((out0 _ _ _ _).trans ?_), r1.trans ((out1 _ _ _ _).trans ?_), r2.trans ((out2 _ _ _ _).trans ?_),
      r3.trans ((out3 _ _ _ _).trans ?_), r4.trans ((out4 _ _ _ _).trans ?_), rest⟩
    all_goals rw [h0, h1, h2, h3]; rfl

end Proj2
end
-- ==== Proof.MemRun.lean ====
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.VecWindow

/-! The memory projection's body, run once on any staging buffers: the rows go to the scratch on the first tile, and the
product of the scratch with the weight tile goes to the one output the tile belongs to. -/

@[expose] public section
set_option maxRecDepth 16384
noncomputable section
namespace Proj3
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first tile of a row block. -/
abbrev First (i : grid0.Coords) : Prop :=
  (Scalar.cmpi .ne (Scalar.extui (Scalar.cmpi .eq (BitVec.ofNat 32 (i 1).val) 0#32)) 0#32) = 1#1

/-- Exactly one output takes the tile, the first tile the first output. -/
def OneOf (i : grid0.Coords) : Prop :=
  (First i ∧ k0_cond2 i = 1#1 ∧ ¬k0_cond3 i = 1#1) ∨ (¬First i ∧ ¬k0_cond2 i = 1#1 ∧ k0_cond3 i = 1#1)

theorem oneOf : ∀ t : Fin grid0.N, OneOf (grid0.coords t) := by
  unfold OneOf; decide +kernel

set_option maxHeartbeats 4000000 in
/-- The body on whole buffers: the scratch is set on a first tile, the tile's output gets the product, the other stays. -/
theorem body_run (c : Dev nD) (i : grid0.Coords) (hi : OneOf i)
    (arg2 : Memref sig .tc .vmem S1024x2048 .f32) (harg2 : arg2.IsWhole) (arg3 : Memref sig .tc .vmem S1x2048x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1024x2048 .bf16) (harg6 : arg6.IsWhole)
    (x0 : Vec F S1024x2048 .f32) (x1 : Vec F S1x2048x512 .f32) (y2 y3 : Vec F S1024x512 .f32) (xs s : Vec F S1024x2048 .bf16)
    (hs : s = if First i then k0_pay1 x0 else xs) (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare xs
        ∗ (iprop(owns (c : Thread nD τ) arg2 fullShare x0 ∗ owns (c : Thread nD τ) arg3 fullShare x1
            ∗ owns (c : Thread nD τ) arg4 fullShare (if k0_cond2 i = 1#1 then k0_pay2 s x1 else y2)
            ∗ owns (c : Thread nD τ) arg5 fullShare (if k0_cond3 i = 1#1 then k0_pay2 s x1 else y3)
            ∗ owns (c : Thread nD τ) arg6 fullShare s) -∗ K ⟨⟩))
      ⊢ wp frame (wpE (defs₀ (F := F)) Variants.none c none) E
          (cc0_proj i arg2 harg2 arg3 harg3 arg4 harg4 arg5 harg5 arg6 harg6) K := by
  rcases hi with ⟨h1, h2, h3⟩ | ⟨h1, h2, h3⟩
  all_goals
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%fs, %hfs, HS⟩, Hk⟩
    sl_exec (disch := first | sl_exact h1 | sl_exact h2 | sl_exact h3)
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro
      first
      | (rw [if_neg h2]; exact hf2)
      | (rw [if_pos h2, View.read_writes_full, hs, if_pos h1]
         unfold body_run.sl.v3 body_run.sl.HS_1
         rw [View.readCov_full, View.readAt_full, View.readAt_full, hf0, hf1])
    isplitl [H3]
    · iexists _; isplitr
      swap; · iexact H3
      ipureintro
      first
      | (rw [if_neg h3]; exact hf3)
      | (rw [if_pos h3, View.read_writes_full, hs, if_neg h1, View.readAt_full, View.readAt_full, hfs, hf1])
    iexists _; isplitr
    swap; · iexact HS
    ipureintro
    first
    | (rw [hs, if_neg h1]; exact hfs)
    | (rw [hs, if_pos h1]
       unfold body_run.sl.HS_1
       rw [View.read_writes_full, View.readAt_full, hf0])

end Proj3
end
-- ==== Proof.MemFrame.lean ====
module

public import proofs.«01_k».proof.Proof.MemRun
public import Idealize.ShloMosaic.Lib.Claim

/-! The memory projection's pipeline: what every buffer holds after every point of the grid, and the run of the whole program. -/

@[expose] public section
set_option maxRecDepth 16384
noncomputable section
namespace Proj3
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Which tile of a row block an output's buffer holds -/

/-- The first and the last tile of a row block that go to an output. -/
def lo : Fin 4 → Fin 2 := ![0, 0, 0, 1]
def hi : Fin 4 → Fin 2 := ![1, 1, 0, 1]

/-- The point that computed the tile an output's buffer belongs to at a point: the nearest of its own tiles. -/
def pos (w : Fin 4) (t : Fin cfg0.N) : Fin cfg0.N :=
  ⟨2 * (t.val / 2) + max (lo w).val (min (t.val % 2) (hi w).val), by
    have := t.isLt; have hN : cfg0.N = 2 := N_0; have := (lo w).isLt; have := (hi w).isLt; omega⟩

/-- The first point of a point's row block. -/
def base (t : Fin cfg0.N) : Fin cfg0.N := ⟨2 * (t.val / 2), by have := t.isLt; omega⟩

theorem pos_stored : ∀ (w : Fin 4) (t : Fin grid0.N), (cfg0.win w).isOut = true → cfg0.idle w (grid0.coords t) = false → pos w t = t := by
  decide +kernel

theorem pos_carry : ∀ (w : Fin 4) (t : Fin grid0.N), (cfg0.win w).isOut = true → cfg0.idle w (grid0.coords t) = true → t.val % 2 ≠ 0 →
    (pos w t).val = (2 * ((t.val - 1) / 2) + max (lo w).val (min ((t.val - 1) % 2) (hi w).val)) := by
  decide +kernel

/-- Nothing is in an output's buffer until its last tile but one is stored, in every row block. -/
theorem fresh_eq (w : Fin 4) (hw : (cfg0.win w).isOut = true) (n : ℕ) (hn : n ≤ cfg0.N) :
    cfg0.fresh w n = decide (n % 2 ≤ (hi w).val) :=
  cfg0.fresh_tab w (fun n => decide (n % 2 ≤ (hi w).val)) (by simp)
    (fun t => (by decide +kernel : ∀ (w : Fin 4) (t : Fin grid0.N), (cfg0.win w).isOut = true →
      decide ((t.val + 1) % 2 ≤ (hi w).val) = ((cfg0.win w).flush t || (cfg0.idle w (grid0.coords t) && decide (t.val % 2 ≤ (hi w).val)))) w t hw) n hn

theorem idle_flush : ∀ (w : Fin 4) (t : Fin grid0.N), (cfg0.win w).isOut = true → cfg0.idle w (grid0.coords t) = true →
    (cfg0.win w).flush t = true → ¬t.val % 2 ≤ (hi w).val := by
  decide +kernel

theorem first_iff : ∀ t : Fin grid0.N, First (grid0.coords t) ↔ t.val % 2 = 0 := by
  decide +kernel

variable (m : (ℓ : Loc nD τ sig) → Buf (Elt F) ℓ) (ρ : Dev nD → PrngReg)

/-! ## The proof data -/

/-- The scratch through a row block: the layer norm of its rows. -/
def scr (c : Dev nD) (t : Fin cfg0.N) : Vec F S1024x2048 .bf16 :=
  k0_pay1 (iblk m c 0 (base t))

/-- The tile a point computes. -/
def tile (c : Dev nD) (t : Fin cfg0.N) : Vec F S1024x512 .f32 := k0_pay2 (scr m c t) (iblk m c 1 t)

/-- Between points the scratch holds the last row block's layer norm. -/
def inv (c : Dev nD) : (n : ℕ) → n ≤ cfg0.N → sProp 𝕄
  | 0, _ => Pipeline.ΦA spec0 c
  | n + 1, hn => iprop(owns (c : Thread nD τ) (Memref.whole cc0_scratch0 : Memref sig .tc .vmem S1024x2048 .bf16) fullShare (scr m c ⟨n, hn⟩)
      ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile m c (pos 2 t)
    | ⟨3, _⟩ => tile m c (pos 3 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after2 (c : Dev nD) (t : Fin cfg0.N) : (dats m 0 c).after 2 t = tile m c (pos 2 t) := by dsimp only [dats]
theorem after3 (c : Dev nD) (t : Fin cfg0.N) : (dats m 0 c).after 3 t = tile m c (pos 3 t) := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d

/-- An output's buffer holds the same at two points whose nearest own tile is the same. -/
theorem after_congr (c : Dev nD) (w : Fin 4) (hw : (cfg0.win w).isOut = true) (t t' : Fin cfg0.N) (h : pos w t = pos w t') :
    (dats m 0 c).after w t = (dats m 0 c).after w t' := by
  obtain ⟨w, hlt⟩ := w
  match w, hlt, hw, h with
  | 2, _, _, h => exact congrArg (tile m c) h
  | 3, _, _, h => exact congrArg (tile m c) h
  | 0, _, hw, _ => exact (Bool.false_ne_true hw).elim
  | 1, _, hw, _ => exact (Bool.false_ne_true hw).elim

theorem carry (c : Dev nD) (w : Fin 4) (hw : (cfg0.win w).isOut = true) (t : Fin cfg0.N)
    (hi' : cfg0.idle w (cfg0.grid.coords t) = true) (hf : ¬t.val % 2 ≤ (hi w).val) :
    (dats m 0 c).after w t = (dats m 0 c).after w ⟨t.val - 1, by omega⟩ :=
  after_congr m c w hw _ _ (Fin.ext (pos_carry w t hw hi' (by omega)))

theorem clip_none (w : Fin 4) (i : cfg0.grid.Coords) (a) : (cfg0.win w).clip i a = none := by
  obtain ⟨w, hlt⟩ := w
  match w, hlt with
  | 0, _ | 1, _ | 2, _ | 3, _ => rfl

/-- At a point that writes an output back without storing into it, the buffer still holds the output's last tile. -/
theorem before_flush (c : Dev nD) (w : Fin 4) (hw : (cfg0.win w).isOut = true) (t : Fin cfg0.N)
    (hi' : cfg0.idle w (cfg0.grid.coords t) = true) (hf : (cfg0.win w).flush t = true) (d) :
    (dats m 0 c).before w t d = (dats m 0 c).after w t := by
  have hlast := idle_flush w t hw hi' hf
  have hN : cfg0.N = 2 := N_0
  rw [(dats m 0 c).before_out_traj w hw (clip_none w) (fun t' _ h1 h2 => by
    rw [fresh_eq w hw _ t'.isLt.le] at h2
    exact carry m c w hw t' h1 (by simpa using h2)) t.val t rfl d, fresh_eq w hw _ t.isLt.le, if_neg (by simpa using hlast)]
  exact (carry m c w hw t hi' hlast).symm

/-- What the body must leave in an output's buffer. -/
theorem leaves_out (c : Dev nD) (w : Fin 4) (hw : (cfg0.win w).isOut = true) (t : Fin cfg0.N) (d) (X)
    (h1 : cfg0.idle w (cfg0.grid.coords t) = false → X = (dats m 0 c).after w t)
    (h2 : cfg0.idle w (cfg0.grid.coords t) = true → X = (dats m 0 c).before w t d) :
    owns (c : Thread nD τ) ((cfg0.win w).stage (cfg0.slots t w)) fullShare X ⊢ ((dats m 0 c).leavesExact w t : sProp 𝕄) := by
  unfold Dat.leavesExact
  cases hi' : cfg0.idle w (cfg0.grid.coords t)
  · rw [h1 hi']
  · dsimp only
    rw [h2 hi']
    cases hf : (cfg0.win w).flush t
    · dsimp only
      iintro H
      iexists d
      iexact H
    · dsimp only
      rw [before_flush m c w hw t hi' hf d]

/-! ## The body at every point -/

/-- Before a point the scratch holds what the point needs, unless the point sets it. -/
theorem inv_open (c : Dev nD) (t : Fin cfg0.N) :
    (dats m 0 c).Φ t.castSucc ⊢ iprop(∃ xs : Vec F S1024x2048 .bf16,
      ⌜scr m c t = if First (cfg0.grid.coords t) then k0_pay1 (iblk m c 0 t) else xs⌝
      ∗ owns (c : Thread nD τ) (Memref.whole cc0_scratch0 : Memref sig .tc .vmem S1024x2048 .bf16) fullShare xs ∗ (∃ r, prngReg c r)) := by
  have hset : First (cfg0.grid.coords t) → scr m c t = k0_pay1 (iblk m c 0 t) := fun h => by
    have hb : base t = t := Fin.ext (by have := (first_iff t).mp h; simp only [base]; omega)
    unfold scr; rw [hb]
  rw [show (dats m 0 c).Φ t.castSucc = inv m c t.val (Nat.le_of_lt t.isLt) from by
    dsimp only [dats]; exact Dat.Φ_castSucc (inv m c) t]
  obtain ⟨n, hn⟩ := t
  cases n with
  | zero =>
    unfold inv Pipeline.ΦA
    rw [scopedRest0_eq]
    iintro ⟨⟨%d, HS⟩, Hg⟩
    iexists d
    isplitr [HS Hg]
    · ipureintro
      rw [if_pos ((first_iff _).mpr rfl)]
      exact hset ((first_iff _).mpr rfl)
    isplitl [HS]
    · rw [owns_whole]; iexact HS
    iexact Hg
  | succ n =>
    unfold inv
    iintro ⟨HS, Hg⟩
    iexists _
    isplitr [HS Hg]
    swap
    · isplitl [HS]
      · iexact HS
      iexact Hg
    ipureintro
    by_cases h : First (cfg0.grid.coords ⟨n + 1, hn⟩)
    · rw [if_pos h]; exact hset h
    · rw [if_neg h]
      have hb : base ⟨n + 1, hn⟩ = base ⟨n, by omega⟩ :=
        Fin.ext (by have := mt (first_iff ⟨n + 1, hn⟩).mpr h; simp only [base] at *; omega)
      unfold scr; rw [hb]

/-- A window's staging buffer at a point. -/
abbrev buf (w : Fin 4) (t : Fin cfg0.N) := (cfg0.win w).stage (cfg0.slots t w)

theorem leaves_in (c : Dev nD) (t : Fin cfg0.N) :
    ((dats m 0 c).leavesExact 0 t = owns (c : Thread nD τ) (buf 0 t) fullShare (iblk m c 0 t))
    ∧ ((dats m 0 c).leavesExact 1 t = owns (c : Thread nD τ) (buf 1 t) fullShare (iblk m c 1 t)) :=
  ⟨rfl, rfl⟩

/-- An output's buffer after the body: its own tile where it takes one, what it held before elsewhere. -/
theorem leaves_if (c : Dev nD) (w : Fin 4) (hw : (cfg0.win w).isOut = true) (t : Fin cfg0.N) (d) (p : Prop) [Decidable p] (A B)
    (hA : pos w t = t → A = (dats m 0 c).after w t) (hB : B = (dats m 0 c).before w t d) (hp : p ↔ cfg0.idle w (cfg0.grid.coords t) = false) :
    owns (c : Thread nD τ) ((cfg0.win w).stage (cfg0.slots t w)) fullShare (if p then A else B) ⊢ ((dats m 0 c).leavesExact w t : sProp 𝕄) :=
  leaves_out m c w hw t d _ (fun h => by rw [if_pos (hp.mpr h)]; exact hA (pos_stored w t hw h))
    (fun h => by rw [if_neg (fun h' => by rw [hp.mp h'] at h; exact Bool.false_ne_true h)]; exact hB)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (buf 0 t) fullShare ((dats m 0 c).before 0 t d))
    ∗ (∃ d, owns (c : Thread nD τ) (buf 1 t) fullShare ((dats m 0 c).before 1 t d))
    ∗ (∃ d, owns (c : Thread nD τ) (buf 2 t) fullShare ((dats m 0 c).before 2 t d))
    ∗ (∃ d, owns (c : Thread nD τ) (buf 3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  obtain ⟨e0, e1⟩ := leaves_in m c t
  rw [e0, e1]
  rw [show (dats m 0 c).owesAt () t.succ = (dats m 0 c).owesAt () t.castSucc from rfl]
  rw [show (dats m 0 c).Φ t.succ = iprop(owns (c : Thread nD τ) (Memref.whole cc0_scratch0 : Memref sig .tc .vmem S1024x2048 .bf16) fullShare (scr m c t)
      ∗ (∃ r, prngReg c r)) from rfl]
  iintro ⟨HΦ, Ho, ⟨%d0, H0⟩, ⟨%d1, H1⟩, ⟨%d2, H2⟩, ⟨%d3, H3⟩⟩
  ihave Hx := inv_open m c t $$ HΦ
  icases Hx with ⟨%xs, %hs, HS, Hg⟩
  iapply (body_run c (grid0.coords t) (oneOf t) _ _ _ _ _ _ _ _ _ _ (iblk m c 0 t) (iblk m c 1 t)
    ((dats m 0 c).before 2 t d2) ((dats m 0 c).before 3 t d3) xs (scr m c t) hs Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]
  · iapply (leaves_if m c 2 rfl t d2 (k0_cond2 (grid0.coords t) = 1#1) _ _ (fun h => by rw [after2, h]; rfl) rfl (by simp [cfg0, idle0])) $$ H2
  · iapply (leaves_if m c 3 rfl t d3 (k0_cond3 (grid0.coords t) = 1#1) _ _ (fun h => by rw [after3, h]; rfl) rfl (by simp [cfg0, idle0])) $$ H3

theorem body_row (t : Fin cfg0.N) :
    defs₀ (F := F) .tc cfg0.body (cfg0.bodyArgs t (cfg0.slots t)) = bodyAt0 t := by
  unfold defs₀; rw [Defs.onTc_tc]

theorem body_ob (c : Dev nD) : BodyObligation (dats (F := F) m 0 c) (defs₀ (F := F)) Variants.none () Set.univ := fun t => by
  rw [bigSep_W0, bigSep_W0, body_row]
  exact triple_restated (sound_body m c t) rfl .rfl fun _ => .rfl

/-- After the last point the scratch's contents are forgotten. -/
theorem inv_last (c : Dev nD) : (dats m 0 c).Φ (Fin.last cfg0.N) ⊢ Pipeline.ΦA spec0 c := by
  rw [show (dats m 0 c).Φ (Fin.last cfg0.N) = iprop(owns (c : Thread nD τ) (Memref.whole cc0_scratch0 : Memref sig .tc .vmem S1024x2048 .bf16) fullShare
    (scr m c ⟨1, by decide⟩) ∗ (∃ r, prngReg c r)) from rfl]
  unfold Pipeline.ΦA
  rw [scopedRest0_eq]
  simp only [owns_whole]
  iintro ⟨HS, Hg⟩
  isplitl [HS]
  · iexists _; iexact HS
  iexact Hg

set_option backward.isDefEq.respectTransparency.types false in
/-- The launch: every array ends as the proof data says, and no counter is left. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ob m c).loose) (hshare := fun c => (dats m 0 c).share_full fun _ => rfl)
    (howed := fun _ _ => rfl) (V := V m) (hmain := hmain m Variants.none) (hA := A_eq m)
    (hin := fun c => Idealize.SL.BI.Entails.refl _) (hout := inv_last m)

theorem run : θ_run defs (onTc (τ := τ) (main (F := F))) (s₀ m ρ) (Pipeline.FramePost cfgs (dats m) 0 (V m)) :=
  (θ_run defs _ _).mono (fun _ h => h.1) (run_all m ρ)

/-- The arguments end as they began, and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_all m ρ))

end Proj3
end
-- ==== Proof.MemValue.lean ====
module

public import proofs.«01_k».proof.Proof.MemFrame
public import proofs.«01_k».proof.Proof.ProjSpec
public import Idealize.ShloMosaic.Lib.Pipeline.ValueKit
public import Idealize.ShloMosaic.Lib.StableHlo.ReadAt
public import Idealize.ShloMosaic.Lib.Tactic.CleanTypes

/-! The two result arrays of the memories' projection. -/

@[expose] public section
set_option maxRecDepth 16384
noncomputable section
namespace Proj3
open Cert.Kernel3Ideal Cert.Kernel3Ideal.Gen Idealize.ShloMosaic Idealize.ShloMosaic.StableHlo

theorem pay1_at (x : Vec Ideal S1024x2048 .f32) (r : Fin 1024) (d : Fin 2048) : k0_pay1 x (ix2 r d) = x (ix2 r d) := by
  unfold k0_pay1
  pointwise

theorem pay2_at (s : Vec Ideal S1024x2048 .bf16) (w : Vec Ideal S1x2048x512 .f32) (r : Fin 1024) (n : Fin 512) :
    k0_pay2 s w (ix2 r n) = ∑ d : Fin 2048, s (ix2 r d) * w (ix3 0 d n) := by
  unfold k0_pay2
  pointwise

variable (m : (ℓ : Loc nD τ sig) → ℓ.ty.Contents (Elt Idealize.ShloMosaic.Ideal))

theorem x_at (c : Dev nD) (r : Fin 1024) (d : Fin 2048) :
    (V m c main_v0 : Vec Ideal S1024x2048 .f32) (ix2 r d) = m (c, Proc.tc.devRef main_arg0) (ix3 ⟨r.val / 256, by omega⟩ ⟨r.val % 256, by omega⟩ d) := by
  unfold V
  after_reads_at

/-- The block indices at a grid point. -/
theorem index_eq : ∀ t : Fin grid0.N, win0_0.index t = ![0, 0] ∧ win0_1.index t = ![0, 0, t.val] ∧ win0_2.index t = ![0, 0] ∧ win0_3.index t = ![0, 0] := by
  decide +kernel

theorem x_blk (c : Dev nD) (t : Fin cfg0.N) (r : Fin 1024) (d : Fin 2048) :
    iblk m c 0 t (ix2 r d) = (V m c main_v0 : Vec Ideal S1024x2048 .f32) (ix2 r d) := by
  obtain ⟨e, -⟩ := index_eq t
  blk_ext [iblk, e]

theorem w_blk (c : Dev nD) (t : Fin cfg0.N) (d : Fin 2048) (n : Fin 512) :
    iblk m c 1 t (ix3 0 d n) = m (c, Proc.tc.devRef main_arg1) (ix3 0 d ⟨512 * t.val + n.val, by have := t.isLt; have : cfg0.N = 2 := N_0; omega⟩) := by
  obtain ⟨-, e, -⟩ := index_eq t
  rw [← V_main_arg1 m c]
  blk_ext [iblk, e]

/-- The columns of the projection that go to one output. -/
def cols (c : Dev nD) (o : ℕ) (h : o + 512 ≤ 1024) (r : Fin 1024) (n : Fin 512) : EReal :=
  Proj.memory (m (c, Proc.tc.devRef main_arg0)) (m (c, Proc.tc.devRef main_arg1)) o h r n

/-- A tile holds its columns of the projection. -/
theorem tile_at (c : Dev nD) (t : Fin cfg0.N) (r : Fin 1024) (n : Fin 512) (o : ℕ) (h : o + 512 ≤ 1024) (R : Fin 1024) (k : Fin 512)
    (hR : R = r) (hk : o + k.val = 512 * t.val + n.val) : tile m c t (ix2 r n) = cols m c o h R k := by
  subst hR
  have hk' : (⟨512 * t.val + n.val, by omega⟩ : Fin 1024) = ⟨o + k.val, by omega⟩ := Fin.ext hk.symm
  unfold tile scr cols Proj.memory
  rw [pay2_at]
  refine Finset.sum_congr rfl fun d _ => ?_
  rw [pay1_at, w_blk, hk', x_blk]
  exact congrArg (· * _) (x_at m c R d)

theorem emb2 (t : Fin cfg0.N) (r : Fin 1024) (n : Fin 512) : (win0_2.blk t).view.emb (ix2 r n) = (ix2 r n : S1024x512.Idx) := by
  have e := (index_eq t).2.2.1
  blk_ext [e]

theorem emb3 (t : Fin cfg0.N) (r : Fin 1024) (n : Fin 512) : (win0_3.blk t).view.emb (ix2 r n) = (ix2 r n : S1024x512.Idx) := by
  have e := (index_eq t).2.2.2
  blk_ext [e]

theorem value2 (c : Dev nD) : (dats m 0 c).arrAt 2 cfg0.N = fun y => cols m c 0 (by omega) (y 0) (y 1) := by
  refine (dats m 0 c).arrAt_eq_of_covers 2 _ (by decide +kernel) fun t hf y => ?_
  blk_simp
  rw [after2]
  obtain ⟨r, n, rfl⟩ : ∃ (r : Fin 1024) (n : Fin 512), y = ix2 r n := ⟨y 0, y 1, eq_ix2 y⟩
  rw [emb2]
  have ht : t.val < 2 := t.isLt
  exact tile_at m c _ r n _ _ _ _ rfl (by show 0 + n.val = 512 * (2 * (t.val / 2) + max 0 (min (t.val % 2) 0)) + n.val; omega)

theorem value3 (c : Dev nD) : (dats m 0 c).arrAt 3 cfg0.N = fun y => cols m c 512 (by omega) (y 0) (y 1) := by
  refine (dats m 0 c).arrAt_eq_of_covers 3 _ (by decide +kernel) fun t hf y => ?_
  blk_simp
  rw [after3]
  obtain ⟨r, n, rfl⟩ : ∃ (r : Fin 1024) (n : Fin 512), y = ix2 r n := ⟨y 0, y 1, eq_ix2 y⟩
  rw [emb3]
  have ht : t.val < 2 := t.isLt
  exact tile_at m c _ r n _ _ _ _ rfl (by show 512 + n.val = 512 * (2 * (t.val / 2) + max 1 (min (t.val % 2) 1)) + n.val; omega)

end Proj3
end
-- ==== Proof.MemRef.lean ====
module

public import proofs.«01_k».proof.Defs
public import proofs.«01_k».proof.Proof.MemValue
public import proofs.«01_k».proof.Proof.Gen.Reference3Ideal.Run
public import proofs.«01_k».proof.Proof.Gen.Kernel3
public import Idealize.ShloMosaic.Lib.Quiescent

/-! The reference of the memories' projection ends with the same two arrays. -/

@[expose] public section
set_option maxRecDepth 16384
noncomputable section
namespace Proj3
open Idealize.ShloMosaic Idealize.ShloMosaic.TcCoe Idealize.SL.Sem Idealize.ShloMosaic.StableHlo

section
open Cert.Reference3Ideal Cert.Reference3Ideal.Gen

variable (x : FVec Ideal S4x256x2048 .f32) (w : FVec Ideal S1x2048x1024 .f32)

theorem out0 : shapeCast S1024x512 (extractStridedSlice S4x256x512 ![0, 0, 0] (Host.dotGeneral dot_S4x256x2048_S2048x1024_S4x256x1024_2_0_01_1_n_n none x
      (shapeCast S2048x1024 w shapeCasts_S1x2048x1024_S2048x1024)) slices_S4x256x1024_S4x256x512_0_0_0) shapeCasts_S4x256x512_S1024x512
    = fun y => Proj.memory x w 0 (by omega) (y 0) (y 1) := by
  funext y
  obtain ⟨r, n, rfl⟩ : ∃ (r : Fin 1024) (n : Fin 512), y = ix2 r n := ⟨y 0, y 1, eq_ix2 y⟩
  pointwise
  simp only [Proj.memory, Nat.zero_add]

theorem out1 : shapeCast S1024x512 (extractStridedSlice S4x256x512 ![0, 0, 512] (Host.dotGeneral dot_S4x256x2048_S2048x1024_S4x256x1024_2_0_01_1_n_n none x
      (shapeCast S2048x1024 w shapeCasts_S1x2048x1024_S2048x1024)) slices_S4x256x1024_S4x256x512_0_0_512) shapeCasts_S4x256x512_S1024x512
    = fun y => Proj.memory x w 512 (by omega) (y 0) (y 1) := by
  funext y
  obtain ⟨r, n, rfl⟩ : ∃ (r : Fin 1024) (n : Fin 512), y = ix2 r n := ⟨y 0, y 1, eq_ix2 y⟩
  pointwise
  rfl
end

section
attribute [local instance] Cert.Kernel3.Gen.facts Cert.Kernel3Ideal.Gen.facts

/-- The two printings of the kernel have the same text, so the same body table. -/
theorem tables : Cert.Kernel3.defs₀ (F := Bits) = Cert.Kernel3Ideal.defs₀ (F := Bits) := by
  delta Cert.Kernel3.defs₀ Cert.Kernel3Ideal.defs₀
  refine congrArg Defs.onTc ?_
  funext p x
  match p, x with
  | 0, (_, _) => rfl
  | ⟨_ + 1, h⟩, _ => exact absurd h (Nat.not_lt.2 (Nat.le_add_left _ _))

/-- The frame of the program as printed: the run over any floats, taken at the bit-exact ones. -/
theorem frame_kernel : Cert.quiescent_Kernel3 := fun m ρ _ =>
  Eq.mpr (congrArg (fun d => θ_run (Pipeline.defs (Cert.Kernel3Ideal.pcfgs (F := Bits)) d) (onTc Cert.Kernel3Ideal.main) ⟨m, fun _ => 0, ρ⟩ _) tables)
    (frame (F := Bits) m ρ)
end

/-- The reference's frame: no operation writes an argument, and it has no semaphore. -/
theorem frame_ref : @Cert.quiescent_Reference3Ideal Cert.Reference3Ideal.Gen.facts := fun m ρ _ =>
  (θ_run Cert.Reference3Ideal.defs _ _).mono (fun r h => ⟨fun c => (h c).2.2, sem_eq_zero_of_no_sems (by decide) r.2⟩)
    (Cert.Reference3Ideal.Value.run m ρ)

/-- The value claim: both programs end with the projection's columns in the two results. -/
theorem equation : @Cert.algebraic_Kernel3Ideal_Reference3Ideal Cert.Kernel3Ideal.Gen.facts Cert.Reference3Ideal.Gen.facts := by
  intro m g m' g' hpre hargs
  refine ⟨fun c y => cols m c 0 (by omega) (y 0) (y 1), fun c y => cols m c 512 (by omega) (y 0) (y 1), ?_, ?_⟩
  · refine (θ_run Cert.Kernel3Ideal.defs _ _).mono (fun r h c => ?_) (θ_run_and (run m g) (frame m g))
    obtain ⟨⟨h1, -⟩, ⟨h2, -⟩⟩ := (⟨h.1 c, h.2⟩ : _ ∧ _)
    exact ⟨(h1 2).trans (value2 m c), (h1 3).trans (value3 m c), h2 c⟩
  · refine (θ_run Cert.Reference3Ideal.defs _ _).mono (fun r h c => ?_) (Cert.Reference3Ideal.Value.run m' g')
    obtain ⟨h0, h1⟩ := hargs c
    obtain ⟨r0, r1, rest⟩ := h c
    refine ⟨r0.trans ((out0 _ _).trans ?_), r1.trans ((out1 _ _).trans ?_), rest⟩
    all_goals rw [h0, h1]; rfl

end Proj3
end
-- ==== Proof.SampleRun.lean ====
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.VecWindow

/-! The input projection's body, run once on any staging buffers: the layer norm goes to the scratch on the first tile of a
row block, and the product of the scratch with the weight tile goes to the one output the tile belongs to. -/

@[expose] public section
set_option maxRecDepth 16384
noncomputable section
namespace Proj4
open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first tile of a row block. -/
abbrev First (i : grid0.Coords) : Prop :=
  (Scalar.cmpi .ne (Scalar.extui (Scalar.cmpi .eq (BitVec.ofNat 32 (i 1).val) 0#32)) 0#32) = 1#1

/-- Exactly one output takes the tile, and the first tile is one of the first output's. -/
def OneOf (i : grid0.Coords) : Prop :=
  (First i ∧ k0_cond2 i = 1#1 ∧ ¬k0_cond3 i = 1#1 ∧ ¬k0_cond4 i = 1#1 ∧ ¬k0_cond5 i = 1#1 ∧ ¬k0_cond6 i = 1#1)
  ∨ (¬First i ∧ k0_cond2 i = 1#1 ∧ ¬k0_cond3 i = 1#1 ∧ ¬k0_cond4 i = 1#1 ∧ ¬k0_cond5 i = 1#1 ∧ ¬k0_cond6 i = 1#1)
  ∨ (¬First i ∧ ¬k0_cond2 i = 1#1 ∧ k0_cond3 i = 1#1 ∧ ¬k0_cond4 i = 1#1 ∧ ¬k0_cond5 i = 1#1 ∧ ¬k0_cond6 i = 1#1)
  ∨ (¬First i ∧ ¬k0_cond2 i = 1#1 ∧ ¬k0_cond3 i = 1#1 ∧ k0_cond4 i = 1#1 ∧ ¬k0_cond5 i = 1#1 ∧ ¬k0_cond6 i = 1#1)
  ∨ (¬First i ∧ ¬k0_cond2 i = 1#1 ∧ ¬k0_cond3 i = 1#1 ∧ ¬k0_cond4 i = 1#1 ∧ k0_cond5 i = 1#1 ∧ ¬k0_cond6 i = 1#1)
  ∨ (¬First i ∧ ¬k0_cond2 i = 1#1 ∧ ¬k0_cond3 i = 1#1 ∧ ¬k0_cond4 i = 1#1 ∧ ¬k0_cond5 i = 1#1 ∧ k0_cond6 i = 1#1)

theorem oneOf : ∀ t : Fin grid0.N, OneOf (grid0.coords t) := by
  unfold OneOf; decide +kernel

set_option maxHeartbeats 4000000 in
/-- The body on whole buffers: the scratch is set on a first tile, the tile's output gets the product, the rest stay. -/
theorem body_run (c : Dev nD) (i : grid0.Coords) (hi : OneOf i)
    (arg2 : Memref sig .tc .vmem S128x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S128x512 .f32) (harg6 : arg6.IsWhole) (arg7 : Memref sig .tc .vmem S128x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x2048 .bf16) (harg11 : arg11.IsWhole)
    (x0 : Vec F S128x2048 .f32) (x1 x2 : Vec F S1x2048 .f32) (x3 : Vec F S1x2048x512 .f32)
    (y4 y5 y6 y7 : Vec F S128x512 .f32) (y8 : Vec F S128x512 .f32) (xs s : Vec F S128x2048 .bf16)
    (hs : s = if First i then k0_pay1 x0 x1 x2 else xs) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y4 ∗ owns (c : Thread nD τ) arg7 fullShare y5
        ∗ owns (c : Thread nD τ) arg8 fullShare y6 ∗ owns (c : Thread nD τ) arg9 fullShare y7 ∗ owns (c : Thread nD τ) arg10 fullShare y8
        ∗ owns (c : Thread nD τ) arg11 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (if k0_cond2 i = 1#1 then k0_pay2 s x3 else y4)
            ∗ owns (c : Thread nD τ) arg7 fullShare (if k0_cond3 i = 1#1 then k0_pay2 s x3 else y5)
            ∗ owns (c : Thread nD τ) arg8 fullShare (if k0_cond4 i = 1#1 then k0_pay2 s x3 else y6)
            ∗ owns (c : Thread nD τ) arg9 fullShare (if k0_cond5 i = 1#1 then k0_pay2 s x3 else y7)
            ∗ owns (c : Thread nD τ) arg10 fullShare (if k0_cond6 i = 1#1 then k0_pay2 s x3 else y8)
            ∗ owns (c : Thread nD τ) arg11 fullShare s) -∗ K ⟨⟩))
      ⊢ wp frame (wpE (defs₀ (F := F)) Variants.none c none) E
          (cc0_proj i arg2 harg2 arg3 harg3 arg4 harg4 arg5 harg5 arg6 harg6 arg7 harg7 arg8 harg8 arg9 harg9 arg10 harg10 arg11 harg11) K := by
  rcases hi with ⟨h1, h2, h3, h4, h5, h6⟩ | ⟨h1, h2, h3, h4, h5, h6⟩ | ⟨h1, h2, h3, h4, h5, h6⟩ | ⟨h1, h2, h3, h4, h5, h6⟩
    | ⟨h1, h2, h3, h4, h5, h6⟩ | ⟨h1, h2, h3, h4, h5, h6⟩
  all_goals
    simp only [cc0_proj_eq_skeleton]; unfold cc0_proj_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    sl_exec (disch := first | sl_exact h1 | sl_exact h2 | sl_exact h3 | sl_exact h4 | sl_exact h5 | sl_exact h6)
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro
      first
      | (rw [if_neg h2]; exact hf4)
      | (rw [if_pos h2, View.read_writes_full, hs, if_neg h1, View.readAt_full, View.readAt_full, hfs, hf3])
      | (rw [if_pos h2, View.read_writes_full, hs, if_pos h1]
         unfold body_run.sl.v3 body_run.sl.HS_1
         rw [View.readCov_full, View.readAt_full, View.readAt_full, View.readAt_full, View.readAt_full, hf0, hf1, hf2, hf3])
    isplitl [H5]
    · iexists _; isplitr
      swap; · iexact H5
      ipureintro
      first
      | (rw [if_neg h3]; exact hf5)
      | (rw [if_pos h3, View.read_writes_full, hs, if_neg h1, View.readAt_full, View.readAt_full, hfs, hf3])
    isplitl [H6]
    · iexists _; isplitr
      swap; · iexact H6
      ipureintro
      first
      | (rw [if_neg h4]; exact hf6)
      | (rw [if_pos h4, View.read_writes_full, hs, if_neg h1, View.readAt_full, View.readAt_full, hfs, hf3])
    isplitl [H7]
    · iexists _; isplitr
      swap; · iexact H7
      ipureintro
      first
      | (rw [if_neg h5]; exact hf7)
      | (rw [if_pos h5, View.read_writes_full, hs, if_neg h1, View.readAt_full, View.readAt_full, hfs, hf3])
    isplitl [H8]
    · iexists _; isplitr
      swap; · iexact H8
      ipureintro
      first
      | (rw [if_neg h6]; exact hf8)
      | (rw [if_pos h6, View.read_writes_full, hs, if_neg h1, View.readAt_full, View.readAt_full, hfs, hf3])
    iexists _; isplitr
    swap; · iexact HS
    ipureintro
    first
    | (rw [hs, if_neg h1]; exact hfs)
    | (rw [hs, if_pos h1]
       unfold body_run.sl.HS_1
       rw [View.read_writes_full, View.readAt_full, View.readAt_full, View.readAt_full, hf0, hf1, hf2])

end Proj4
end
-- ==== Proof.SampleFrame.lean ====
module

public import proofs.«01_k».proof.Proof.SampleRun
public import Idealize.ShloMosaic.Lib.Claim

/-! The input projection's pipeline: what every buffer holds after every point of the grid, and the run of the whole program. -/

@[expose] public section
set_option maxRecDepth 16384
noncomputable section
namespace Proj4
open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Which tile of a row block an output's buffer holds -/

/-- The first and the last tile of a row block that go to an output. -/
def lo : Fin 9 → Fin 8 := ![0, 0, 0, 0, 0, 2, 4, 6, 7]
def hi : Fin 9 → Fin 8 := ![7, 7, 7, 7, 1, 3, 5, 6, 7]

/-- The point that computed the tile an output's buffer belongs to at a point: the nearest of its own tiles. -/
def pos (w : Fin 9) (t : Fin cfg0.N) : Fin cfg0.N :=
  ⟨8 * (t.val / 8) + max (lo w).val (min (t.val % 8) (hi w).val), by
    have := t.isLt; have hN : cfg0.N = 8 := N_0; have := (lo w).isLt; have := (hi w).isLt; omega⟩

/-- The first point of a point's row block. -/
def base (t : Fin cfg0.N) : Fin cfg0.N := ⟨8 * (t.val / 8), by have := t.isLt; omega⟩

theorem pos_stored : ∀ (w : Fin 9) (t : Fin grid0.N), (cfg0.win w).isOut = true → cfg0.idle w (grid0.coords t) = false → pos w t = t := by
  decide +kernel

theorem pos_carry : ∀ (w : Fin 9) (t : Fin grid0.N), (cfg0.win w).isOut = true → cfg0.idle w (grid0.coords t) = true → t.val % 8 ≠ 0 →
    (pos w t).val = (8 * ((t.val - 1) / 8) + max (lo w).val (min ((t.val - 1) % 8) (hi w).val)) := by
  decide +kernel

/-- Nothing is in an output's buffer until its last tile but one is stored, in every row block. -/
theorem fresh_eq (w : Fin 9) (hw : (cfg0.win w).isOut = true) (n : ℕ) (hn : n ≤ cfg0.N) :
    cfg0.fresh w n = decide (n % 8 ≤ (hi w).val) :=
  cfg0.fresh_tab w (fun n => decide (n % 8 ≤ (hi w).val)) (by simp)
    (fun t => (by decide +kernel : ∀ (w : Fin 9) (t : Fin grid0.N), (cfg0.win w).isOut = true →
      decide ((t.val + 1) % 8 ≤ (hi w).val) = ((cfg0.win w).flush t || (cfg0.idle w (grid0.coords t) && decide (t.val % 8 ≤ (hi w).val)))) w t hw) n hn

theorem idle_flush : ∀ (w : Fin 9) (t : Fin grid0.N), (cfg0.win w).isOut = true → cfg0.idle w (grid0.coords t) = true →
    (cfg0.win w).flush t = true → ¬t.val % 8 ≤ (hi w).val := by
  decide +kernel

theorem first_iff : ∀ t : Fin grid0.N, First (grid0.coords t) ↔ t.val % 8 = 0 := by
  decide +kernel

variable (m : (ℓ : Loc nD τ sig) → Buf (Elt F) ℓ) (ρ : Dev nD → PrngReg)

/-! ## The proof data -/

/-- The scratch through a row block: the layer norm of its rows. -/
def scr (c : Dev nD) (t : Fin cfg0.N) : Vec F S128x2048 .bf16 :=
  k0_pay1 (iblk m c 0 (base t)) (iblk m c 1 (base t)) (iblk m c 2 (base t))

/-- The tile a point computes. -/
def tile (c : Dev nD) (t : Fin cfg0.N) : Vec F S128x512 .f32 := k0_pay2 (scr m c t) (iblk m c 3 t)

/-- Between points the scratch holds the last row block's layer norm. -/
def inv (c : Dev nD) : (n : ℕ) → n ≤ cfg0.N → sProp 𝕄
  | 0, _ => Pipeline.ΦA spec0 c
  | n + 1, hn => iprop(owns (c : Thread nD τ) (Memref.whole cc0_scratch0 : Memref sig .tc .vmem S128x2048 .bf16) fullShare (scr m c ⟨n, hn⟩)
      ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c (pos 4 t)
    | ⟨5, _⟩ => tile m c (pos 5 t)
    | ⟨6, _⟩ => tile m c (pos 6 t)
    | ⟨7, _⟩ => tile m c (pos 7 t)
    | ⟨8, _⟩ => tile m c (pos 8 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after4 (c : Dev nD) (t : Fin cfg0.N) : (dats m 0 c).after 4 t = tile m c (pos 4 t) := by dsimp only [dats]
theorem after5 (c : Dev nD) (t : Fin cfg0.N) : (dats m 0 c).after 5 t = tile m c (pos 5 t) := by dsimp only [dats]
theorem after6 (c : Dev nD) (t : Fin cfg0.N) : (dats m 0 c).after 6 t = tile m c (pos 6 t) := by dsimp only [dats]
theorem after7 (c : Dev nD) (t : Fin cfg0.N) : (dats m 0 c).after 7 t = tile m c (pos 7 t) := by dsimp only [dats]
theorem after8 (c : Dev nD) (t : Fin cfg0.N) : (dats m 0 c).after 8 t = tile m c (pos 8 t) := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d

/-- An output's buffer holds the same at two points whose nearest own tile is the same. -/
theorem after_congr (c : Dev nD) (w : Fin 9) (hw : (cfg0.win w).isOut = true) (t t' : Fin cfg0.N) (h : pos w t = pos w t') :
    (dats m 0 c).after w t = (dats m 0 c).after w t' := by
  obtain ⟨w, hlt⟩ := w
  match w, hlt, hw, h with
  | 4, _, _, h => exact congrArg (tile m c) h
  | 5, _, _, h => exact congrArg (tile m c) h
  | 6, _, _, h => exact congrArg (tile m c) h
  | 7, _, _, h => exact congrArg (tile m c) h
  | 8, _, _, h => exact congrArg (tile m c) h
  | 0, _, hw, _ => exact (Bool.false_ne_true hw).elim
  | 1, _, hw, _ => exact (Bool.false_ne_true hw).elim
  | 2, _, hw, _ => exact (Bool.false_ne_true hw).elim
  | 3, _, hw, _ => exact (Bool.false_ne_true hw).elim

theorem carry (c : Dev nD) (w : Fin 9) (hw : (cfg0.win w).isOut = true) (t : Fin cfg0.N)
    (hi' : cfg0.idle w (cfg0.grid.coords t) = true) (hf : ¬t.val % 8 ≤ (hi w).val) :
    (dats m 0 c).after w t = (dats m 0 c).after w ⟨t.val - 1, by omega⟩ :=
  after_congr m c w hw _ _ (Fin.ext (pos_carry w t hw hi' (by omega)))

theorem clip_none (w : Fin 9) (i : cfg0.grid.Coords) (a) : (cfg0.win w).clip i a = none := by
  obtain ⟨w, hlt⟩ := w
  match w, hlt with
  | 0, _ | 1, _ | 2, _ | 3, _ | 4, _ | 5, _ | 6, _ | 7, _ | 8, _ => rfl

/-- At a point that writes an output back without storing into it, the buffer still holds the output's last tile. -/
theorem before_flush (c : Dev nD) (w : Fin 9) (hw : (cfg0.win w).isOut = true) (t : Fin cfg0.N)
    (hi' : cfg0.idle w (cfg0.grid.coords t) = true) (hf : (cfg0.win w).flush t = true) (d) :
    (dats m 0 c).before w t d = (dats m 0 c).after w t := by
  have hlast := idle_flush w t hw hi' hf
  have hN : cfg0.N = 8 := N_0
  rw [(dats m 0 c).before_out_traj w hw (clip_none w) (fun t' _ h1 h2 => by
    rw [fresh_eq w hw _ t'.isLt.le] at h2
    exact carry m c w hw t' h1 (by simpa using h2)) t.val t rfl d, fresh_eq w hw _ t.isLt.le, if_neg (by simpa using hlast)]
  exact (carry m c w hw t hi' hlast).symm

/-- What the body must leave in an output's buffer. -/
theorem leaves_out (c : Dev nD) (w : Fin 9) (hw : (cfg0.win w).isOut = true) (t : Fin cfg0.N) (d) (X)
    (h1 : cfg0.idle w (cfg0.grid.coords t) = false → X = (dats m 0 c).after w t)
    (h2 : cfg0.idle w (cfg0.grid.coords t) = true → X = (dats m 0 c).before w t d) :
    owns (c : Thread nD τ) ((cfg0.win w).stage (cfg0.slots t w)) fullShare X ⊢ ((dats m 0 c).leavesExact w t : sProp 𝕄) := by
  unfold Dat.leavesExact
  cases hi' : cfg0.idle w (cfg0.grid.coords t)
  · rw [h1 hi']
  · dsimp only
    rw [h2 hi']
    cases hf : (cfg0.win w).flush t
    · dsimp only
      iintro H
      iexists d
      iexact H
    · dsimp only
      rw [before_flush m c w hw t hi' hf d]

/-! ## The body at every point -/

/-- Before a point the scratch holds what the point needs, unless the point sets it. -/
theorem inv_open (c : Dev nD) (t : Fin cfg0.N) :
    (dats m 0 c).Φ t.castSucc ⊢ iprop(∃ xs : Vec F S128x2048 .bf16,
      ⌜scr m c t = if First (cfg0.grid.coords t) then k0_pay1 (iblk m c 0 t) (iblk m c 1 t) (iblk m c 2 t) else xs⌝
      ∗ owns (c : Thread nD τ) (Memref.whole cc0_scratch0 : Memref sig .tc .vmem S128x2048 .bf16) fullShare xs ∗ (∃ r, prngReg c r)) := by
  have hset : First (cfg0.grid.coords t) → scr m c t = k0_pay1 (iblk m c 0 t) (iblk m c 1 t) (iblk m c 2 t) := fun h => by
    have hb : base t = t := Fin.ext (by have := (first_iff t).mp h; simp only [base]; omega)
    unfold scr; rw [hb]
  rw [show (dats m 0 c).Φ t.castSucc = inv m c t.val (Nat.le_of_lt t.isLt) from by
    dsimp only [dats]; exact Dat.Φ_castSucc (inv m c) t]
  obtain ⟨n, hn⟩ := t
  cases n with
  | zero =>
    unfold inv Pipeline.ΦA
    rw [scopedRest0_eq]
    iintro ⟨⟨%d, HS⟩, Hg⟩
    iexists d
    isplitr [HS Hg]
    · ipureintro
      rw [if_pos ((first_iff _).mpr rfl)]
      exact hset ((first_iff _).mpr rfl)
    isplitl [HS]
    · rw [owns_whole]; iexact HS
    iexact Hg
  | succ n =>
    unfold inv
    iintro ⟨HS, Hg⟩
    iexists _
    isplitr [HS Hg]
    swap
    · isplitl [HS]
      · iexact HS
      iexact Hg
    ipureintro
    by_cases h : First (cfg0.grid.coords ⟨n + 1, hn⟩)
    · rw [if_pos h]; exact hset h
    · rw [if_neg h]
      have hb : base ⟨n + 1, hn⟩ = base ⟨n, by omega⟩ :=
        Fin.ext (by have := mt (first_iff ⟨n + 1, hn⟩).mpr h; simp only [base] at *; omega)
      unfold scr; rw [hb]

/-- A window's staging buffer at a point. -/
abbrev buf (w : Fin 9) (t : Fin cfg0.N) := (cfg0.win w).stage (cfg0.slots t w)

theorem leaves_in (c : Dev nD) (t : Fin cfg0.N) :
    ((dats m 0 c).leavesExact 0 t = owns (c : Thread nD τ) (buf 0 t) fullShare (iblk m c 0 t))
    ∧ ((dats m 0 c).leavesExact 1 t = owns (c : Thread nD τ) (buf 1 t) fullShare (iblk m c 1 t))
    ∧ ((dats m 0 c).leavesExact 2 t = owns (c : Thread nD τ) (buf 2 t) fullShare (iblk m c 2 t))
    ∧ ((dats m 0 c).leavesExact 3 t = owns (c : Thread nD τ) (buf 3 t) fullShare (iblk m c 3 t)) :=
  ⟨rfl, rfl, rfl, rfl⟩

/-- An output's buffer after the body: its own tile where it takes one, what it held before elsewhere. -/
theorem leaves_if (c : Dev nD) (w : Fin 9) (hw : (cfg0.win w).isOut = true) (t : Fin cfg0.N) (d) (p : Prop) [Decidable p] (A B)
    (hA : pos w t = t → A = (dats m 0 c).after w t) (hB : B = (dats m 0 c).before w t d) (hp : p ↔ cfg0.idle w (cfg0.grid.coords t) = false) :
    owns (c : Thread nD τ) ((cfg0.win w).stage (cfg0.slots t w)) fullShare (if p then A else B) ⊢ ((dats m 0 c).leavesExact w t : sProp 𝕄) :=
  leaves_out m c w hw t d _ (fun h => by rw [if_pos (hp.mpr h)]; exact hA (pos_stored w t hw h))
    (fun h => by rw [if_neg (fun h' => by rw [hp.mp h'] at h; exact Bool.false_ne_true h)]; exact hB)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (buf 0 t) fullShare ((dats m 0 c).before 0 t d))
    ∗ (∃ d, owns (c : Thread nD τ) (buf 1 t) fullShare ((dats m 0 c).before 1 t d))
    ∗ (∃ d, owns (c : Thread nD τ) (buf 2 t) fullShare ((dats m 0 c).before 2 t d))
    ∗ (∃ d, owns (c : Thread nD τ) (buf 3 t) fullShare ((dats m 0 c).before 3 t d))
    ∗ (∃ d, owns (c : Thread nD τ) (buf 4 t) fullShare ((dats m 0 c).before 4 t d))
    ∗ (∃ d, owns (c : Thread nD τ) (buf 5 t) fullShare ((dats m 0 c).before 5 t d))
    ∗ (∃ d, owns (c : Thread nD τ) (buf 6 t) fullShare ((dats m 0 c).before 6 t d))
    ∗ (∃ d, owns (c : Thread nD τ) (buf 7 t) fullShare ((dats m 0 c).before 7 t d))
    ∗ (∃ d, owns (c : Thread nD τ) (buf 8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  obtain ⟨e0, e1, e2, e3⟩ := leaves_in m c t
  rw [e0, e1, e2, e3]
  rw [show (dats m 0 c).owesAt () t.succ = (dats m 0 c).owesAt () t.castSucc from rfl]
  rw [show (dats m 0 c).Φ t.succ = iprop(owns (c : Thread nD τ) (Memref.whole cc0_scratch0 : Memref sig .tc .vmem S128x2048 .bf16) fullShare (scr m c t)
      ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave Hx := inv_open m c t $$ HΦ
  icases Hx with ⟨%xs, %hs, HS, Hg⟩
  iapply (body_run c (grid0.coords t) (oneOf t) _ _ _ _ _ _ _ _ _ _ _ _ _ _ _ _ _ _ _ _ (iblk m c 0 t) (iblk m c 1 t) (iblk m c 2 t) (iblk m c 3 t)
    ((dats m 0 c).before 4 t d4) ((dats m 0 c).before 5 t d5) ((dats m 0 c).before 6 t d6) ((dats m 0 c).before 7 t d7) ((dats m 0 c).before 8 t d8)
    xs (scr m c t) hs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]
  · iapply (leaves_if m c 4 rfl t d4 (k0_cond2 (grid0.coords t) = 1#1) _ _ (fun h => by rw [after4, h]; rfl) rfl (by simp [cfg0, idle0])) $$ H4
  isplitl [H5]
  · iapply (leaves_if m c 5 rfl t d5 (k0_cond3 (grid0.coords t) = 1#1) _ _ (fun h => by rw [after5, h]; rfl) rfl (by simp [cfg0, idle0])) $$ H5
  isplitl [H6]
  · iapply (leaves_if m c 6 rfl t d6 (k0_cond4 (grid0.coords t) = 1#1) _ _ (fun h => by rw [after6, h]; rfl) rfl (by simp [cfg0, idle0])) $$ H6
  isplitl [H7]
  · iapply (leaves_if m c 7 rfl t d7 (k0_cond5 (grid0.coords t) = 1#1) _ _ (fun h => by rw [after7, h]; rfl) rfl (by simp [cfg0, idle0])) $$ H7
  · iapply (leaves_if m c 8 rfl t d8 (k0_cond6 (grid0.coords t) = 1#1) _ _ (fun h => by rw [after8, h]; rfl) rfl (by simp [cfg0, idle0])) $$ H8

theorem body_row (t : Fin cfg0.N) :
    defs₀ (F := F) .tc cfg0.body (cfg0.bodyArgs t (cfg0.slots t)) = bodyAt0 t := by
  unfold defs₀; rw [Defs.onTc_tc]

theorem body_ob (c : Dev nD) : BodyObligation (dats (F := F) m 0 c) (defs₀ (F := F)) Variants.none () Set.univ := fun t => by
  rw [bigSep_W0, bigSep_W0, body_row]
  exact triple_restated (sound_body m c t) rfl .rfl fun _ => .rfl

/-- After the last point the scratch's contents are forgotten. -/
theorem inv_last (c : Dev nD) : (dats m 0 c).Φ (Fin.last cfg0.N) ⊢ Pipeline.ΦA spec0 c := by
  rw [show (dats m 0 c).Φ (Fin.last cfg0.N) = iprop(owns (c : Thread nD τ) (Memref.whole cc0_scratch0 : Memref sig .tc .vmem S128x2048 .bf16) fullShare
    (scr m c ⟨7, by decide⟩) ∗ (∃ r, prngReg c r)) from rfl]
  unfold Pipeline.ΦA
  rw [scopedRest0_eq]
  simp only [owns_whole]
  iintro ⟨HS, Hg⟩
  isplitl [HS]
  · iexists _; iexact HS
  iexact Hg

set_option backward.isDefEq.respectTransparency.types false in
/-- The launch: every array ends as the proof data says, and no counter is left. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ob m c).loose) (hshare := fun c => (dats m 0 c).share_full fun _ => rfl)
    (howed := fun _ _ => rfl) (V := V m) (hmain := hmain m Variants.none) (hA := A_eq m)
    (hin := fun c => Idealize.SL.BI.Entails.refl _) (hout := inv_last m)

theorem run : θ_run defs (onTc (τ := τ) (main (F := F))) (s₀ m ρ) (Pipeline.FramePost cfgs (dats m) 0 (V m)) :=
  (θ_run defs _ _).mono (fun _ h => h.1) (run_all m ρ)

/-- The arguments end as they began, and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_all m ρ))

end Proj4
end
-- ==== Proof.SampleValue.lean ====
module

public import proofs.«01_k».proof.Proof.SampleFrame
public import proofs.«01_k».proof.Proof.ProjSpec
public import Idealize.ShloMosaic.Lib.Pipeline.ValueKit
public import Idealize.ShloMosaic.Lib.StableHlo.ReadAt
public import Idealize.ShloMosaic.Lib.Tactic.CleanTypes

/-! The five result arrays of the samples' input projection. -/

@[expose] public section
set_option maxRecDepth 16384
noncomputable section
namespace Proj4
open Cert.Kernel4Ideal Cert.Kernel4Ideal.Gen Idealize.ShloMosaic Idealize.ShloMosaic.StableHlo

theorem pay2_at (x : Vec Ideal S128x2048 .f32) (g b : Vec Ideal S1x2048 .f32) (r : Fin 128) (d : Fin 2048) :
    k0_pay1 x g b (ix2 r d) = Proj.norm (fun e => x (ix2 r e)) (fun e => g (ix2 0 e)) (fun e => b (ix2 0 e)) d := by
  unfold k0_pay1
  pointwise
  rfl

theorem pay3_at (s : Vec Ideal S128x2048 .bf16) (w : Vec Ideal S1x2048x512 .f32) (r : Fin 128) (n : Fin 512) :
    k0_pay2 s w (ix2 r n) = ∑ d : Fin 2048, s (ix2 r d) * w (ix3 0 d n) := by
  unfold k0_pay2
  pointwise

variable (m : (ℓ : Loc nD τ sig) → ℓ.ty.Contents (Elt Idealize.ShloMosaic.Ideal))

theorem x_at (c : Dev nD) (r : Fin 128) (d : Fin 2048) :
    (V m c main_v0 : Vec Ideal S128x2048 .f32) (ix2 r d) = m (c, Proc.tc.devRef main_arg0) (ix3 r 0 d) := by
  unfold V
  after_reads_at

theorem g_at (c : Dev nD) (d : Fin 2048) :
    (V m c main_v1 : Vec Ideal S1x2048 .f32) (ix2 0 d) = m (c, Proc.tc.devRef main_arg1) (ix1 d) := by
  unfold V
  after_reads_at

theorem b_at (c : Dev nD) (d : Fin 2048) :
    (V m c main_v2 : Vec Ideal S1x2048 .f32) (ix2 0 d) = m (c, Proc.tc.devRef main_arg2) (ix1 d) := by
  unfold V
  after_reads_at

/-- The block indices at a grid point. -/
theorem index_eq : ∀ t : Fin grid0.N, win0_0.index t = ![t.val / 8, 0] ∧ win0_1.index t = ![0, 0] ∧ win0_2.index t = ![0, 0]
    ∧ win0_3.index t = ![0, 0, t.val % 8] ∧ win0_4.index t = ![t.val / 8, min (t.val % 8) 1]
    ∧ win0_5.index t = ![t.val / 8, min (t.val % 8 - 2) 1] ∧ win0_6.index t = ![t.val / 8, min (t.val % 8 - 4) 1]
    ∧ win0_7.index t = ![t.val / 8, 0] ∧ win0_8.index t = ![t.val / 8, 0] := by
  decide +kernel

theorem x_blk (c : Dev nD) (t : Fin cfg0.N) (r : Fin 128) (d : Fin 2048) :
    iblk m c 0 t (ix2 r d) = (V m c main_v0 : Vec Ideal S128x2048 .f32) (ix2 ⟨128 * (t.val / 8) + r.val, by have := t.isLt; have : cfg0.N = 8 := N_0; omega⟩ d) := by
  obtain ⟨e, -⟩ := index_eq t
  blk_ext [iblk, e]

theorem g_blk (c : Dev nD) (t : Fin cfg0.N) (d : Fin 2048) :
    iblk m c 1 t (ix2 0 d) = (V m c main_v1 : Vec Ideal S1x2048 .f32) (ix2 0 d) := by
  obtain ⟨-, e, -⟩ := index_eq t
  blk_ext [iblk, e]

theorem b_blk (c : Dev nD) (t : Fin cfg0.N) (d : Fin 2048) :
    iblk m c 2 t (ix2 0 d) = (V m c main_v2 : Vec Ideal S1x2048 .f32) (ix2 0 d) := by
  obtain ⟨-, -, e, -⟩ := index_eq t
  blk_ext [iblk, e]

theorem w_blk (c : Dev nD) (t : Fin cfg0.N) (d : Fin 2048) (n : Fin 512) :
    iblk m c 3 t (ix3 0 d n) = m (c, Proc.tc.devRef main_arg3) (ix3 0 d ⟨512 * (t.val % 8) + n.val, by omega⟩) := by
  obtain ⟨-, -, -, e, -⟩ := index_eq t
  rw [← V_main_arg3 m c]
  blk_ext [iblk, e]

/-- The columns of the projection that go to one output. -/
def cols (c : Dev nD) (o W : ℕ) (h : o + W ≤ 4096) (r : Fin 128) (n : Fin W) : EReal :=
  Proj.sample (m (c, Proc.tc.devRef main_arg0)) (m (c, Proc.tc.devRef main_arg1)) (m (c, Proc.tc.devRef main_arg2))
    (m (c, Proc.tc.devRef main_arg3)) o W h r n

/-- A tile holds its rows and columns of the projection. -/
theorem tile_at (c : Dev nD) (t : Fin cfg0.N) (r : Fin 128) (n : Fin 512) (o W : ℕ) (h : o + W ≤ 4096) (R : Fin 128) (k : Fin W)
    (hR : R.val = 128 * (t.val / 8) + r.val) (hk : o + k.val = 512 * (t.val % 8) + n.val) :
    tile m c t (ix2 r n) = cols m c o W h R k := by
  have hb : (base t).val / 8 = t.val / 8 := by simp only [base]; omega
  have hR' : (⟨128 * ((base t).val / 8) + r.val, by have := R.isLt; rw [hb]; omega⟩ : Fin 128) = R := Fin.ext (by simp only [hb, hR])
  have hk' : (⟨512 * (t.val % 8) + n.val, by omega⟩ : Fin 4096) = ⟨o + k.val, by omega⟩ := Fin.ext hk.symm
  unfold tile scr cols Proj.sample Proj.entry
  rw [pay3_at]
  refine Finset.sum_congr rfl fun d _ => ?_
  rw [pay2_at, w_blk, hk']
  simp only [x_blk, g_blk, b_blk, hR']
  exact congrArg (· * _) (congrFun (congr (congrArg₂ Proj.norm (funext fun e => x_at m c R e) (funext fun e => g_at m c e)) (funext fun e => b_at m c e)) d)

theorem emb4 (t : Fin cfg0.N) (r : Fin 128) (n : Fin 512) : (win0_4.blk t).view.emb (ix2 r n)
    = (ix2 ⟨128 * (t.val / 8) + r.val, by have := t.isLt; have : cfg0.N = 8 := N_0; omega⟩ ⟨512 * (min (t.val % 8) 1) + n.val, by omega⟩ : S128x1024.Idx) := by
  have e := (index_eq t).2.2.2.2.1
  blk_ext [e]

theorem value4 (c : Dev nD) : (dats m 0 c).arrAt 4 cfg0.N = fun y => cols m c 0 1024 (by omega) (y 0) (y 1) := by
  refine (dats m 0 c).arrAt_eq_of_covers 4 _ (by decide +kernel) fun t hf y => ?_
  blk_simp
  rw [after4]
  obtain ⟨r, n, rfl⟩ : ∃ (r : Fin 128) (n : Fin 512), y = ix2 r n := ⟨y 0, y 1, eq_ix2 y⟩
  rw [emb4]
  exact tile_at m c _ r n _ _ _ _ _
    (by show 128 * (t.val / 8) + r.val = 128 * ((8 * (t.val / 8) + max 0 (min (t.val % 8) 1)) / 8) + r.val; omega)
    (by show 0 + (512 * (min (t.val % 8) 1) + n.val) = 512 * ((8 * (t.val / 8) + max 0 (min (t.val % 8) 1)) % 8) + n.val; omega)

theorem emb5 (t : Fin cfg0.N) (r : Fin 128) (n : Fin 512) : (win0_5.blk t).view.emb (ix2 r n)
    = (ix2 ⟨128 * (t.val / 8) + r.val, by have := t.isLt; have : cfg0.N = 8 := N_0; omega⟩ ⟨512 * (min (t.val % 8 - 2) 1) + n.val, by omega⟩ : S128x1024.Idx) := by
  have e := (index_eq t).2.2.2.2.2.1
  blk_ext [e]

theorem value5 (c : Dev nD) : (dats m 0 c).arrAt 5 cfg0.N = fun y => cols m c 1024 1024 (by omega) (y 0) (y 1) := by
  refine (dats m 0 c).arrAt_eq_of_covers 5 _ (by decide +kernel) fun t hf y => ?_
  blk_simp
  rw [after5]
  obtain ⟨r, n, rfl⟩ : ∃ (r : Fin 128) (n : Fin 512), y = ix2 r n := ⟨y 0, y 1, eq_ix2 y⟩
  rw [emb5]
  exact tile_at m c _ r n _ _ _ _ _
    (by show 128 * (t.val / 8) + r.val = 128 * ((8 * (t.val / 8) + max 2 (min (t.val % 8) 3)) / 8) + r.val; omega)
    (by show 1024 + (512 * (min (t.val % 8 - 2) 1) + n.val) = 512 * ((8 * (t.val / 8) + max 2 (min (t.val % 8) 3)) % 8) + n.val; omega)

theorem emb6 (t : Fin cfg0.N) (r : Fin 128) (n : Fin 512) : (win0_6.blk t).view.emb (ix2 r n)
    = (ix2 ⟨128 * (t.val / 8) + r.val, by have := t.isLt; have : cfg0.N = 8 := N_0; omega⟩ ⟨512 * (min (t.val % 8 - 4) 1) + n.val, by omega⟩ : S128x1024.Idx) := by
  have e := (index_eq t).2.2.2.2.2.2.1
  blk_ext [e]

theorem value6 (c : Dev nD) : (dats m 0 c).arrAt 6 cfg0.N = fun y => cols m c 2048 1024 (by omega) (y 0) (y 1) := by
  refine (dats m 0 c).arrAt_eq_of_covers 6 _ (by decide +kernel) fun t hf y => ?_
  blk_simp
  rw [after6]
  obtain ⟨r, n, rfl⟩ : ∃ (r : Fin 128) (n : Fin 512), y = ix2 r n := ⟨y 0, y 1, eq_ix2 y⟩
  rw [emb6]
  exact tile_at m c _ r n _ _ _ _ _
    (by show 128 * (t.val / 8) + r.val = 128 * ((8 * (t.val / 8) + max 4 (min (t.val % 8) 5)) / 8) + r.val; omega)
    (by show 2048 + (512 * (min (t.val % 8 - 4) 1) + n.val) = 512 * ((8 * (t.val / 8) + max 4 (min (t.val % 8) 5)) % 8) + n.val; omega)

theorem emb7 (t : Fin cfg0.N) (r : Fin 128) (n : Fin 512) : (win0_7.blk t).view.emb (ix2 r n)
    = (ix2 ⟨128 * (t.val / 8) + r.val, by have := t.isLt; have : cfg0.N = 8 := N_0; omega⟩ ⟨n.val, by omega⟩ : S128x512.Idx) := by
  have e := (index_eq t).2.2.2.2.2.2.2.1
  blk_ext [e]

theorem value7 (c : Dev nD) : (dats m 0 c).arrAt 7 cfg0.N = fun y => cols m c 3072 512 (by omega) (y 0) (y 1) := by
  refine (dats m 0 c).arrAt_eq_of_covers 7 _ (by decide +kernel) fun t hf y => ?_
  blk_simp
  rw [after7]
  obtain ⟨r, n, rfl⟩ : ∃ (r : Fin 128) (n : Fin 512), y = ix2 r n := ⟨y 0, y 1, eq_ix2 y⟩
  rw [emb7]
  exact tile_at m c _ r n _ _ _ _ _
    (by show 128 * (t.val / 8) + r.val = 128 * ((8 * (t.val / 8) + max 6 (min (t.val % 8) 6)) / 8) + r.val; omega)
    (by show 3072 + n.val = 512 * ((8 * (t.val / 8) + max 6 (min (t.val % 8) 6)) % 8) + n.val; omega)

theorem emb8 (t : Fin cfg0.N) (r : Fin 128) (n : Fin 512) : (win0_8.blk t).view.emb (ix2 r n)
    = (ix2 ⟨128 * (t.val / 8) + r.val, by have := t.isLt; have : cfg0.N = 8 := N_0; omega⟩ ⟨n.val, by omega⟩ : S128x512.Idx) := by
  have e := (index_eq t).2.2.2.2.2.2.2.2
  blk_ext [e]

theorem value8 (c : Dev nD) : (dats m 0 c).arrAt 8 cfg0.N = fun y => cols m c 3584 512 (by omega) (y 0) (y 1) := by
  refine (dats m 0 c).arrAt_eq_of_covers 8 _ (by decide +kernel) fun t hf y => ?_
  blk_simp
  rw [after8]
  obtain ⟨r, n, rfl⟩ : ∃ (r : Fin 128) (n : Fin 512), y = ix2 r n := ⟨y 0, y 1, eq_ix2 y⟩
  rw [emb8]
  exact tile_at m c _ r n _ _ _ _ _
    (by show 128 * (t.val / 8) + r.val = 128 * ((8 * (t.val / 8) + max 7 (min (t.val % 8) 7)) / 8) + r.val; omega)
    (by show 3584 + n.val = 512 * ((8 * (t.val / 8) + max 7 (min (t.val % 8) 7)) % 8) + n.val; omega)

end Proj4
end
-- ==== Proof.SampleRef.lean ====
module

public import proofs.«01_k».proof.Defs
public import proofs.«01_k».proof.Proof.SampleValue
public import proofs.«01_k».proof.Proof.Gen.Reference4Ideal.Run
public import proofs.«01_k».proof.Proof.Gen.Kernel4
public import Idealize.ShloMosaic.Lib.Quiescent

/-! The reference of the samples' input projection ends with the same five arrays. -/

@[expose] public section
set_option maxRecDepth 16384
noncomputable section
namespace Proj4
open Idealize.ShloMosaic Idealize.ShloMosaic.TcCoe Idealize.SL.Sem Idealize.ShloMosaic.StableHlo

section
open Cert.Reference4Ideal Cert.Reference4Ideal.Gen

/-- The reference's normed rows times the weights. -/
def rProj (x : FVec Ideal S128x1x2048 .f32) (g b : FVec Ideal S2048 .f32) (w : FVec Ideal S1x2048x4096 .f32) : FVec Ideal S128x1x4096 .f32 :=
  Host.dotGeneral dot_S128x1x2048_S2048x4096_S128x1x4096_2_0_01_1_n_n none
    (addf (mulf (mulf (subf x (broadcastInDim S128x1x2048 ![0, 1, 2] bcast_S128x1x1_S128x1x2048_0_1_2 (Host.divf (broadcastInDim S128x1x1 ![0, 1] bcast_S128x1_S128x1x1_0_1 (Host.reduceAdd x (constant S_ .f32 0x00000000#32) reducesTo_S128x1x2048_S128x1_d2 h_S_)) (broadcastInDim S128x1x1 ![] bcast_S_S128x1x1 (constant S_ .f32 0x45000000#32)))))
      (broadcastInDim S128x1x2048 ![0, 1, 2] bcast_S128x1x1_S128x1x2048_0_1_2 (Host.rsqrt (addf (Host.divf (broadcastInDim S128x1x1 ![0, 1] bcast_S128x1_S128x1x1_0_1 (Host.reduceAdd
        (mulf (subf x (broadcastInDim S128x1x2048 ![0, 1, 2] bcast_S128x1x1_S128x1x2048_0_1_2 (Host.divf (broadcastInDim S128x1x1 ![0, 1] bcast_S128x1_S128x1x1_0_1 (Host.reduceAdd x (constant S_ .f32 0x00000000#32) reducesTo_S128x1x2048_S128x1_d2 h_S_)) (broadcastInDim S128x1x1 ![] bcast_S_S128x1x1 (constant S_ .f32 0x45000000#32)))))
          (subf x (broadcastInDim S128x1x2048 ![0, 1, 2] bcast_S128x1x1_S128x1x2048_0_1_2 (Host.divf (broadcastInDim S128x1x1 ![0, 1] bcast_S128x1_S128x1x1_0_1 (Host.reduceAdd x (constant S_ .f32 0x00000000#32) reducesTo_S128x1x2048_S128x1_d2 h_S_)) (broadcastInDim S128x1x1 ![] bcast_S_S128x1x1 (constant S_ .f32 0x45000000#32))))))
        (constant S_ .f32 0x00000000#32) reducesTo_S128x1x2048_S128x1_d2 h_S_)) (broadcastInDim S128x1x1 ![] bcast_S_S128x1x1 (constant S_ .f32 0x45000000#32))) (broadcastInDim S128x1x1 ![] bcast_S_S128x1x1 (constant S_ .f32 0x3727C5AC#32))))))
      (broadcastInDim S128x1x2048 ![0, 1, 2] bcast_S1x1x2048_S128x1x2048_0_1_2 (broadcastInDim S1x1x2048 ![2] bcast_S2048_S1x1x2048_2 g)))
      (broadcastInDim S128x1x2048 ![0, 1, 2] bcast_S1x1x2048_S128x1x2048_0_1_2 (broadcastInDim S1x1x2048 ![2] bcast_S2048_S1x1x2048_2 b)))
    (shapeCast _ w shapeCasts_S1x2048x4096_S2048x4096)

theorem rProj_at (x : FVec Ideal S128x1x2048 .f32) (g b : FVec Ideal S2048 .f32) (w : FVec Ideal S1x2048x4096 .f32) (i : Fin 128) (s : Fin 1) (n : Fin 4096) :
    rProj x g b w (ix3 i s n) = Proj.entry (fun d => x (ix3 i s d)) (fun d => g (ix1 d)) (fun d => b (ix1 d)) (fun d => w (ix3 0 d n)) := by
  obtain rfl : s = 0 := Subsingleton.elim _ _
  unfold rProj
  pointwise
  rfl

variable (x : FVec Ideal S128x1x2048 .f32) (g b : FVec Ideal S2048 .f32) (w : FVec Ideal S1x2048x4096 .f32)

theorem out0 : shapeCast S128x1024 (extractStridedSlice S128x1x1024 ![0, 0, 0] (rProj x g b w) slices_S128x1x4096_S128x1x1024_0_0_0) shapeCasts_S128x1x1024_S128x1024
    = fun y => Proj.sample x g b w 0 1024 (by omega) (y 0) (y 1) := by
  funext y
  obtain ⟨r, n, rfl⟩ : ∃ (r : Fin 128) (n : Fin 1024), y = ix2 r n := ⟨y 0, y 1, eq_ix2 y⟩
  pointwise
  rw [rProj_at]
  simp only [Proj.sample, Nat.zero_add]

theorem out1 : shapeCast S128x1024 (extractStridedSlice S128x1x1024 ![0, 0, 1024] (rProj x g b w) slices_S128x1x4096_S128x1x1024_0_0_1024) shapeCasts_S128x1x1024_S128x1024
    = fun y => Proj.sample x g b w 1024 1024 (by omega) (y 0) (y 1) := by
  funext y
  obtain ⟨r, n, rfl⟩ : ∃ (r : Fin 128) (n : Fin 1024), y = ix2 r n := ⟨y 0, y 1, eq_ix2 y⟩
  pointwise
  rw [rProj_at]
  rfl

theorem out2 : shapeCast S128x1024 (extractStridedSlice S128x1x1024 ![0, 0, 2048] (rProj x g b w) slices_S128x1x4096_S128x1x1024_0_0_2048) shapeCasts_S128x1x1024_S128x1024
    = fun y => Proj.sample x g b w 2048 1024 (by omega) (y 0) (y 1) := by
  funext y
  obtain ⟨r, n, rfl⟩ : ∃ (r : Fin 128) (n : Fin 1024), y = ix2 r n := ⟨y 0, y 1, eq_ix2 y⟩
  pointwise
  rw [rProj_at]
  rfl

theorem out3 : shapeCast S128x512 (extractStridedSlice S128x1x512 ![0, 0, 3072] (rProj x g b w) slices_S128x1x4096_S128x1x512_0_0_3072) shapeCasts_S128x1x512_S128x512
    = fun y => Proj.sample x g b w 3072 512 (by omega) (y 0) (y 1) := by
  funext y
  obtain ⟨r, n, rfl⟩ : ∃ (r : Fin 128) (n : Fin 512), y = ix2 r n := ⟨y 0, y 1, eq_ix2 y⟩
  pointwise
  rw [rProj_at]
  rfl

theorem out4 : shapeCast S128x512 (extractStridedSlice S128x1x512 ![0, 0, 3584] (rProj x g b w) slices_S128x1x4096_S128x1x512_0_0_3584) shapeCasts_S128x1x512_S128x512
    = fun y => Proj.sample x g b w 3584 512 (by omega) (y 0) (y 1) := by
  funext y
  obtain ⟨r, n, rfl⟩ : ∃ (r : Fin 128) (n : Fin 512), y = ix2 r n := ⟨y 0, y 1, eq_ix2 y⟩
  pointwise
  rw [rProj_at]
  rfl
end

section
attribute [local instance] Cert.Kernel4.Gen.facts Cert.Kernel4Ideal.Gen.facts

/-- The two printings of the kernel have the same text, so the same body table. -/
theorem tables : Cert.Kernel4.defs₀ (F := Bits) = Cert.Kernel4Ideal.defs₀ (F := Bits) := by
  delta Cert.Kernel4.defs₀ Cert.Kernel4Ideal.defs₀
  refine congrArg Defs.onTc ?_
  funext p x
  match p, x with
  | 0, (_, _) => rfl
  | ⟨_ + 1, h⟩, _ => exact absurd h (Nat.not_lt.2 (Nat.le_add_left _ _))

/-- The frame of the program as printed: the run over any floats, taken at the bit-exact ones. -/
theorem frame_kernel : Cert.quiescent_Kernel4 := fun m ρ _ =>
  Eq.mpr (congrArg (fun d => θ_run (Pipeline.defs (Cert.Kernel4Ideal.pcfgs (F := Bits)) d) (onTc Cert.Kernel4Ideal.main) ⟨m, fun _ => 0, ρ⟩ _) tables)
    (frame (F := Bits) m ρ)
end

/-- The reference's frame: no operation writes an argument, and it has no semaphore. -/
theorem frame_ref : @Cert.quiescent_Reference4Ideal Cert.Reference4Ideal.Gen.facts := fun m ρ _ =>
  (θ_run Cert.Reference4Ideal.defs _ _).mono (fun r h => ⟨fun c => (h c).2.2.2.2.2, sem_eq_zero_of_no_sems (by decide) r.2⟩)
    (Cert.Reference4Ideal.Value.run m ρ)

/-- The value claim: both programs end with the projection's columns in the five results. -/
theorem equation : @Cert.algebraic_Kernel4Ideal_Reference4Ideal Cert.Kernel4Ideal.Gen.facts Cert.Reference4Ideal.Gen.facts := by
  intro m g m' g' hpre hargs
  refine ⟨fun c y => cols m c 0 1024 (by omega) (y 0) (y 1), fun c y => cols m c 1024 1024 (by omega) (y 0) (y 1),
    fun c y => cols m c 2048 1024 (by omega) (y 0) (y 1), fun c y => cols m c 3072 512 (by omega) (y 0) (y 1),
    fun c y => cols m c 3584 512 (by omega) (y 0) (y 1), ?_, ?_⟩
  · refine (θ_run Cert.Kernel4Ideal.defs _ _).mono (fun r h c => ?_) (θ_run_and (run m g) (frame m g))
    obtain ⟨⟨h1, -⟩, ⟨h2, -⟩⟩ := (⟨h.1 c, h.2⟩ : _ ∧ _)
    exact ⟨(h1 4).trans (value4 m c), (h1 5).trans (value5 m c), (h1 6).trans (value6 m c), (h1 7).trans (value7 m c),
      (h1 8).trans (value8 m c), h2 c⟩
  · refine (θ_run Cert.Reference4Ideal.defs _ _).mono (fun r h c => ?_) (Cert.Reference4Ideal.Value.run m' g')
    obtain ⟨h0, h1, h2, h3⟩ := hargs c
    obtain ⟨r0, r1, r2, r3, r4, rest⟩ := h c
    refine ⟨r0.trans ((out0 _ _ _ _).trans ?_), r1.trans ((out1 _ _ _ _).trans ?_), r2.trans ((out2 _ _ _ _).trans ?_),
      r3.trans ((out3 _ _ _ _).trans ?_), r4.trans ((out4 _ _ _ _).trans ?_), rest⟩
    all_goals rw [h0, h1, h2, h3]; rfl

end Proj4
end
-- ==== Proof.MixValue.lean ====
module

public import proofs.«01_k».proof.Proof.ProjSpec
public import proofs.«01_k».proof.Proof.Gen.Kernel5Ideal.Value
public import Idealize.ShloMosaic.Lib.Pipeline.ValueKit
public import Idealize.ShloMosaic.Lib.StableHlo.ReadAt
public import Idealize.ShloMosaic.Lib.Tactic.CleanTypes

/-! The output projection with its layer norms: the kernel's first result. -/

@[expose] public section
set_option maxRecDepth 16384
noncomputable section
namespace Mix
open Idealize.ShloMosaic Idealize.ShloMosaic.StableHlo

/-- A row's three parts times a column of the output weights. -/
def mixed (a : Fin 1024 → EReal) (p m : Fin 512 → EReal) (w : Fin 2048 → EReal) : EReal :=
  (∑ k, a k * w ⟨k.val, by omega⟩) + (∑ k, p k * w ⟨1024 + k.val, by omega⟩) + ∑ k, m k * w ⟨1536 + k.val, by omega⟩

/-- One entry of a row: the norm of the scaled normed input plus the mixed parts. -/
def entry (a : Fin 1024 → EReal) (p m : Fin 512 → EReal) (x eg eb : Fin 2048 → EReal) (w : Fin 2048 → Fin 2048 → EReal)
    (g b : Fin 2048 → EReal) (n : Fin 2048) : EReal :=
  Proj.norm (fun e => Ideal.ofBits .f32 0x3F9837F0#32 * Proj.norm x eg eb e + mixed a p m (fun k => w k e)) g b n

section
open Cert.Kernel5Ideal Cert.Kernel5Ideal.Gen

/-- The grid point works on the samples. -/
abbrev Late (i : grid0.Coords) : Prop := Scalar.cmpi .sge (BitVec.ofNat 32 (i 0).val) 64#32 = 1#1

theorem pay2_at (i : grid0.Coords) (v w : Vec Ideal S128x2048 .f32) (y) : k0_pay2 i v w y
    = if Late i then v y else w y := by
  unfold k0_pay2
  pointwise
  rfl

theorem pay3_at (i : grid0.Coords) (sa a : Vec Ideal S128x1024 .bf16) (sp p sm q : Vec Ideal S128x512 .bf16) (w0 : Vec Ideal S1024x2048 .bf16)
    (w1 w2 : Vec Ideal S512x2048 .bf16) (r : Fin 128) (n : Fin 2048) : k0_pay3 i sa a sp p sm q w0 w1 w2 (ix2 r n)
    = (∑ k, (if Late i then sa (ix2 r k) else a (ix2 r k)) * w0 (ix2 k n))
      + (∑ k, (if Late i then sp (ix2 r k) else p (ix2 r k)) * w1 (ix2 k n))
      + ∑ k, (if Late i then sm (ix2 r k) else q (ix2 r k)) * w2 (ix2 k n) := by
  unfold k0_pay3
  pointwise
  rfl

/-- A row of the scaled normed input plus the mixed parts. -/
def summed (x v : Fin 2048 → EReal) (eg eb : Fin 2048 → EReal) (e : Fin 2048) : EReal :=
  Ideal.ofBits .f32 0x3F9837F0#32 * Proj.norm x eg eb e + v e

theorem pay6_at (x v : Vec Ideal S128x2048 .f32) (eg eb : Vec Ideal S1x2048 .f32) (r : Fin 128) (n : Fin 2048) : k0_pay6 x v eg eb (ix2 r n)
    = summed (fun e => x (ix2 r e)) (fun e => v (ix2 r e)) (fun e => eg (ix2 0 e)) (fun e => eb (ix2 0 e)) n
      - Proj.mean (summed (fun e => x (ix2 r e)) (fun e => v (ix2 r e)) (fun e => eg (ix2 0 e)) (fun e => eb (ix2 0 e))) := by
  unfold k0_pay6
  pointwise
  rfl

theorem pay7_at (x v : Vec Ideal S128x2048 .f32) (eg eb : Vec Ideal S1x2048 .f32) (r : Fin 128) : k0_pay7 x v eg eb (ix2 r 0)
    = Proj.mean (fun e => k0_pay6 x v eg eb (ix2 r e) * k0_pay6 x v eg eb (ix2 r e)) := by
  unfold k0_pay7
  pointwise
  rfl

theorem pay8_at (g b : Vec Ideal S1x2048 .f32) (d : Vec Ideal S128x2048 .f32) (s : Vec Ideal S128x1 .f32) (e : EReal) (r : Fin 128) (n : Fin 2048) :
    k0_pay8 (F := Ideal) g b d s e (ix2 r n) = d (ix2 r n) * Ideal.rsqrt (s (ix2 r 0) + e) * g (ix2 0 n) + b (ix2 0 n) := by
  unfold k0_pay8
  pointwise

theorem ld_low (w : Vec Ideal S2048x2048 .bf16) (k : Fin 1024) (n : Fin 2048) : View.ld w r0_3 (ix2 k n) = w (ix2 ⟨k.val, by omega⟩ n) := by
  rw [View.ld_unit]
  pointwise

theorem ld_mid (w : Vec Ideal S2048x2048 .bf16) (k : Fin 512) (n : Fin 2048) : View.ld w r0_4 (ix2 k n) = w (ix2 ⟨1024 + k.val, by omega⟩ n) := by
  rw [View.ld_unit]
  pointwise

theorem ld_high (w : Vec Ideal S2048x2048 .bf16) (k : Fin 512) (n : Fin 2048) : View.ld w r0_5 (ix2 k n) = w (ix2 ⟨1536 + k.val, by omega⟩ n) := by
  rw [View.ld_unit]
  pointwise

/-- What a grid point leaves in the result's block. -/
theorem out_at (i : grid0.Coords) (x0 : Vec Ideal S128x1024 .bf16) (x1 x2 : Vec Ideal S128x512 .bf16) (x3 : Vec Ideal S128x2048 .f32)
    (x4 : Vec Ideal S128x1024 .bf16) (x5 x6 : Vec Ideal S128x512 .bf16) (x7 : Vec Ideal S128x2048 .f32) (x8 x9 : Vec Ideal S1x2048 .f32)
    (x10 : Vec Ideal S2048x2048 .bf16) (x11 x12 : Vec Ideal S1x2048 .f32) (x13 : Vec Ideal S2048x256 .bf16) (x14 : Vec Ideal S1x128 .f32)
    (r : Fin 128) (n : Fin 2048) :
    out0_15 i x0 x1 x2 x3 x4 x5 x6 x7 x8 x9 x10 x11 x12 x13 x14 (ix2 r n)
      = entry (fun k => if Late i then x4 (ix2 r k) else x0 (ix2 r k)) (fun k => if Late i then x5 (ix2 r k) else x1 (ix2 r k))
        (fun k => if Late i then x6 (ix2 r k) else x2 (ix2 r k)) (fun k => if Late i then x7 (ix2 r k) else x3 (ix2 r k))
        (fun e => x8 (ix2 0 e)) (fun e => x9 (ix2 0 e)) (fun k e => x10 (ix2 k e)) (fun e => x11 (ix2 0 e)) (fun e => x12 (ix2 0 e)) n := by
  unfold out0_15 k0_pay28 k0_pay27 k0_pay26 k0_pay25 k0_pay24 k0_pay23
  rw [View.canon_unit_zero (by decide)]
  simp only [pay8_at, pay7_at, pay6_at]
  have hs : (fun e => k0_pay3 (F := Ideal) i (View.ld x4 r0_0) (View.ld x0 r0_0) (View.ld x5 r0_1) (View.ld x1 r0_1) (View.ld x6 r0_1) (View.ld x2 r0_1)
      (View.ld x10 r0_3) (View.ld x10 r0_4) (View.ld x10 r0_5) (ix2 r e))
      = fun e => mixed (fun k => if Late i then x4 (ix2 r k) else x0 (ix2 r k)) (fun k => if Late i then x5 (ix2 r k) else x1 (ix2 r k))
        (fun k => if Late i then x6 (ix2 r k) else x2 (ix2 r k)) (fun k => x10 (ix2 k e)) := by
    funext e
    rw [pay3_at]
    rw [View.ld_unit_zero (by decide), View.ld_unit_zero (by decide), View.ld_unit_zero (by decide), View.ld_unit_zero (by decide),
      View.ld_unit_zero (by decide), View.ld_unit_zero (by decide)]
    exact congrArg₂ (· + ·) (congrArg₂ (· + ·) (Finset.sum_congr rfl fun k _ => congrArg (_ * ·) (ld_low x10 k e))
      (Finset.sum_congr rfl fun k _ => congrArg (_ * ·) (ld_mid x10 k e))) (Finset.sum_congr rfl fun k _ => congrArg (_ * ·) (ld_high x10 k e))
  have hx : (fun e => k0_pay2 (F := Ideal) i (View.ld x7 r0_2) (View.ld x3 r0_2) (ix2 r e))
      = fun e => if Late i then x7 (ix2 r e) else x3 (ix2 r e) := by
    funext e
    rw [pay2_at, View.ld_unit_zero (by decide), View.ld_unit_zero (by decide)]
  rw [hs, hx]
  rw [View.ld_unit_zero (by decide) _ x8, View.ld_unit_zero (by decide) _ x9, View.ld_unit_zero (by decide) _ x11, View.ld_unit_zero (by decide) _ x12]
  unfold k0_pay4 k0_pay5
  pointwise
  rfl

variable (m : (ℓ : Loc nD τ sig) → ℓ.ty.Contents (Elt Idealize.ShloMosaic.Ideal))

/-- The block indices at a grid point, and which points work on the samples. -/
theorem index_eq : ∀ t : Fin grid0.N, win0_0.index t = ![min t.val 63, 0] ∧ win0_1.index t = ![min t.val 63, 0] ∧ win0_2.index t = ![min t.val 63, 0]
    ∧ win0_3.index t = ![min t.val 63, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_15.index t = ![t.val, 0] ∧ (Late (grid0.coords t) ↔ 64 ≤ t.val) := by
  decide +kernel

theorem lt65 (t : Fin cfg0.N) : t.val < 65 := t.isLt

theorem a_blk (c : Dev nD) (t : Fin cfg0.N) (r : Fin 128) (k : Fin 1024) : iblk m c 0 t (ix2 r k)
    = m (c, Proc.tc.devRef main_arg0) (ix3 ⟨(128 * min t.val 63 + r.val) / 2048, by omega⟩ ⟨(128 * min t.val 63 + r.val) % 2048, by omega⟩ k) := by
  have h : iblk m c 0 t (ix2 r k) = (V m c main_v16 : Vec Ideal S8192x1024 .bf16) (ix2 ⟨128 * min t.val 63 + r.val, by omega⟩ k) := by
    obtain ⟨e, -⟩ := index_eq t
    blk_ext [iblk, e]
  rw [h]
  unfold V
  after_reads_at

theorem p_blk (c : Dev nD) (t : Fin cfg0.N) (r : Fin 128) (k : Fin 512) : iblk m c 1 t (ix2 r k)
    = m (c, Proc.tc.devRef main_arg1) (ix3 ⟨(128 * min t.val 63 + r.val) / 2048, by omega⟩ ⟨(128 * min t.val 63 + r.val) % 2048, by omega⟩ k) := by
  have h : iblk m c 1 t (ix2 r k) = (V m c main_v17 : Vec Ideal S8192x512 .bf16) (ix2 ⟨128 * min t.val 63 + r.val, by omega⟩ k) := by
    obtain ⟨-, e, -⟩ := index_eq t
    blk_ext [iblk, e]
  rw [h]
  unfold V
  after_reads_at

theorem q_blk (c : Dev nD) (t : Fin cfg0.N) (r : Fin 128) (k : Fin 512) : iblk m c 2 t (ix2 r k)
    = m (c, Proc.tc.devRef main_arg2) (ix3 ⟨(128 * min t.val 63 + r.val) / 2048, by omega⟩ ⟨(128 * min t.val 63 + r.val) % 2048, by omega⟩ k) := by
  have h : iblk m c 2 t (ix2 r k) = (V m c main_v18 : Vec Ideal S8192x512 .bf16) (ix2 ⟨128 * min t.val 63 + r.val, by omega⟩ k) := by
    obtain ⟨-, -, e, -⟩ := index_eq t
    blk_ext [iblk, e]
  rw [h]
  unfold V
  after_reads_at

theorem x_blk (c : Dev nD) (t : Fin cfg0.N) (r : Fin 128) (k : Fin 2048) : iblk m c 3 t (ix2 r k)
    = m (c, Proc.tc.devRef main_arg3) (ix3 ⟨(128 * min t.val 63 + r.val) / 2048, by omega⟩ ⟨(128 * min t.val 63 + r.val) % 2048, by omega⟩ k) := by
  have h : iblk m c 3 t (ix2 r k) = (V m c main_v19 : Vec Ideal S8192x2048 .f32) (ix2 ⟨128 * min t.val 63 + r.val, by omega⟩ k) := by
    obtain ⟨-, -, -, e, -⟩ := index_eq t
    blk_ext [iblk, e]
  rw [h]
  unfold V
  after_reads_at

theorem sa_blk (c : Dev nD) (t : Fin cfg0.N) (r : Fin 128) (k : Fin 1024) : iblk m c 4 t (ix2 r k)
    = m (c, Proc.tc.devRef main_arg4) (ix3 r 0 k) := by
  have h : iblk m c 4 t (ix2 r k) = (V m c main_v27 : Vec Ideal S128x1024 .bf16) (ix2 r k) := by
    obtain ⟨-, -, -, -, e, -⟩ := index_eq t
    blk_ext [iblk, e]
  rw [h]
  unfold V
  after_reads_at

theorem sp_blk (c : Dev nD) (t : Fin cfg0.N) (r : Fin 128) (k : Fin 512) : iblk m c 5 t (ix2 r k)
    = m (c, Proc.tc.devRef main_arg5) (ix2 r k) := by
  have h : iblk m c 5 t (ix2 r k) = (V m c main_v28 : Vec Ideal S128x512 .bf16) (ix2 r k) := by
    obtain ⟨-, -, -, -, -, e, -⟩ := index_eq t
    blk_ext [iblk, e]
  rw [h]
  unfold V
  after_reads_at

theorem sq_blk (c : Dev nD) (t : Fin cfg0.N) (r : Fin 128) (k : Fin 512) : iblk m c 6 t (ix2 r k)
    = m (c, Proc.tc.devRef main_arg6) (ix3 r 0 k) := by
  have h : iblk m c 6 t (ix2 r k) = (V m c main_v29 : Vec Ideal S128x512 .bf16) (ix2 r k) := by
    obtain ⟨-, -, -, -, -, -, e, -⟩ := index_eq t
    blk_ext [iblk, e]
  rw [h]
  unfold V
  after_reads_at

theorem sx_blk (c : Dev nD) (t : Fin cfg0.N) (r : Fin 128) (k : Fin 2048) : iblk m c 7 t (ix2 r k)
    = m (c, Proc.tc.devRef main_arg7) (ix3 r 0 k) := by
  have h : iblk m c 7 t (ix2 r k) = (V m c main_v30 : Vec Ideal S128x2048 .f32) (ix2 r k) := by
    obtain ⟨-, -, -, -, -, -, -, e, -⟩ := index_eq t
    blk_ext [iblk, e]
  rw [h]
  unfold V
  after_reads_at

theorem eg_blk (c : Dev nD) (t : Fin cfg0.N) (k : Fin 2048) : iblk m c 8 t (ix2 0 k) = m (c, Proc.tc.devRef main_arg8) (ix1 k) := by
  have h : iblk m c 8 t (ix2 0 k) = (V m c main_v31 : Vec Ideal S1x2048 .f32) (ix2 0 k) := by
    obtain ⟨-, -, -, -, -, -, -, -, e, -⟩ := index_eq t
    blk_ext [iblk, e]
  rw [h]
  unfold V
  after_reads_at

theorem eb_blk (c : Dev nD) (t : Fin cfg0.N) (k : Fin 2048) : iblk m c 9 t (ix2 0 k) = m (c, Proc.tc.devRef main_arg9) (ix1 k) := by
  have h : iblk m c 9 t (ix2 0 k) = (V m c main_v32 : Vec Ideal S1x2048 .f32) (ix2 0 k) := by
    obtain ⟨-, -, -, -, -, -, -, -, -, e, -⟩ := index_eq t
    blk_ext [iblk, e]
  rw [h]
  unfold V
  after_reads_at

theorem g_blk (c : Dev nD) (t : Fin cfg0.N) (k : Fin 2048) : iblk m c 11 t (ix2 0 k) = m (c, Proc.tc.devRef main_arg11) (ix2 0 k) := by
  have h : iblk m c 11 t (ix2 0 k) = (V m c main_v33 : Vec Ideal S1x2048 .f32) (ix2 0 k) := by
    obtain ⟨-, -, -, -, -, -, -, -, -, -, -, e, -⟩ := index_eq t
    blk_ext [iblk, e]
  rw [h]
  unfold V
  after_reads_at

theorem b_blk (c : Dev nD) (t : Fin cfg0.N) (k : Fin 2048) : iblk m c 12 t (ix2 0 k) = m (c, Proc.tc.devRef main_arg12) (ix2 0 k) := by
  have h : iblk m c 12 t (ix2 0 k) = (V m c main_v34 : Vec Ideal S1x2048 .f32) (ix2 0 k) := by
    obtain ⟨-, -, -, -, -, -, -, -, -, -, -, -, e, -⟩ := index_eq t
    blk_ext [iblk, e]
  rw [h]
  unfold V
  after_reads_at

theorem w_blk (c : Dev nD) (t : Fin cfg0.N) (k n : Fin 2048) : iblk m c 10 t (ix2 k n) = m (c, Proc.tc.devRef main_arg10) (ix3 0 k n) := by
  have h : iblk m c 10 t (ix2 k n) = (V m c main_v1 : Vec Ideal S2048x2048 .bf16) (ix2 k n) := by
    obtain ⟨-, -, -, -, -, -, -, -, -, -, e, -⟩ := index_eq t
    blk_ext [iblk, e]
  rw [h]
  unfold V
  after_reads_at

theorem emb15 (t : Fin cfg0.N) (r : Fin 128) (n : Fin 2048) : (win0_15.blk t).view.emb (ix2 r n)
    = (ix2 ⟨128 * t.val + r.val, by have := lt65 t; omega⟩ n : S8320x2048.Idx) := by
  obtain ⟨-, -, -, -, -, -, -, -, -, -, -, -, -, e, -⟩ := index_eq t
  blk_ext [e]
end
end Mix
end
-- ==== Proof.MixRef.lean ====
module

public import proofs.«01_k».proof.Defs
public import proofs.«01_k».proof.Proof.MixValue
public import proofs.«01_k».proof.Proof.Gen.Reference5Ideal.Run
public import Idealize.ShloMosaic.Lib.Quiescent

/-! The reference of the output projection ends with the kernel's first result. -/

@[expose] public section
set_option maxRecDepth 16384
noncomputable section
namespace Mix
open Idealize.ShloMosaic Idealize.ShloMosaic.TcCoe Idealize.SL.Sem Idealize.ShloMosaic.StableHlo

/-- One entry of the result: rows 0 to 8191 are the prompt's batches and positions, the last 128 the samples. -/
def spec (ap : Vec Ideal ⟨3, ![4, 2048, 1024]⟩ .bf16) (pp qp : Vec Ideal ⟨3, ![4, 2048, 512]⟩ .bf16) (xp : Vec Ideal ⟨3, ![4, 2048, 2048]⟩ .f32)
    (a' : Vec Ideal ⟨3, ![128, 1, 1024]⟩ .f32) (ps : Vec Ideal ⟨2, ![128, 512]⟩ .bf16) (qs : Vec Ideal ⟨3, ![128, 1, 512]⟩ .f32)
    (xs : Vec Ideal ⟨3, ![128, 1, 2048]⟩ .f32) (eg eb : Vec Ideal ⟨1, ![2048]⟩ .f32) (w : Vec Ideal ⟨3, ![1, 2048, 2048]⟩ .f32)
    (g b : Vec Ideal ⟨2, ![1, 2048]⟩ .f32) (R : Fin 8320) (n : Fin 2048) : EReal :=
  if h : R.val < 8192 then
    entry (fun k => ap (ix3 ⟨R.val / 2048, by omega⟩ ⟨R.val % 2048, by omega⟩ k)) (fun k => pp (ix3 ⟨R.val / 2048, by omega⟩ ⟨R.val % 2048, by omega⟩ k))
      (fun k => qp (ix3 ⟨R.val / 2048, by omega⟩ ⟨R.val % 2048, by omega⟩ k)) (fun k => xp (ix3 ⟨R.val / 2048, by omega⟩ ⟨R.val % 2048, by omega⟩ k))
      (fun e => eg (ix1 e)) (fun e => eb (ix1 e)) (fun k e => w (ix3 0 k e)) (fun e => g (ix2 0 e)) (fun e => b (ix2 0 e)) n
  else
    entry (fun k => a' (ix3 ⟨R.val - 8192, by omega⟩ 0 k)) (fun k => ps (ix2 ⟨R.val - 8192, by omega⟩ k))
      (fun k => qs (ix3 ⟨R.val - 8192, by omega⟩ 0 k)) (fun k => xs (ix3 ⟨R.val - 8192, by omega⟩ 0 k))
      (fun e => eg (ix1 e)) (fun e => eb (ix1 e)) (fun k e => w (ix3 0 k e)) (fun e => g (ix2 0 e)) (fun e => b (ix2 0 e)) n

section
open Cert.Kernel5Ideal Cert.Kernel5Ideal.Gen
variable (m : (ℓ : Loc nD τ sig) → ℓ.ty.Contents (Elt Idealize.ShloMosaic.Ideal))

/-- The result's entries at a device's arguments. -/
def ends (c : Dev nD) (R : Fin 8320) (n : Fin 2048) : EReal :=
  spec (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (m (c, Proc.tc.devRef main_arg12)) R n

theorem kernel_value (c : Dev nD) : (dats m 0 c).arrAt 15 cfg0.N = fun y => ends m c (y 0) (y 1) := by
  refine (dats m 0 c).arrAt_eq_of_covers 15 _ (by decide +kernel) fun t hf y => ?_
  blk_simp
  rw [after0_15]
  obtain ⟨r, n, rfl⟩ : ∃ (r : Fin 128) (n : Fin 2048), y = ix2 r n := ⟨y 0, y 1, eq_ix2 y⟩
  rw [emb15]
  refine (out_at _ _ _ _ _ _ _ _ _ _ _ _ _ _ _ _ r n).trans ?_
  simp only [a_blk, p_blk, q_blk, x_blk, sa_blk, sp_blk, sq_blk, sx_blk, eg_blk, eb_blk, g_blk, b_blk, w_blk]
  have hl : Late (grid0.coords t) ↔ 64 ≤ t.val := (index_eq t).2.2.2.2.2.2.2.2.2.2.2.2.2.2
  have ht := lt65 t
  show _ = ends m c ⟨128 * t.val + r.val, _⟩ n
  unfold ends spec
  by_cases h : 64 ≤ t.val
  · have e : (⟨128 * t.val + r.val - 8192, by omega⟩ : Fin 128) = r := Fin.ext (by show 128 * t.val + r.val - 8192 = r.val; omega)
    simp only [if_pos (hl.mpr h)]
    rw [dif_neg (by show ¬ 128 * t.val + r.val < 8192; omega)]
    rw [e]
  · have e : min t.val 63 = t.val := by omega
    simp only [if_neg (fun k => h (hl.mp k)), e]
    rw [dif_pos (by show 128 * t.val + r.val < 8192; omega)]
end

/-- A sum over the 2048 columns, cut where the three parts meet. -/
theorem sum_parts (f w : Fin 2048 → EReal) : ∑ d, f d * w d
    = mixed (fun k => f ⟨k.val, by omega⟩) (fun k => f ⟨1024 + k.val, by omega⟩) (fun k => f ⟨1536 + k.val, by omega⟩) w := by
  unfold mixed
  refine (Fin.sum_univ_add (a := 1536) (b := 512) fun d => f d * w d).trans ?_
  refine congrArg₂ (· + ·) ?_ rfl
  exact Fin.sum_univ_add (a := 1024) (b := 512) fun d => f (Fin.castAdd 512 d) * w (Fin.castAdd 512 d)

section
open Cert.Reference5Ideal Cert.Reference5Ideal.Gen

/-- The reference's row means (prompt). -/
def rMeanP (x : FVec Ideal S4x2048x2048 .f32) : FVec Ideal S4x2048x1 .f32 :=
  Host.divf (broadcastInDim S4x2048x1 ![0, 1] bcast_S4x2048_S4x2048x1_0_1 (Host.reduceAdd x (constant S_ .f32 0x00000000#32) reducesTo_S4x2048x2048_S4x2048_d2 h_S_))
    (broadcastInDim S4x2048x1 ![] bcast_S_S4x2048x1 (constant S_ .f32 0x45000000#32))

/-- The reference's rows less their means (prompt). -/
def rDiffP (x : FVec Ideal S4x2048x2048 .f32) : FVec Ideal S4x2048x2048 .f32 := subf x (broadcastInDim S4x2048x2048 ![0, 1, 2] bcast_S4x2048x1_S4x2048x2048_0_1_2 (rMeanP x))

/-- The reference's layer norm (prompt). -/
def rNormP (x : FVec Ideal S4x2048x2048 .f32) (g b : FVec Ideal S2048 .f32) : FVec Ideal S4x2048x2048 .f32 :=
  addf (mulf (mulf (rDiffP x) (broadcastInDim S4x2048x2048 ![0, 1, 2] bcast_S4x2048x1_S4x2048x2048_0_1_2 (Host.rsqrt (addf (rMeanP (mulf (rDiffP x) (rDiffP x)))
      (broadcastInDim S4x2048x1 ![] bcast_S_S4x2048x1 (constant S_ .f32 0x3727C5AC#32))))))
    (broadcastInDim S4x2048x2048 ![0, 1, 2] bcast_S1x1x2048_S4x2048x2048_0_1_2 (broadcastInDim S1x1x2048 ![2] bcast_S2048_S1x1x2048_2 g)))
    (broadcastInDim S4x2048x2048 ![0, 1, 2] bcast_S1x1x2048_S4x2048x2048_0_1_2 (broadcastInDim S1x1x2048 ![2] bcast_S2048_S1x1x2048_2 b))

/-- The three parts of the reference's rows side by side (prompt). -/
def rPartsP (a : FVec Ideal S4x2048x1024 .bf16) (p : FVec Ideal S4x2048x512 .bf16) (q : FVec Ideal S4x2048x512 .bf16) : FVec Ideal S4x2048x2048 .f32 :=
  concatenate S4x2048x2048 2 [⟨S4x2048x1024, (extf .f32 a bitsLt_bf16_f32 : FVec Ideal S4x2048x1024 .f32)⟩, ⟨S4x2048x512, (extf .f32 p bitsLt_bf16_f32 : FVec Ideal S4x2048x512 .f32)⟩,
    ⟨S4x2048x512, (extf .f32 q bitsLt_bf16_f32 : FVec Ideal S4x2048x512 .f32)⟩] concatenates_S4x2048x1024_S4x2048x512_S4x2048x512_S4x2048x2048_d2

/-- The reference's scaled normed input plus the mixed parts (prompt). -/
def rSumP (y : FVec Ideal S4x2048x2048 .f32) (x : FVec Ideal S4x2048x2048 .f32) (eg eb : FVec Ideal S2048 .f32) (w : FVec Ideal S1x2048x2048 .f32) : FVec Ideal S4x2048x2048 .f32 :=
  addf (mulf (broadcastInDim S4x2048x2048 ![] bcast_S_S4x2048x2048 (constant S_ .f32 0x3F9837F0#32)) (rNormP x eg eb))
    (Host.dotGeneral dot_S4x2048x2048_S2048x2048_S4x2048x2048_2_0_01_1_n_n none y (shapeCast _ w shapeCasts_S1x2048x2048_S2048x2048))

theorem rMeanP_at (x : FVec Ideal S4x2048x2048 .f32) (i : Fin 4) (s : Fin 2048) : rMeanP x (ix3 i s 0) = Proj.mean fun d => x (ix3 i s d) := by
  unfold rMeanP
  pointwise
  rfl

theorem rDiffP_at (x : FVec Ideal S4x2048x2048 .f32) (i : Fin 4) (s : Fin 2048) (d : Fin 2048) : rDiffP x (ix3 i s d) = x (ix3 i s d) - Proj.mean fun d => x (ix3 i s d) := by
  unfold rDiffP
  pointwise
  rw [rMeanP_at]

theorem rNormP_at (x : FVec Ideal S4x2048x2048 .f32) (g b : FVec Ideal S2048 .f32) (i : Fin 4) (s : Fin 2048) (d : Fin 2048) :
    rNormP x g b (ix3 i s d) = Proj.norm (fun d => x (ix3 i s d)) (fun d => g (ix1 d)) (fun d => b (ix1 d)) d := by
  unfold rNormP
  pointwise
  rw [rMeanP_at]
  pointwise
  simp only [rDiffP_at]
  rfl

theorem rSumP_at (y : FVec Ideal S4x2048x2048 .f32) (x : FVec Ideal S4x2048x2048 .f32) (eg eb : FVec Ideal S2048 .f32) (w : FVec Ideal S1x2048x2048 .f32) (i : Fin 4) (s : Fin 2048) (n : Fin 2048) :
    rSumP y x eg eb w (ix3 i s n) = Ideal.ofBits .f32 0x3F9837F0#32 * Proj.norm (fun d => x (ix3 i s d)) (fun d => eg (ix1 d)) (fun d => eb (ix1 d)) n
      + ∑ d, y (ix3 i s d) * w (ix3 0 d n) := by
  unfold rSumP
  pointwise
  rw [rNormP_at]

theorem rPartsP_at (a : FVec Ideal S4x2048x1024 .bf16) (p : FVec Ideal S4x2048x512 .bf16) (q : FVec Ideal S4x2048x512 .bf16) (w : Fin 2048 → EReal) (i : Fin 4) (s : Fin 2048) :
    ∑ d, rPartsP a p q (ix3 i s d) * w d = mixed (fun k => a (ix3 i s k)) (fun k => p (ix3 i s k)) (fun k => q (ix3 i s k)) w := by
  rw [sum_parts]
  have h0 : ∀ k : Fin 1024, rPartsP a p q (ix3 i s ⟨k.val, by omega⟩) = a (ix3 i s k) := fun k => by
    unfold rPartsP
    pointwise
  have h1 : ∀ k : Fin 512, rPartsP a p q (ix3 i s ⟨1024 + k.val, by omega⟩) = p (ix3 i s k) := fun k => by
    unfold rPartsP
    pointwise
  have h2 : ∀ k : Fin 512, rPartsP a p q (ix3 i s ⟨1536 + k.val, by omega⟩) = q (ix3 i s k) := fun k => by
    unfold rPartsP
    pointwise
    rw [dif_neg (by omega), dif_neg (by omega)]
    exact congrArg (fun e => q (ix3 i s e)) (Fin.ext (by show 1536 + k.val - 1024 - 512 = k.val; omega))
  simp only [h0, h1, h2]

/-- The reference's row means (samples). -/
def rMeanS (x : FVec Ideal S128x1x2048 .f32) : FVec Ideal S128x1x1 .f32 :=
  Host.divf (broadcastInDim S128x1x1 ![0, 1] bcast_S128x1_S128x1x1_0_1 (Host.reduceAdd x (constant S_ .f32 0x00000000#32) reducesTo_S128x1x2048_S128x1_d2 h_S_))
    (broadcastInDim S128x1x1 ![] bcast_S_S128x1x1 (constant S_ .f32 0x45000000#32))

/-- The reference's rows less their means (samples). -/
def rDiffS (x : FVec Ideal S128x1x2048 .f32) : FVec Ideal S128x1x2048 .f32 := subf x (broadcastInDim S128x1x2048 ![0, 1, 2] bcast_S128x1x1_S128x1x2048_0_1_2 (rMeanS x))

/-- The reference's layer norm (samples). -/
def rNormS (x : FVec Ideal S128x1x2048 .f32) (g b : FVec Ideal S2048 .f32) : FVec Ideal S128x1x2048 .f32 :=
  addf (mulf (mulf (rDiffS x) (broadcastInDim S128x1x2048 ![0, 1, 2] bcast_S128x1x1_S128x1x2048_0_1_2 (Host.rsqrt (addf (rMeanS (mulf (rDiffS x) (rDiffS x)))
      (broadcastInDim S128x1x1 ![] bcast_S_S128x1x1 (constant S_ .f32 0x3727C5AC#32))))))
    (broadcastInDim S128x1x2048 ![0, 1, 2] bcast_S1x1x2048_S128x1x2048_0_1_2 (broadcastInDim S1x1x2048 ![2] bcast_S2048_S1x1x2048_2 g)))
    (broadcastInDim S128x1x2048 ![0, 1, 2] bcast_S1x1x2048_S128x1x2048_0_1_2 (broadcastInDim S1x1x2048 ![2] bcast_S2048_S1x1x2048_2 b))

/-- The three parts of the reference's rows side by side (samples). -/
def rPartsS (a : FVec Ideal S128x1x1024 .f32) (p : FVec Ideal S128x512 .bf16) (q : FVec Ideal S128x1x512 .f32) : FVec Ideal S128x1x2048 .f32 :=
  concatenate S128x1x2048 2 [⟨S128x1x1024, (a : FVec Ideal S128x1x1024 .f32)⟩, ⟨S128x1x512, (broadcastInDim S128x1x512 ![0, 2] bcast_S128x512_S128x1x512_0_2 (extf .f32 p bitsLt_bf16_f32) : FVec Ideal S128x1x512 .f32)⟩,
    ⟨S128x1x512, (q : FVec Ideal S128x1x512 .f32)⟩] concatenates_S128x1x1024_S128x1x512_S128x1x512_S128x1x2048_d2

/-- The reference's scaled normed input plus the mixed parts (samples). -/
def rSumS (y : FVec Ideal S128x1x2048 .f32) (x : FVec Ideal S128x1x2048 .f32) (eg eb : FVec Ideal S2048 .f32) (w : FVec Ideal S1x2048x2048 .f32) : FVec Ideal S128x1x2048 .f32 :=
  addf (mulf (broadcastInDim S128x1x2048 ![] bcast_S_S128x1x2048 (constant S_ .f32 0x3F9837F0#32)) (rNormS x eg eb))
    (Host.dotGeneral dot_S128x1x2048_S2048x2048_S128x1x2048_2_0_01_1_n_n none y (shapeCast _ w shapeCasts_S1x2048x2048_S2048x2048))

theorem rMeanS_at (x : FVec Ideal S128x1x2048 .f32) (i : Fin 128) : rMeanS x (ix3 i 0 0) = Proj.mean fun d => x (ix3 i 0 d) := by
  unfold rMeanS
  pointwise
  rfl

theorem rDiffS_at (x : FVec Ideal S128x1x2048 .f32) (i : Fin 128) (d : Fin 2048) : rDiffS x (ix3 i 0 d) = x (ix3 i 0 d) - Proj.mean fun d => x (ix3 i 0 d) := by
  unfold rDiffS
  pointwise
  rw [rMeanS_at]

theorem rNormS_at (x : FVec Ideal S128x1x2048 .f32) (g b : FVec Ideal S2048 .f32) (i : Fin 128) (d : Fin 2048) :
    rNormS x g b (ix3 i 0 d) = Proj.norm (fun d => x (ix3 i 0 d)) (fun d => g (ix1 d)) (fun d => b (ix1 d)) d := by
  unfold rNormS
  pointwise
  rw [rMeanS_at]
  pointwise
  simp only [rDiffS_at]
  rfl

theorem rSumS_at (y : FVec Ideal S128x1x2048 .f32) (x : FVec Ideal S128x1x2048 .f32) (eg eb : FVec Ideal S2048 .f32) (w : FVec Ideal S1x2048x2048 .f32) (i : Fin 128) (n : Fin 2048) :
    rSumS y x eg eb w (ix3 i 0 n) = Ideal.ofBits .f32 0x3F9837F0#32 * Proj.norm (fun d => x (ix3 i 0 d)) (fun d => eg (ix1 d)) (fun d => eb (ix1 d)) n
      + ∑ d, y (ix3 i 0 d) * w (ix3 0 d n) := by
  unfold rSumS
  pointwise
  rw [rNormS_at]

theorem rPartsS_at (a : FVec Ideal S128x1x1024 .f32) (p : FVec Ideal S128x512 .bf16) (q : FVec Ideal S128x1x512 .f32) (w : Fin 2048 → EReal) (i : Fin 128) :
    ∑ d, rPartsS a p q (ix3 i 0 d) * w d = mixed (fun k => a (ix3 i 0 k)) (fun k => p (ix2 i k)) (fun k => q (ix3 i 0 k)) w := by
  rw [sum_parts]
  have h0 : ∀ k : Fin 1024, rPartsS a p q (ix3 i 0 ⟨k.val, by omega⟩) = a (ix3 i 0 k) := fun k => by
    unfold rPartsS
    pointwise
  have h1 : ∀ k : Fin 512, rPartsS a p q (ix3 i 0 ⟨1024 + k.val, by omega⟩) = p (ix2 i k) := fun k => by
    unfold rPartsS
    pointwise
  have h2 : ∀ k : Fin 512, rPartsS a p q (ix3 i 0 ⟨1536 + k.val, by omega⟩) = q (ix3 i 0 k) := fun k => by
    unfold rPartsS
    pointwise
    rw [dif_neg (by omega), dif_neg (by omega)]
    exact congrArg (fun e => q (ix3 i 0 e)) (Fin.ext (by show 1536 + k.val - 1024 - 512 = k.val; omega))
  simp only [h0, h1, h2]

/-- The reference's result. -/
def rOut (ap : FVec Ideal S4x2048x1024 .bf16) (pp qp : FVec Ideal S4x2048x512 .bf16) (xp : FVec Ideal S4x2048x2048 .f32)
    (a' : FVec Ideal S128x1x1024 .f32) (ps : FVec Ideal S128x512 .bf16) (qs : FVec Ideal S128x1x512 .f32) (xs : FVec Ideal S128x1x2048 .f32)
    (eg eb : FVec Ideal S2048 .f32) (w : FVec Ideal S1x2048x2048 .f32) (g b : FVec Ideal S1x2048 .f32) : FVec Ideal S8320x2048 .f32 :=
  concatenate S8320x2048 0 [⟨S8192x2048, shapeCast S8192x2048 (rNormP (rSumP (rPartsP ap pp qp) xp eg eb w) (shapeCast _ g shapeCasts_S1x2048_S2048)
      (shapeCast _ b shapeCasts_S1x2048_S2048)) shapeCasts_S4x2048x2048_S8192x2048⟩,
    ⟨S128x2048, shapeCast S128x2048 (rNormS (rSumS (rPartsS a' ps qs) xs eg eb w) (shapeCast _ g shapeCasts_S1x2048_S2048)
      (shapeCast _ b shapeCasts_S1x2048_S2048)) shapeCasts_S128x1x2048_S128x2048⟩] concatenates_S8192x2048_S128x2048_S8320x2048_d0

theorem vec_at (g : FVec Ideal S1x2048 .f32) (d : Fin 2048) : shapeCast S2048 g shapeCasts_S1x2048_S2048 (ix1 d) = g (ix2 0 d) := by
  pointwise

theorem rOut_at (ap : FVec Ideal S4x2048x1024 .bf16) (pp qp : FVec Ideal S4x2048x512 .bf16) (xp : FVec Ideal S4x2048x2048 .f32)
    (a' : FVec Ideal S128x1x1024 .f32) (ps : FVec Ideal S128x512 .bf16) (qs : FVec Ideal S128x1x512 .f32) (xs : FVec Ideal S128x1x2048 .f32)
    (eg eb : FVec Ideal S2048 .f32) (w : FVec Ideal S1x2048x2048 .f32) (g b : FVec Ideal S1x2048 .f32) (R : Fin 8320) (n : Fin 2048) :
    rOut ap pp qp xp a' ps qs xs eg eb w g b (ix2 R n) = spec ap pp qp xp a' ps qs xs eg eb w g b R n := by
  unfold rOut spec
  by_cases h : R.val < 8192
  · rw [dif_pos h]
    pointwise
    rw [dif_pos h, rNormP_at]
    simp only [rSumP_at, rPartsP_at, vec_at]
    rfl
  · rw [dif_neg h]
    pointwise
    rw [dif_neg h, rNormS_at]
    simp only [rSumS_at, rPartsS_at, vec_at]
    rfl
end

/-- The reference's frame: no operation writes an argument, and it has no semaphore. -/
theorem frame_ref : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run m ρ)

/-- The value claim: both programs end with the normed rows. -/
theorem equation : @Cert.algebraic_Kernel5Ideal_Reference5Ideal Cert.Kernel5Ideal.Gen.facts Cert.Reference5Ideal.Gen.facts := by
  intro m g m' g' hpre hargs
  refine ⟨fun c y => ends m c (y 0) (y 1), ?_, ?_⟩
  · exact (θ_run Cert.Kernel5Ideal.defs _ _).mono (fun r h c => ⟨(h c).1.trans (kernel_value m c), (h c).2.2⟩)
      (Cert.Kernel5Ideal.Value.run_blocks m g)
  · refine (θ_run Cert.Reference5Ideal.defs _ _).mono (fun r h c => ⟨(h c).1.trans ?_, (h c).2⟩) (Cert.Reference5Ideal.Value.run m' g')
    obtain ⟨h0, h1, h2, h3, h4, h5, h6, h7, h8, h9, h10, h11, h12, -⟩ := hargs c
    unfold Cert.Reference5Ideal.Value.res_main_v116
    rw [h0, h1, h2, h3, h4, h5, h6, h7, h8, h9, h10, h11, h12]
    exact funext fun y => (congrArg (rOut _ _ _ _ _ _ _ _ _ _ _ _ _) (eq_ix2 y)).trans (rOut_at _ _ _ _ _ _ _ _ _ _ _ _ _ (y 0) (y 1))

end Mix
end
-- ==== Proof.MemAttention.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Tactic.CleanTypes
public import Idealize.ShloMosaic.Lib.Quiescent
public import proofs.«01_k».proof.Proof.Softmax

/-! The prompt's memory attention: the kernel's and the reference's result. -/

@[expose] public section
set_option maxRecDepth 16384
noncomputable section
namespace MemAtt
open Idealize.ShloMosaic Idealize.ShloMosaic.TcCoe Idealize.SL.Sem Idealize.ShloMosaic.StableHlo

/-- The scaled logit of a query and a key. -/
def logit (q k : Fin 128 → EReal) : EReal := (∑ d, q d * k d) * Ideal.ofBits .f32 0x3DB504F3#32

/-- The greatest of 256 logits. -/
def top (l : Fin 256 → EReal) : EReal := Finset.univ.fold max ⊥ l

/-- The softmax of a row of 256 logits. -/
def weight (l : Fin 256 → EReal) (j : Fin 256) : EReal :=
  Ideal.div (Ideal.exp (l j - top l)) (∑ e, Ideal.exp (l e - top l))

/-- One entry of the attention: the values weighted by the softmax of the logits. -/
def entry (q : Fin 128 → EReal) (k : Fin 256 → Fin 128 → EReal) (v : Fin 256 → EReal) : EReal :=
  ∑ j, weight (fun e => logit q (k e)) j * v j

section
open Cert.Kernel6Ideal Cert.Kernel6Ideal.Gen

theorem pay1_at (q : Vec Ideal S1x2048x128 .bf16) (k v : Vec Ideal S1x256x128 .f32) (r : Fin 2048) (n : Fin 128) :
    k0_pay1 q k v (ix3 0 r n) = entry (fun d => q (ix3 0 r d)) (fun j d => k (ix3 0 j d)) (fun j => v (ix3 0 j n)) := by
  unfold k0_pay1
  pointwise
  rw [Moba.ofBits_neg_inf]
  rfl

theorem out_at (q : Vec Ideal S1x2048x128 .bf16) (k v : Vec Ideal S1x256x128 .f32) (r : Fin 2048) (n : Fin 128) :
    out0_3 q k v (ix3 0 r n) = entry (fun d => q (ix3 0 r d)) (fun j d => k (ix3 0 j d)) (fun j => v (ix3 0 j n)) := by
  unfold out0_3
  rw [View.canon_unit_zero (by decide)]
  rw [View.ld_unit_zero (by decide), View.ld_unit_zero (by decide), View.ld_unit_zero (by decide)]
  exact pay1_at q k v r n
end

/-- Column `d` of a head. -/
def col (h : Fin 4) (d : Fin 128) : Fin 512 := ⟨h.val * 128 + d.val, by omega⟩

/-- The attention of one batch, position and column. -/
def spec (q : Vec Ideal ⟨3, ![4, 2048, 512]⟩ .bf16) (k v : Vec Ideal ⟨3, ![4, 256, 512]⟩ .f32) (b : Fin 4) (r : Fin 2048) (n : Fin 512) : EReal :=
  entry (fun d => q (ix3 b r (col ⟨n.val / 128, by omega⟩ d))) (fun j d => k (ix3 b j (col ⟨n.val / 128, by omega⟩ d)))
    (fun j => v (ix3 b j n))

section
open Cert.Kernel6Ideal Cert.Kernel6Ideal.Gen
variable (m : (ℓ : Loc nD τ sig) → ℓ.ty.Contents (Elt Idealize.ShloMosaic.Ideal))

/-- The block indices at a grid point (batch, head). -/
theorem index_eq : ∀ t : Fin grid0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] := by
  decide +kernel

theorem lt16 (t : Fin cfg0.N) : t.val < 16 := t.isLt

theorem q_blk (c : Dev nD) (t : Fin cfg0.N) (r : Fin 2048) (d : Fin 128) : iblk m c 0 t (ix3 0 r d)
    = m (c, Proc.tc.devRef main_arg0) (ix3 ⟨t.val / 4, by have := lt16 t; omega⟩ r (col ⟨t.val % 4, by omega⟩ d)) := by
  obtain ⟨e, -⟩ := index_eq t
  rw [← V_main_arg0 m c]
  blk_ext [iblk, e, col]

theorem k_blk (c : Dev nD) (t : Fin cfg0.N) (r : Fin 256) (d : Fin 128) : iblk m c 1 t (ix3 0 r d)
    = m (c, Proc.tc.devRef main_arg1) (ix3 ⟨t.val / 4, by have := lt16 t; omega⟩ r (col ⟨t.val % 4, by omega⟩ d)) := by
  obtain ⟨-, e, -⟩ := index_eq t
  rw [← V_main_arg1 m c]
  blk_ext [iblk, e, col]

theorem v_blk (c : Dev nD) (t : Fin cfg0.N) (r : Fin 256) (d : Fin 128) : iblk m c 2 t (ix3 0 r d)
    = m (c, Proc.tc.devRef main_arg2) (ix3 ⟨t.val / 4, by have := lt16 t; omega⟩ r (col ⟨t.val % 4, by omega⟩ d)) := by
  obtain ⟨-, -, e, -⟩ := index_eq t
  rw [← V_main_arg2 m c]
  blk_ext [iblk, e, col]

theorem emb3 (t : Fin cfg0.N) (r : Fin 2048) (n : Fin 128) : (win0_3.blk t).view.emb (ix3 0 r n)
    = (ix3 ⟨t.val / 4, by have := lt16 t; omega⟩ r (col ⟨t.val % 4, by omega⟩ n) : S4x2048x512.Idx) := by
  have e := (index_eq t).2.2.2
  blk_ext [e, col]

theorem kernel_value (c : Dev nD) : (dats m 0 c).arrAt 3 cfg0.N = fun y => spec (m (c, Proc.tc.devRef main_arg0))
    (m (c, Proc.tc.devRef main_arg1)) (m (c, Proc.tc.devRef main_arg2)) (y 0) (y 1) (y 2) := by
  refine (dats m 0 c).arrAt_eq_of_covers 3 _ (by decide +kernel) fun t hf y => ?_
  blk_simp
  rw [after0_3]
  obtain ⟨s, r, n, rfl⟩ : ∃ (s : Fin 1) (r : Fin 2048) (n : Fin 128), y = ix3 s r n := ⟨y 0, y 1, y 2, eq_ix3 y⟩
  obtain rfl : s = 0 := Subsingleton.elim _ _
  rw [emb3]
  refine (out_at _ _ _ r n).trans ?_
  simp only [q_blk, k_blk, v_blk]
  have hh : (⟨(col ⟨t.val % 4, by omega⟩ n).val / 128, by have := (col ⟨t.val % 4, by omega⟩ n).isLt; omega⟩ : Fin 4) = ⟨t.val % 4, by omega⟩ :=
    Fin.ext (by show (t.val % 4 * 128 + n.val) / 128 = t.val % 4; omega)
  show _ = spec _ _ _ ⟨t.val / 4, _⟩ r (col ⟨t.val % 4, _⟩ n)
  unfold spec
  rw [hh]
end

section
open Cert.Reference6Ideal Cert.Reference6Ideal.Gen

/-- The reference's scaled logits. -/
def rLogits (q : FVec Ideal S4x2048x512 .bf16) (k : FVec Ideal S4x256x512 .f32) : FVec Ideal S4x4x2048x256 .f32 :=
  mulf (Host.dotGeneral dot_S4x2048x4x128_S4x256x4x128_S4x4x2048x256_3_3_1_1_02_02 none
    (shapeCast _ (extf .f32 q bitsLt_bf16_f32) shapeCasts_S4x2048x512_S4x2048x4x128) (shapeCast _ k shapeCasts_S4x256x512_S4x256x4x128))
    (broadcastInDim S4x4x2048x256 ![] bcast_S_S4x4x2048x256 (constant S_ .f32 0x3DB504F3#32))

/-- The reference's exponentials of logits less a row's entry of `M`. -/
def rExpOf (l : FVec Ideal S4x4x2048x256 .f32) (M : FVec Ideal S4x4x2048 .f32) : FVec Ideal S4x4x2048x256 .f32 :=
  Host.exp (subf l (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32)) M))))

/-- The reference's greatest logits of the rows. -/
def rTop (l : FVec Ideal S4x4x2048x256 .f32) : FVec Ideal S4x4x2048 .f32 :=
  Host.reduce FloatOps.maximumf l (constant S_ .f32 0xFF800000#32) reducesTo_S4x4x2048x256_S4x4x2048_d3 h_S_

/-- The reference's exponentials of logits less the greatest of their row. -/
def rExp (l : FVec Ideal S4x4x2048x256 .f32) : FVec Ideal S4x4x2048x256 .f32 := rExpOf l (rTop l)

/-- The reference's softmax of rows of logits. -/
def rSoft (l : FVec Ideal S4x4x2048x256 .f32) : FVec Ideal S4x4x2048x256 .f32 :=
  Host.divf (rExp l) (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd (rExp l) (constant S_ .f32 0x00000000#32) reducesTo_S4x4x2048x256_S4x4x2048_d3 h_S_)))

/-- The reference's result. -/
def rOut (q : FVec Ideal S4x2048x512 .bf16) (k v : FVec Ideal S4x256x512 .f32) : FVec Ideal S4x2048x512 .bf16 :=
  truncf .bf16 (shapeCast S4x2048x512 (transpose S4x2048x4x128 [0, 3, 1, 2] (Host.dotGeneral dot_S4x256x4x128_S4x4x2048x256_S4x4x128x2048_1_3_3_2_02_01 none
    (shapeCast _ v shapeCasts_S4x256x512_S4x256x4x128) (rSoft (rLogits q k))) transposes_S4x4x128x2048_S4x2048x4x128_0_3_1_2)
    shapeCasts_S4x2048x4x128_S4x2048x512) bitsLt_bf16_f32

theorem rLogits_at (q : FVec Ideal S4x2048x512 .bf16) (k : FVec Ideal S4x256x512 .f32) (b h : Fin 4) (r : Fin 2048) (j : Fin 256) :
    rLogits q k (ix4 b h r j) = logit (fun d => q (ix3 b r (col h d))) (fun d => k (ix3 b j (col h d))) := by
  unfold rLogits
  pointwise
  rfl

theorem rTop_at (l : FVec Ideal S4x4x2048x256 .f32) (b h : Fin 4) (r : Fin 2048) : rTop l (ix3 b h r) = top fun e => l (ix4 b h r e) := by
  unfold rTop
  pointwise
  rw [Moba.ofBits_neg_inf]
  rfl

theorem rExpOf_at (l : FVec Ideal S4x4x2048x256 .f32) (M : FVec Ideal S4x4x2048 .f32) (b h : Fin 4) (r : Fin 2048) (j : Fin 256) :
    rExpOf l M (ix4 b h r j) = Ideal.exp (l (ix4 b h r j) - M (ix3 b h r)) := by
  unfold rExpOf
  pointwise
  rw [Moba.ofBits_neg_inf, max_eq_right bot_le]

theorem rExp_at (l : FVec Ideal S4x4x2048x256 .f32) (b h : Fin 4) (r : Fin 2048) (j : Fin 256) :
    rExp l (ix4 b h r j) = Ideal.exp (l (ix4 b h r j) - top fun e => l (ix4 b h r e)) :=
  (rExpOf_at l (rTop l) b h r j).trans (by rw [rTop_at])

theorem rSoft_at (l : FVec Ideal S4x4x2048x256 .f32) (b h : Fin 4) (r : Fin 2048) (j : Fin 256) :
    rSoft l (ix4 b h r j) = weight (fun e => l (ix4 b h r e)) j := by
  unfold rSoft
  pointwise
  simp only [rExp_at]
  rfl

theorem rOut_at (q : FVec Ideal S4x2048x512 .bf16) (k v : FVec Ideal S4x256x512 .f32) (b : Fin 4) (r : Fin 2048) (n : Fin 512) :
    rOut q k v (ix3 b r n) = spec q k v b r n := by
  unfold rOut
  pointwise
  simp only [rSoft_at, rLogits_at]
  unfold spec entry
  refine Finset.sum_congr rfl fun j _ => ?_
  exact mul_comm _ _
end

/-- The reference's frame: no operation writes an argument, and it has no semaphore. -/
theorem frame_ref : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run m ρ)

/-- The value claim: both programs end with the memory attention. -/
theorem equation : @Cert.algebraic_Kernel6Ideal_Reference6Ideal Cert.Kernel6Ideal.Gen.facts Cert.Reference6Ideal.Gen.facts := by
  intro m g m' g' hpre hargs
  refine ⟨fun c y => spec (m (c, Proc.tc.devRef Cert.Kernel6Ideal.main_arg0)) (m (c, Proc.tc.devRef Cert.Kernel6Ideal.main_arg1))
    (m (c, Proc.tc.devRef Cert.Kernel6Ideal.main_arg2)) (y 0) (y 1) (y 2), ?_, ?_⟩
  · exact (θ_run Cert.Kernel6Ideal.defs _ _).mono (fun r h c => ⟨(h c).1.trans (kernel_value m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    obtain ⟨h0, h1, h2⟩ := hargs c
    rw [h0, h1, h2]
    exact funext fun y => (congrArg (rOut _ _ _) (eq_ix3 y)).trans (rOut_at _ _ _ (y 0) (y 1) (y 2))

end MemAtt
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Equation
public import proofs.«01_k».proof.Proof.ProjRef
public import proofs.«01_k».proof.Proof.MemRef
public import proofs.«01_k».proof.Proof.SampleRef
public import proofs.«01_k».proof.Proof.MixRef
public import proofs.«01_k».proof.Proof.MemAttention
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, by
  exact ⟨fun m ρ _ => Cert.Kernel.Gen.frame m ρ, fun m ρ _ => Cert.KernelIdeal.Gen.frame m ρ, fun m ρ _ => Cert.KernelIdeal.Gen.frame m ρ, Moba.frame_ref,
    fun m ρ _ => Moba.frame_ref m ρ trivial,
    Proj2.frame_kernel, fun m ρ _ => Proj2.frame m ρ, Proj2.frame_ref,
    Proj3.frame_kernel, fun m ρ _ => Proj3.frame m ρ, Proj3.frame_ref,
    Proj4.frame_kernel, fun m ρ _ => Proj4.frame m ρ, Proj4.frame_ref,
    fun m ρ _ => Cert.Kernel5.Gen.frame m ρ, fun m ρ _ => Cert.Kernel5Ideal.Gen.frame m ρ, Mix.frame_ref,
    fun m ρ _ => Cert.Kernel6.Gen.frame m ρ, fun m ρ _ => Cert.Kernel6Ideal.Gen.frame m ρ, MemAtt.frame_ref,
    trivial, Moba.equation, trivial, Proj2.equation, trivial, Proj3.equation, trivial, Proj4.equation,
    trivial, Mix.equation, trivial, MemAtt.equation⟩⟩

end Cert.Proof

end
